-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_solid_boxes [hPre_solid_boxes : Cert.Pre_solid_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_solid_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_solid_boxes [hPre_solid_boxes : Cert.Pre_solid_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_solid_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_solid_boxes [hKernelIdeal : Cert.KernelIdeal.Facts] [hPre_solid_boxes : Cert.Pre_solid_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_solid_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_solid_boxes [hReferenceIdeal : Cert.ReferenceIdeal.Facts] [hPre_solid_boxes : Cert.Pre_solid_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_solid_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_solid_boxes [hKernelIdeal : Cert.KernelIdeal.Facts] [hReferenceIdeal : Cert.ReferenceIdeal.Facts] [hPre_solid_boxes : Cert.Pre_solid_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_solid_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1044) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_solid_boxes : Cert.Pre_solid_boxes.Facts),
    quiescent_Kernel (hKernel := hKernel)
    ∧ quiescent_KernelIdeal (hKernelIdeal := hKernelIdeal)
    ∧ quiescent_KernelIdeal_pre_solid_boxes (hKernelIdeal := hKernelIdeal) (hPre_solid_boxes := hPre_solid_boxes)
    ∧ quiescent_ReferenceIdeal (hReferenceIdeal := hReferenceIdeal)
    ∧ quiescent_ReferenceIdeal_pre_solid_boxes (hReferenceIdeal := hReferenceIdeal) (hPre_solid_boxes := hPre_solid_boxes)
    ∧ preserves_Kernel_KernelIdeal
    ∧ algebraic_KernelIdeal_ReferenceIdeal_pre_solid_boxes (hKernelIdeal := hKernelIdeal) (hReferenceIdeal := hReferenceIdeal) (hPre_solid_boxes := hPre_solid_boxes)
-- ==== Pre_solid_boxes.lean ====
abbrev S131072x7 : Shape := ⟨2, ![131072, 7]⟩
abbrev S131072x1 : Shape := ⟨2, ![131072, 1]⟩
abbrev S131072 : Shape := ⟨1, ![131072]⟩
abbrev S_ : Shape := ⟨0, ![]⟩

class Facts : Prop where
  slices_S131072x7_S131072x1_0_0 : S131072x7.Slices ![0, 0] S131072x1
  shapeCasts_S131072x1_S131072 : S131072x1.ShapeCasts S131072
  slices_S131072x7_S131072x1_0_1 : S131072x7.Slices ![0, 1] S131072x1
  slices_S131072x7_S131072x1_0_4 : S131072x7.Slices ![0, 4] S131072x1
  slices_S131072x7_S131072x1_0_5 : S131072x7.Slices ![0, 5] S131072x1
  slices_S131072x7_S131072x1_0_6 : S131072x7.Slices ![0, 6] S131072x1
  bcast_S_S131072 : S_.BroadcastsInDim S131072 (![] : Fin 0 → Fin S131072.rank)

variable [Facts]

def fn_part3 {F : FTy → Type} [FloatOps F] (main_v32 : IVec S131072 1) (main_v38 : FVec F S131072 .f32) (main_v40 : FVec F S131072 .f32) (main_v57 : IVec S131072 1) (main_v60 : IVec S131072 1) : IVec S131072 1 :=
  let main_v61 : IVec S131072 1 := andi main_v60 main_v57
  let main_v62 : FVec F S131072 .f32 := mulf main_v38 main_v40
  let main_cst_10 : FVec F S_ .f32 := constant S_ .f32 0x37A7C5AC#32
  let main_v63 : FVec F S131072 .f32 := broadcastInDim S131072 ![] bcast_S_S131072 main_cst_10
  let main_v64 : IVec S131072 1 := cmpf .ogt main_v62 main_v63
  let main_v65 : IVec S131072 1 := andi main_v61 main_v64
  let main_v66 : IVec S131072 1 := andi main_v32 main_v65
  main_v66

def fn_part2 {F : FTy → Type} [FloatOps F] (main_v32 : IVec S131072 1) (main_v34 : FVec F S131072 .f32) (main_v36 : FVec F S131072 .f32) (main_v38 : FVec F S131072 .f32) (main_v40 : FVec F S131072 .f32) (main_v41 : FVec F S131072x1 .f32) : IVec S131072 1 :=
  let main_v42 : FVec F S131072 .f32 := shapeCast S131072 main_v41 shapeCasts_S131072x1_S131072
  let main_v43 : FVec F S131072 .f32 := Host.absf main_v34
  let main_cst_5 : FVec F S_ .f32 := constant S_ .f32 0x7F800000#32
  let main_v44 : FVec F S131072 .f32 := broadcastInDim S131072 ![] bcast_S_S131072 main_cst_5
  let main_v45 : IVec S131072 1 := cmpf .olt main_v43 main_v44
  let main_v46 : FVec F S131072 .f32 := Host.absf main_v36
  let main_cst_6 : FVec F S_ .f32 := constant S_ .f32 0x7F800000#32
  let main_v47 : FVec F S131072 .f32 := broadcastInDim S131072 ![] bcast_S_S131072 main_cst_6
  let main_v48 : IVec S131072 1 := cmpf .olt main_v46 main_v47
  let main_v49 : FVec F S131072 .f32 := Host.absf main_v38
  let main_cst_7 : FVec F S_ .f32 := constant S_ .f32 0x7F800000#32
  let main_v50 : FVec F S131072 .f32 := broadcastInDim S131072 ![] bcast_S_S131072 main_cst_7
  let main_v51 : IVec S131072 1 := cmpf .olt main_v49 main_v50
  let main_v52 : FVec F S131072 .f32 := Host.absf main_v40
  let main_cst_8 : FVec F S_ .f32 := constant S_ .f32 0x7F800000#32
  let main_v53 : FVec F S131072 .f32 := broadcastInDim S131072 ![] bcast_S_S131072 main_cst_8
  let main_v54 : IVec S131072 1 := cmpf .olt main_v52 main_v53
  let main_v55 : FVec F S131072 .f32 := Host.absf main_v42
  let main_cst_9 : FVec F S_ .f32 := constant S_ .f32 0x7F800000#32
  let main_v56 : FVec F S131072 .f32 := broadcastInDim S131072 ![] bcast_S_S131072 main_cst_9
  let main_v57 : IVec S131072 1 := cmpf .olt main_v55 main_v56
  let main_v58 : IVec S131072 1 := andi main_v45 main_v48
  let main_v59 : IVec S131072 1 := andi main_v58 main_v51
  let main_v60 : IVec S131072 1 := andi main_v59 main_v54
  fn_part3 (F := F) main_v32 main_v38 main_v40 main_v57 main_v60

def fn_part1 {F : FTy → Type} [FloatOps F] (main_arg1 : FVec F S131072x7 .f32) (main_v5 : FVec F S131072 .f32) (main_v7 : FVec F S131072 .f32) (main_v9 : FVec F S131072 .f32) (main_v12 : IVec S131072 1) (main_v15 : IVec S131072 1) (main_v18 : IVec S131072 1) (main_v19 : FVec F S131072 .f32) (main_cst_2 : FVec F S_ .f32) : IVec S131072 1 :=
  let main_v20 : FVec F S131072 .f32 := broadcastInDim S131072 ![] bcast_S_S131072 main_cst_2
  let main_v21 : IVec S131072 1 := cmpf .olt main_v19 main_v20
  let main_v22 : FVec F S131072 .f32 := Host.absf main_v9
  let main_cst_3 : FVec F S_ .f32 := constant S_ .f32 0x7F800000#32
  let main_v23 : FVec F S131072 .f32 := broadcastInDim S131072 ![] bcast_S_S131072 main_cst_3
  let main_v24 : IVec S131072 1 := cmpf .olt main_v22 main_v23
  let main_v25 : IVec S131072 1 := andi main_v12 main_v15
  let main_v26 : IVec S131072 1 := andi main_v25 main_v18
  let main_v27 : IVec S131072 1 := andi main_v26 main_v21
  let main_v28 : IVec S131072 1 := andi main_v27 main_v24
  let main_v29 : FVec F S131072 .f32 := mulf main_v5 main_v7
  let main_cst_4 : FVec F S_ .f32 := constant S_ .f32 0x37A7C5AC#32
  let main_v30 : FVec F S131072 .f32 := broadcastInDim S131072 ![] bcast_S_S131072 main_cst_4
  let main_v31 : IVec S131072 1 := cmpf .ogt main_v29 main_v30
  let main_v32 : IVec S131072 1 := andi main_v28 main_v31
  let main_v33 : FVec F S131072x1 .f32 := (extractStridedSlice S131072x1 ![0, 0] · slices_S131072x7_S131072x1_0_0) main_arg1
  let main_v34 : FVec F S131072 .f32 := shapeCast S131072 main_v33 shapeCasts_S131072x1_S131072
  let main_v35 : FVec F S131072x1 .f32 := (extractStridedSlice S131072x1 ![0, 1] · slices_S131072x7_S131072x1_0_1) main_arg1
  let main_v36 : FVec F S131072 .f32 := shapeCast S131072 main_v35 shapeCasts_S131072x1_S131072
  let main_v37 : FVec F S131072x1 .f32 := (extractStridedSlice S131072x1 ![0, 4] · slices_S131072x7_S131072x1_0_4) main_arg1
  let main_v38 : FVec F S131072 .f32 := shapeCast S131072 main_v37 shapeCasts_S131072x1_S131072
  let main_v39 : FVec F S131072x1 .f32 := (extractStridedSlice S131072x1 ![0, 5] · slices_S131072x7_S131072x1_0_5) main_arg1
  let main_v40 : FVec F S131072 .f32 := shapeCast S131072 main_v39 shapeCasts_S131072x1_S131072
  let main_v41 : FVec F S131072x1 .f32 := (extractStridedSlice S131072x1 ![0, 6] · slices_S131072x7_S131072x1_0_6) main_arg1
  fn_part2 (F := F) main_v32 main_v34 main_v36 main_v38 main_v40 main_v41

def fn {F : FTy → Type} [FloatOps F] (main_arg0 : FVec F S131072x7 .f32) (main_arg1 : FVec F S131072x7 .f32) : IVec S131072 1 :=
  let main_v0 : FVec F S131072x1 .f32 := (extractStridedSlice S131072x1 ![0, 0] · slices_S131072x7_S131072x1_0_0) main_arg0
  let main_v1 : FVec F S131072 .f32 := shapeCast S131072 main_v0 shapeCasts_S131072x1_S131072
  let main_v2 : FVec F S131072x1 .f32 := (extractStridedSlice S131072x1 ![0, 1] · slices_S131072x7_S131072x1_0_1) main_arg0
  let main_v3 : FVec F S131072 .f32 := shapeCast S131072 main_v2 shapeCasts_S131072x1_S131072
  let main_v4 : FVec F S131072x1 .f32 := (extractStridedSlice S131072x1 ![0, 4] · slices_S131072x7_S131072x1_0_4) main_arg0
  let main_v5 : FVec F S131072 .f32 := shapeCast S131072 main_v4 shapeCasts_S131072x1_S131072
  let main_v6 : FVec F S131072x1 .f32 := (extractStridedSlice S131072x1 ![0, 5] · slices_S131072x7_S131072x1_0_5) main_arg0
  let main_v7 : FVec F S131072 .f32 := shapeCast S131072 main_v6 shapeCasts_S131072x1_S131072
  let main_v8 : FVec F S131072x1 .f32 := (extractStridedSlice S131072x1 ![0, 6] · slices_S131072x7_S131072x1_0_6) main_arg0
  let main_v9 : FVec F S131072 .f32 := shapeCast S131072 main_v8 shapeCasts_S131072x1_S131072
  let main_v10 : FVec F S131072 .f32 := Host.absf main_v1
  let main_cst : FVec F S_ .f32 := constant S_ .f32 0x7F800000#32
  let main_v11 : FVec F S131072 .f32 := broadcastInDim S131072 ![] bcast_S_S131072 main_cst
  let main_v12 : IVec S131072 1 := cmpf .olt main_v10 main_v11
  let main_v13 : FVec F S131072 .f32 := Host.absf main_v3
  let main_cst_0 : FVec F S_ .f32 := constant S_ .f32 0x7F800000#32
  let main_v14 : FVec F S131072 .f32 := broadcastInDim S131072 ![] bcast_S_S131072 main_cst_0
  let main_v15 : IVec S131072 1 := cmpf .olt main_v13 main_v14
  let main_v16 : FVec F S131072 .f32 := Host.absf main_v5
  let main_cst_1 : FVec F S_ .f32 := constant S_ .f32 0x7F800000#32
  let main_v17 : FVec F S131072 .f32 := broadcastInDim S131072 ![] bcast_S_S131072 main_cst_1
  let main_v18 : IVec S131072 1 := cmpf .olt main_v16 main_v17
  let main_v19 : FVec F S131072 .f32 := Host.absf main_v7
  let main_cst_2 : FVec F S_ .f32 := constant S_ .f32 0x7F800000#32
  fn_part1 (F := F) main_arg1 main_v5 main_v7 main_v9 main_v12 main_v15 main_v18 main_v19 main_cst_2
-- ==== Kernel.lean ====
abbrev S131072x7 : Shape := ⟨2, ![131072, 7]⟩
abbrev S7x131072 : Shape := ⟨2, ![7, 131072]⟩
abbrev S7x1024x128 : Shape := ⟨3, ![7, 1024, 128]⟩
abbrev S32x1x128 : Shape := ⟨3, ![32, 1, 128]⟩
abbrev S7x32x128 : Shape := ⟨3, ![7, 32, 128]⟩
abbrev S1x1x128 : Shape := ⟨3, ![1, 1, 128]⟩
abbrev S1 : Shape := ⟨1, ![1]⟩
abbrev S1x32x128 : Shape := ⟨3, ![1, 32, 128]⟩
abbrev S32x128 : Shape := ⟨2, ![32, 128]⟩
abbrev S128 : Shape := ⟨1, ![128]⟩
abbrev S1x128 : Shape := ⟨2, ![1, 128]⟩
abbrev S_ : Shape := ⟨0, ![]⟩

abbrev nBuf : Space → Nat
  | .hbm => 12
  | .vmem => 6
  | .smem => 1
  | _ => 0

abbrev bufTy : (tb : Table) → Fin (tcTables nBuf tb) → BufTy
  | .hbm, ⟨0, _⟩ => ⟨S131072x7, .f32⟩
  | .hbm, ⟨1, _⟩ => ⟨S131072x7, .f32⟩
  | .hbm, ⟨2, _⟩ => ⟨S7x131072, .f32⟩
  | .hbm, ⟨3, _⟩ => ⟨S7x1024x128, .f32⟩
  | .hbm, ⟨4, _⟩ => ⟨S7x131072, .f32⟩
  | .hbm, ⟨5, _⟩ => ⟨S7x1024x128, .f32⟩
  | .hbm, ⟨6, _⟩ => ⟨S32x1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .local _ .vmem, ⟨0, _⟩ => ⟨S7x32x128, .f32⟩
  | .local _ .vmem, ⟨1, _⟩ => ⟨S7x32x128, .f32⟩
  | .local _ .vmem, ⟨2, _⟩ => ⟨S7x32x128, .f32⟩
  | .local _ .vmem, ⟨3, _⟩ => ⟨S7x32x128, .f32⟩
  | .local _ .vmem, ⟨4, _⟩ => ⟨S1x1x128, .f32⟩
  | .local _ .vmem, ⟨5, _⟩ => ⟨S1x1x128, .f32⟩
  | .local _ .smem, ⟨0, _⟩ => ⟨S1, .i32⟩
  | _, _ => ⟨S131072x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S131072x7 : Shape := ⟨2, ![131072, 7]⟩
abbrev S131072x1 : Shape := ⟨2, ![131072, 1]⟩
abbrev S131072 : Shape := ⟨1, ![131072]⟩
abbrev S_ : Shape := ⟨0, ![]⟩
abbrev S4 : Shape := ⟨1, ![4]⟩
abbrev S1x4 : Shape := ⟨2, ![1, 4]⟩
abbrev S131072x4 : Shape := ⟨2, ![131072, 4]⟩
abbrev S131072x8 : Shape := ⟨2, ![131072, 8]⟩
abbrev S8 : Shape := ⟨1, ![8]⟩
abbrev S1x8 : Shape := ⟨2, ![1, 8]⟩
abbrev S131072x8x1 : Shape := ⟨3, ![131072, 8, 1]⟩
abbrev S131072x9 : Shape := ⟨2, ![131072, 9]⟩
abbrev S131072x8x2 : Shape := ⟨3, ![131072, 8, 2]⟩
abbrev S131072x1x8 : Shape := ⟨3, ![131072, 1, 8]⟩
abbrev S131072x8x8 : Shape := ⟨3, ![131072, 8, 8]⟩
abbrev S131072x8x8x1 : Shape := ⟨4, ![131072, 8, 8, 1]⟩
abbrev S131072x8x1x8 : Shape := ⟨4, ![131072, 8, 1, 8]⟩
abbrev S131072x8x8x8 : Shape := ⟨4, ![131072, 8, 8, 8]⟩
abbrev S8x8 : Shape := ⟨2, ![8, 8]⟩
abbrev S1x8x8 : Shape := ⟨3, ![1, 8, 8]⟩
abbrev S1 : Shape := ⟨1, ![1]⟩

abbrev nBuf : Space → Nat
  | .hbm => 1403
  | .vmem => 0
  | .smem => 0
  | _ => 0

abbrev hbmTy0_0 (i : Nat) : BufTy := match i % 128 with
  | 0 => ⟨S131072x7, .f32⟩
  | 1 => ⟨S131072x7, .f32⟩
  | 2 => ⟨S131072x1, .f32⟩
  | 3 => ⟨S131072, .f32⟩
  | 4 => ⟨S131072x1, .f32⟩
  | 5 => ⟨S131072, .f32⟩
  | 6 => ⟨S131072x1, .f32⟩
  | 7 => ⟨S131072, .f32⟩
  | 8 => ⟨S131072x1, .f32⟩
  | 9 => ⟨S131072, .f32⟩
  | 10 => ⟨S131072x1, .f32⟩
  | 11 => ⟨S131072, .f32⟩
  | 12 => ⟨S131072x1, .f32⟩
  | 13 => ⟨S131072, .f32⟩
  | 14 => ⟨S131072x1, .f32⟩
  | 15 => ⟨S131072, .f32⟩
  | 16 => ⟨S131072x1, .f32⟩
  | 17 => ⟨S131072, .f32⟩
  | 18 => ⟨S131072x1, .f32⟩
  | 19 => ⟨S131072, .f32⟩
  | 20 => ⟨S131072x1, .f32⟩
  | 21 => ⟨S131072, .f32⟩
  | 22 => ⟨S131072x1, .f32⟩
  | 23 => ⟨S131072, .f32⟩
  | 24 => ⟨S131072x1, .f32⟩
  | 25 => ⟨S131072, .f32⟩
  | 26 => ⟨S131072x1, .f32⟩
  | 27 => ⟨S131072, .f32⟩
  | 28 => ⟨S131072x1, .f32⟩
  | 29 => ⟨S131072, .f32⟩
  | 30 => ⟨S_, .f32⟩
  | 31 => ⟨S131072, .f32⟩
  | 32 => ⟨S131072, .f32⟩
  | 33 => ⟨S131072, .f32⟩
  | 34 => ⟨S131072, .i32⟩
  | 35 => ⟨S131072, .f32⟩
  | 36 => ⟨S_, .f32⟩
  | 37 => ⟨S131072, .f32⟩
  | 38 => ⟨S131072, .f32⟩
  | 39 => ⟨S_, .f32⟩
  | 40 => ⟨S131072, .f32⟩
  | 41 => ⟨S131072, .f32⟩
  | 42 => ⟨S131072, .f32⟩
  | 43 => ⟨S131072, .f32⟩
  | 44 => ⟨S131072, .f32⟩
  | 45 => ⟨S131072, .f32⟩
  | 46 => ⟨S_, .f32⟩
  | 47 => ⟨S131072, .f32⟩
  | 48 => ⟨S131072, .f32⟩
  | 49 => ⟨S131072, .f32⟩
  | 50 => ⟨S131072, .f32⟩
  | 51 => ⟨S131072, .f32⟩
  | 52 => ⟨S131072, .f32⟩
  | 53 => ⟨S_, .f32⟩
  | 54 => ⟨S131072, .f32⟩
  | 55 => ⟨S131072, .f32⟩
  | 56 => ⟨S131072, .f32⟩
  | 57 => ⟨S131072, .f32⟩
  | 58 => ⟨S131072, .f32⟩
  | 59 => ⟨S131072, .f32⟩
  | 60 => ⟨S131072, .f32⟩
  | 61 => ⟨S_, .f32⟩
  | 62 => ⟨S131072, .f32⟩
  | 63 => ⟨S131072, .f32⟩
  | 64 => ⟨S131072, .f32⟩
  | 65 => ⟨S131072, .f32⟩
  | 66 => ⟨S_, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072, .f32⟩
  | 73 => ⟨S131072, .f32⟩
  | 74 => ⟨S_, .f32⟩
  | 75 => ⟨S131072, .f32⟩
  | 76 => ⟨S131072, .f32⟩
  | 77 => ⟨S131072, .f32⟩
  | 78 => ⟨S131072, .f32⟩
  | 79 => ⟨S131072, .f32⟩
  | 80 => ⟨S131072, .f32⟩
  | 81 => ⟨S_, .f32⟩
  | 82 => ⟨S131072, .f32⟩
  | 83 => ⟨S131072, .f32⟩
  | 84 => ⟨S131072, .f32⟩
  | 85 => ⟨S131072, .f32⟩
  | 86 => ⟨S131072, .f32⟩
  | 87 => ⟨S131072, .f32⟩
  | 88 => ⟨S_, .f32⟩
  | 89 => ⟨S131072, .f32⟩
  | 90 => ⟨S131072, .f32⟩
  | 91 => ⟨S131072, .f32⟩
  | 92 => ⟨S_, .i32⟩
  | 93 => ⟨S131072, .i32⟩
  | 94 => ⟨S131072, .i32⟩
  | 95 => ⟨S131072, .f32⟩
  | 96 => ⟨S131072, .f32⟩
  | 97 => ⟨S_, .i32⟩
  | 98 => ⟨S131072, .i32⟩
  | 99 => ⟨S131072, .i1⟩
  | 100 => ⟨S_, .i32⟩
  | 101 => ⟨S131072, .i32⟩
  | 102 => ⟨S131072, .i1⟩
  | 103 => ⟨S_, .i32⟩
  | 104 => ⟨S131072, .i32⟩
  | 105 => ⟨S131072, .i1⟩
  | 106 => ⟨S131072, .f32⟩
  | 107 => ⟨S131072, .f32⟩
  | 108 => ⟨S131072, .f32⟩
  | 109 => ⟨S131072, .f32⟩
  | 110 => ⟨S131072, .f32⟩
  | 111 => ⟨S_, .i32⟩
  | 112 => ⟨S131072, .i32⟩
  | 113 => ⟨S131072, .i1⟩
  | 114 => ⟨S_, .i32⟩
  | 115 => ⟨S131072, .i32⟩
  | 116 => ⟨S131072, .i1⟩
  | 117 => ⟨S_, .i32⟩
  | 118 => ⟨S131072, .i32⟩
  | 119 => ⟨S131072, .i1⟩
  | 120 => ⟨S131072, .f32⟩
  | 121 => ⟨S131072, .f32⟩
  | 122 => ⟨S131072, .f32⟩
  | 123 => ⟨S4, .i32⟩
  | 124 => ⟨S_, .i32⟩
  | 125 => ⟨S4, .i32⟩
  | 126 => ⟨S4, .i1⟩
  | 127 => ⟨S_, .i32⟩
  | _ => ⟨S131072x7, .f32⟩

abbrev hbmTy0_1 (i : Nat) : BufTy := match i % 128 with
  | 0 => ⟨S4, .i32⟩
  | 1 => ⟨S4, .i1⟩
  | 2 => ⟨S4, .i1⟩
  | 3 => ⟨S_, .f32⟩
  | 4 => ⟨S_, .f32⟩
  | 5 => ⟨S4, .f32⟩
  | 6 => ⟨S4, .f32⟩
  | 7 => ⟨S4, .f32⟩
  | 8 => ⟨S_, .i32⟩
  | 9 => ⟨S4, .i32⟩
  | 10 => ⟨S4, .i1⟩
  | 11 => ⟨S_, .f32⟩
  | 12 => ⟨S_, .f32⟩
  | 13 => ⟨S4, .f32⟩
  | 14 => ⟨S4, .f32⟩
  | 15 => ⟨S4, .f32⟩
  | 16 => ⟨S_, .f32⟩
  | 17 => ⟨S131072, .f32⟩
  | 18 => ⟨S131072, .f32⟩
  | 19 => ⟨S131072x1, .f32⟩
  | 20 => ⟨S4, .f32⟩
  | 21 => ⟨S1x4, .f32⟩
  | 22 => ⟨S131072x4, .f32⟩
  | 23 => ⟨S131072x4, .f32⟩
  | 24 => ⟨S131072x4, .f32⟩
  | 25 => ⟨S_, .f32⟩
  | 26 => ⟨S131072, .f32⟩
  | 27 => ⟨S131072, .f32⟩
  | 28 => ⟨S131072x1, .f32⟩
  | 29 => ⟨S4, .f32⟩
  | 30 => ⟨S1x4, .f32⟩
  | 31 => ⟨S131072x4, .f32⟩
  | 32 => ⟨S131072x4, .f32⟩
  | 33 => ⟨S131072x4, .f32⟩
  | 34 => ⟨S131072x1, .f32⟩
  | 35 => ⟨S131072x1, .f32⟩
  | 36 => ⟨S131072x4, .f32⟩
  | 37 => ⟨S131072x4, .f32⟩
  | 38 => ⟨S131072x4, .f32⟩
  | 39 => ⟨S131072x4, .f32⟩
  | 40 => ⟨S131072x1, .f32⟩
  | 41 => ⟨S131072x4, .f32⟩
  | 42 => ⟨S131072x4, .f32⟩
  | 43 => ⟨S131072x4, .f32⟩
  | 44 => ⟨S131072x1, .f32⟩
  | 45 => ⟨S131072x1, .f32⟩
  | 46 => ⟨S131072x4, .f32⟩
  | 47 => ⟨S131072x4, .f32⟩
  | 48 => ⟨S131072x4, .f32⟩
  | 49 => ⟨S131072x4, .f32⟩
  | 50 => ⟨S131072x1, .f32⟩
  | 51 => ⟨S131072x4, .f32⟩
  | 52 => ⟨S131072x4, .f32⟩
  | 53 => ⟨S131072x4, .f32⟩
  | 54 => ⟨S_, .f32⟩
  | 55 => ⟨S131072, .f32⟩
  | 56 => ⟨S131072, .f32⟩
  | 57 => ⟨S131072, .f32⟩
  | 58 => ⟨S131072, .i32⟩
  | 59 => ⟨S131072, .f32⟩
  | 60 => ⟨S_, .f32⟩
  | 61 => ⟨S131072, .f32⟩
  | 62 => ⟨S131072, .f32⟩
  | 63 => ⟨S_, .f32⟩
  | 64 => ⟨S131072, .f32⟩
  | 65 => ⟨S131072, .f32⟩
  | 66 => ⟨S131072, .f32⟩
  | 67 => ⟨S131072, .f32⟩
  | 68 => ⟨S131072, .f32⟩
  | 69 => ⟨S131072, .f32⟩
  | 70 => ⟨S_, .f32⟩
  | 71 => ⟨S131072, .f32⟩
  | 72 => ⟨S131072, .f32⟩
  | 73 => ⟨S131072, .f32⟩
  | 74 => ⟨S131072, .f32⟩
  | 75 => ⟨S131072, .f32⟩
  | 76 => ⟨S131072, .f32⟩
  | 77 => ⟨S_, .f32⟩
  | 78 => ⟨S131072, .f32⟩
  | 79 => ⟨S131072, .f32⟩
  | 80 => ⟨S131072, .f32⟩
  | 81 => ⟨S131072, .f32⟩
  | 82 => ⟨S131072, .f32⟩
  | 83 => ⟨S131072, .f32⟩
  | 84 => ⟨S131072, .f32⟩
  | 85 => ⟨S_, .f32⟩
  | 86 => ⟨S131072, .f32⟩
  | 87 => ⟨S131072, .f32⟩
  | 88 => ⟨S131072, .f32⟩
  | 89 => ⟨S131072, .f32⟩
  | 90 => ⟨S_, .f32⟩
  | 91 => ⟨S131072, .f32⟩
  | 92 => ⟨S131072, .f32⟩
  | 93 => ⟨S_, .f32⟩
  | 94 => ⟨S131072, .f32⟩
  | 95 => ⟨S131072, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072, .f32⟩
  | 102 => ⟨S131072, .f32⟩
  | 103 => ⟨S131072, .f32⟩
  | 104 => ⟨S131072, .f32⟩
  | 105 => ⟨S_, .f32⟩
  | 106 => ⟨S131072, .f32⟩
  | 107 => ⟨S131072, .f32⟩
  | 108 => ⟨S131072, .f32⟩
  | 109 => ⟨S131072, .f32⟩
  | 110 => ⟨S131072, .f32⟩
  | 111 => ⟨S131072, .f32⟩
  | 112 => ⟨S_, .f32⟩
  | 113 => ⟨S131072, .f32⟩
  | 114 => ⟨S131072, .f32⟩
  | 115 => ⟨S131072, .f32⟩
  | 116 => ⟨S_, .i32⟩
  | 117 => ⟨S131072, .i32⟩
  | 118 => ⟨S131072, .i32⟩
  | 119 => ⟨S131072, .f32⟩
  | 120 => ⟨S131072, .f32⟩
  | 121 => ⟨S_, .i32⟩
  | 122 => ⟨S131072, .i32⟩
  | 123 => ⟨S131072, .i1⟩
  | 124 => ⟨S_, .i32⟩
  | 125 => ⟨S131072, .i32⟩
  | 126 => ⟨S131072, .i1⟩
  | 127 => ⟨S_, .i32⟩
  | _ => ⟨S131072x7, .f32⟩

abbrev hbmTy0_2 (i : Nat) : BufTy := match i % 128 with
  | 0 => ⟨S131072, .i32⟩
  | 1 => ⟨S131072, .i1⟩
  | 2 => ⟨S131072, .f32⟩
  | 3 => ⟨S131072, .f32⟩
  | 4 => ⟨S131072, .f32⟩
  | 5 => ⟨S131072, .f32⟩
  | 6 => ⟨S131072, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i1⟩
  | 13 => ⟨S_, .i32⟩
  | 14 => ⟨S131072, .i32⟩
  | 15 => ⟨S131072, .i1⟩
  | 16 => ⟨S131072, .f32⟩
  | 17 => ⟨S131072, .f32⟩
  | 18 => ⟨S131072, .f32⟩
  | 19 => ⟨S4, .i32⟩
  | 20 => ⟨S_, .i32⟩
  | 21 => ⟨S4, .i32⟩
  | 22 => ⟨S4, .i1⟩
  | 23 => ⟨S_, .i32⟩
  | 24 => ⟨S4, .i32⟩
  | 25 => ⟨S4, .i1⟩
  | 26 => ⟨S4, .i1⟩
  | 27 => ⟨S_, .f32⟩
  | 28 => ⟨S_, .f32⟩
  | 29 => ⟨S4, .f32⟩
  | 30 => ⟨S4, .f32⟩
  | 31 => ⟨S4, .f32⟩
  | 32 => ⟨S_, .i32⟩
  | 33 => ⟨S4, .i32⟩
  | 34 => ⟨S4, .i1⟩
  | 35 => ⟨S_, .f32⟩
  | 36 => ⟨S_, .f32⟩
  | 37 => ⟨S4, .f32⟩
  | 38 => ⟨S4, .f32⟩
  | 39 => ⟨S4, .f32⟩
  | 40 => ⟨S_, .f32⟩
  | 41 => ⟨S131072, .f32⟩
  | 42 => ⟨S131072, .f32⟩
  | 43 => ⟨S131072x1, .f32⟩
  | 44 => ⟨S4, .f32⟩
  | 45 => ⟨S1x4, .f32⟩
  | 46 => ⟨S131072x4, .f32⟩
  | 47 => ⟨S131072x4, .f32⟩
  | 48 => ⟨S131072x4, .f32⟩
  | 49 => ⟨S_, .f32⟩
  | 50 => ⟨S131072, .f32⟩
  | 51 => ⟨S131072, .f32⟩
  | 52 => ⟨S131072x1, .f32⟩
  | 53 => ⟨S4, .f32⟩
  | 54 => ⟨S1x4, .f32⟩
  | 55 => ⟨S131072x4, .f32⟩
  | 56 => ⟨S131072x4, .f32⟩
  | 57 => ⟨S131072x4, .f32⟩
  | 58 => ⟨S131072x1, .f32⟩
  | 59 => ⟨S131072x1, .f32⟩
  | 60 => ⟨S131072x4, .f32⟩
  | 61 => ⟨S131072x4, .f32⟩
  | 62 => ⟨S131072x4, .f32⟩
  | 63 => ⟨S131072x4, .f32⟩
  | 64 => ⟨S131072x1, .f32⟩
  | 65 => ⟨S131072x4, .f32⟩
  | 66 => ⟨S131072x4, .f32⟩
  | 67 => ⟨S131072x4, .f32⟩
  | 68 => ⟨S131072x1, .f32⟩
  | 69 => ⟨S131072x1, .f32⟩
  | 70 => ⟨S131072x4, .f32⟩
  | 71 => ⟨S131072x4, .f32⟩
  | 72 => ⟨S131072x4, .f32⟩
  | 73 => ⟨S131072x4, .f32⟩
  | 74 => ⟨S131072x1, .f32⟩
  | 75 => ⟨S131072x4, .f32⟩
  | 76 => ⟨S131072x4, .f32⟩
  | 77 => ⟨S131072x4, .f32⟩
  | 78 => ⟨S_, .f32⟩
  | 79 => ⟨S131072x4, .f32⟩
  | 80 => ⟨S131072x8, .f32⟩
  | 81 => ⟨S131072x8, .f32⟩
  | 82 => ⟨S_, .i32⟩
  | 83 => ⟨S131072, .i32⟩
  | 84 => ⟨S131072x1, .f32⟩
  | 85 => ⟨S131072, .f32⟩
  | 86 => ⟨S131072x1, .f32⟩
  | 87 => ⟨S131072, .f32⟩
  | 88 => ⟨S131072x1, .f32⟩
  | 89 => ⟨S131072, .f32⟩
  | 90 => ⟨S131072x1, .f32⟩
  | 91 => ⟨S131072, .f32⟩
  | 92 => ⟨S8, .i32⟩
  | 93 => ⟨S1x8, .i32⟩
  | 94 => ⟨S131072x1, .i32⟩
  | 95 => ⟨S131072x8, .i32⟩
  | 96 => ⟨S131072x8, .i32⟩
  | 97 => ⟨S131072x8, .i1⟩
  | 98 => ⟨S8, .i32⟩
  | 99 => ⟨S1x8, .i32⟩
  | 100 => ⟨S_, .i32⟩
  | 101 => ⟨S1x8, .i32⟩
  | 102 => ⟨S1x8, .i32⟩
  | 103 => ⟨S131072x1, .i32⟩
  | 104 => ⟨S131072x8, .i32⟩
  | 105 => ⟨S131072x8, .i32⟩
  | 106 => ⟨S131072x8, .i1⟩
  | 107 => ⟨S1x8, .i32⟩
  | 108 => ⟨S_, .i32⟩
  | 109 => ⟨S1x8, .i32⟩
  | 110 => ⟨S1x8, .i32⟩
  | 111 => ⟨S_, .i32⟩
  | 112 => ⟨S_, .i32⟩
  | 113 => ⟨S131072x8, .i32⟩
  | 114 => ⟨S131072x8, .i32⟩
  | 115 => ⟨S131072x8, .i32⟩
  | 116 => ⟨S_, .i32⟩
  | 117 => ⟨S131072x8, .i32⟩
  | 118 => ⟨S131072x8, .i1⟩
  | 119 => ⟨S_, .i32⟩
  | 120 => ⟨S131072x8, .i32⟩
  | 121 => ⟨S131072x8, .i32⟩
  | 122 => ⟨S131072x8, .i32⟩
  | 123 => ⟨S131072x8x1, .i32⟩
  | 124 => ⟨S131072x8, .f32⟩
  | 125 => ⟨S8, .i32⟩
  | 126 => ⟨S1x8, .i32⟩
  | 127 => ⟨S_, .i32⟩
  | _ => ⟨S131072x7, .f32⟩

abbrev hbmTy0_3 (i : Nat) : BufTy := match i % 128 with
  | 0 => ⟨S1x8, .i32⟩
  | 1 => ⟨S1x8, .i32⟩
  | 2 => ⟨S131072x1, .i32⟩
  | 3 => ⟨S131072x8, .i32⟩
  | 4 => ⟨S131072x8, .i32⟩
  | 5 => ⟨S131072x8, .i1⟩
  | 6 => ⟨S1x8, .i32⟩
  | 7 => ⟨S_, .i32⟩
  | 8 => ⟨S1x8, .i32⟩
  | 9 => ⟨S1x8, .i32⟩
  | 10 => ⟨S_, .i32⟩
  | 11 => ⟨S_, .i32⟩
  | 12 => ⟨S131072x8, .i32⟩
  | 13 => ⟨S131072x8, .i32⟩
  | 14 => ⟨S131072x8, .i32⟩
  | 15 => ⟨S_, .i32⟩
  | 16 => ⟨S131072x8, .i32⟩
  | 17 => ⟨S131072x8, .i1⟩
  | 18 => ⟨S_, .i32⟩
  | 19 => ⟨S131072x8, .i32⟩
  | 20 => ⟨S131072x8, .i32⟩
  | 21 => ⟨S131072x8, .i32⟩
  | 22 => ⟨S131072x8x1, .i32⟩
  | 23 => ⟨S131072x8, .f32⟩
  | 24 => ⟨S131072, .f32⟩
  | 25 => ⟨S131072x1, .f32⟩
  | 26 => ⟨S131072, .f32⟩
  | 27 => ⟨S131072x1, .f32⟩
  | 28 => ⟨S131072x1, .f32⟩
  | 29 => ⟨S131072x8, .f32⟩
  | 30 => ⟨S131072x8, .f32⟩
  | 31 => ⟨S131072x8, .f32⟩
  | 32 => ⟨S131072x8, .f32⟩
  | 33 => ⟨S131072x1, .f32⟩
  | 34 => ⟨S131072x8, .f32⟩
  | 35 => ⟨S131072x8, .f32⟩
  | 36 => ⟨S131072x8, .f32⟩
  | 37 => ⟨S131072x8, .f32⟩
  | 38 => ⟨S131072x8, .f32⟩
  | 39 => ⟨S131072x1, .f32⟩
  | 40 => ⟨S131072x8, .f32⟩
  | 41 => ⟨S131072x8, .f32⟩
  | 42 => ⟨S131072x8, .f32⟩
  | 43 => ⟨S131072x8, .f32⟩
  | 44 => ⟨S131072x1, .f32⟩
  | 45 => ⟨S131072x8, .f32⟩
  | 46 => ⟨S131072x8, .f32⟩
  | 47 => ⟨S131072x8, .f32⟩
  | 48 => ⟨S131072x8, .f32⟩
  | 49 => ⟨S131072x8, .f32⟩
  | 50 => ⟨S_, .f32⟩
  | 51 => ⟨S131072x8, .f32⟩
  | 52 => ⟨S131072x8, .i1⟩
  | 53 => ⟨S_, .f32⟩
  | 54 => ⟨S131072x8, .f32⟩
  | 55 => ⟨S131072x8, .i1⟩
  | 56 => ⟨S131072x8, .f32⟩
  | 57 => ⟨S131072x8, .f32⟩
  | 58 => ⟨S_, .f32⟩
  | 59 => ⟨S131072x8, .f32⟩
  | 60 => ⟨S131072x8, .i1⟩
  | 61 => ⟨S_, .f32⟩
  | 62 => ⟨S_, .f32⟩
  | 63 => ⟨S131072x8, .f32⟩
  | 64 => ⟨S131072x8, .f32⟩
  | 65 => ⟨S131072x8, .f32⟩
  | 66 => ⟨S131072x8, .f32⟩
  | 67 => ⟨S131072x8, .f32⟩
  | 68 => ⟨S131072x8, .f32⟩
  | 69 => ⟨S131072x8, .f32⟩
  | 70 => ⟨S131072x8, .f32⟩
  | 71 => ⟨S131072x8, .f32⟩
  | 72 => ⟨S131072x8, .i1⟩
  | 73 => ⟨S131072x8, .i1⟩
  | 74 => ⟨S131072x8, .i1⟩
  | 75 => ⟨S131072x8, .i32⟩
  | 76 => ⟨S131072x8, .i32⟩
  | 77 => ⟨S131072x8, .i32⟩
  | 78 => ⟨S_, .i32⟩
  | 79 => ⟨S_, .i32⟩
  | 80 => ⟨S131072x8, .i32⟩
  | 81 => ⟨S131072x8, .i32⟩
  | 82 => ⟨S_, .i32⟩
  | 83 => ⟨S_, .i32⟩
  | 84 => ⟨S131072x8, .i32⟩
  | 85 => ⟨S131072x8, .i32⟩
  | 86 => ⟨S131072x8, .i32⟩
  | 87 => ⟨S_, .i32⟩
  | 88 => ⟨S_, .i32⟩
  | 89 => ⟨S131072x8, .i32⟩
  | 90 => ⟨S131072x8, .i32⟩
  | 91 => ⟨S131072, .i32⟩
  | 92 => ⟨S131072x1, .i32⟩
  | 93 => ⟨S_, .f32⟩
  | 94 => ⟨S131072x9, .f32⟩
  | 95 => ⟨S_, .i32⟩
  | 96 => ⟨S131072x1, .i32⟩
  | 97 => ⟨S131072x1, .i1⟩
  | 98 => ⟨S_, .i32⟩
  | 99 => ⟨S131072x1, .i32⟩
  | 100 => ⟨S131072x1, .i32⟩
  | 101 => ⟨S131072x1, .i32⟩
  | 102 => ⟨S_, .i32⟩
  | 103 => ⟨S131072x8, .i32⟩
  | 104 => ⟨S131072x8, .i1⟩
  | 105 => ⟨S_, .i32⟩
  | 106 => ⟨S131072x8, .i32⟩
  | 107 => ⟨S131072x8, .i32⟩
  | 108 => ⟨S131072x8, .i32⟩
  | 109 => ⟨S131072x8, .i32⟩
  | 110 => ⟨S131072x8x1, .i32⟩
  | 111 => ⟨S131072x8x1, .i32⟩
  | 112 => ⟨S131072x8x2, .i32⟩
  | 113 => ⟨S131072x9, .f32⟩
  | 114 => ⟨S_, .i32⟩
  | 115 => ⟨S131072x1, .i32⟩
  | 116 => ⟨S131072x1, .i1⟩
  | 117 => ⟨S_, .i32⟩
  | 118 => ⟨S131072x1, .i32⟩
  | 119 => ⟨S131072x1, .i32⟩
  | 120 => ⟨S131072x1, .i32⟩
  | 121 => ⟨S_, .i32⟩
  | 122 => ⟨S131072x8, .i32⟩
  | 123 => ⟨S131072x8, .i1⟩
  | 124 => ⟨S_, .i32⟩
  | 125 => ⟨S131072x8, .i32⟩
  | 126 => ⟨S131072x8, .i32⟩
  | 127 => ⟨S131072x8, .i32⟩
  | _ => ⟨S131072x7, .f32⟩

abbrev hbmTy0_4 (i : Nat) : BufTy := match i % 128 with
  | 0 => ⟨S131072x8, .i32⟩
  | 1 => ⟨S131072x8x1, .i32⟩
  | 2 => ⟨S131072x8x1, .i32⟩
  | 3 => ⟨S131072x8x2, .i32⟩
  | 4 => ⟨S131072x9, .f32⟩
  | 5 => ⟨S_, .i32⟩
  | 6 => ⟨S131072x1, .i32⟩
  | 7 => ⟨S131072x1, .i1⟩
  | 8 => ⟨S_, .i32⟩
  | 9 => ⟨S131072x1, .i32⟩
  | 10 => ⟨S131072x1, .i32⟩
  | 11 => ⟨S131072x1, .i32⟩
  | 12 => ⟨S_, .i32⟩
  | 13 => ⟨S131072x8, .i32⟩
  | 14 => ⟨S131072x8, .i1⟩
  | 15 => ⟨S_, .i32⟩
  | 16 => ⟨S131072x8, .i32⟩
  | 17 => ⟨S131072x8, .i32⟩
  | 18 => ⟨S131072x8, .i32⟩
  | 19 => ⟨S131072x8, .i32⟩
  | 20 => ⟨S131072x8x1, .i32⟩
  | 21 => ⟨S131072x8x1, .i32⟩
  | 22 => ⟨S131072x8x2, .i32⟩
  | 23 => ⟨S131072x9, .f32⟩
  | 24 => ⟨S_, .i32⟩
  | 25 => ⟨S131072x1, .i32⟩
  | 26 => ⟨S131072x1, .i1⟩
  | 27 => ⟨S_, .i32⟩
  | 28 => ⟨S131072x1, .i32⟩
  | 29 => ⟨S131072x1, .i32⟩
  | 30 => ⟨S131072x1, .i32⟩
  | 31 => ⟨S_, .i32⟩
  | 32 => ⟨S131072x8, .i32⟩
  | 33 => ⟨S131072x8, .i1⟩
  | 34 => ⟨S_, .i32⟩
  | 35 => ⟨S131072x8, .i32⟩
  | 36 => ⟨S131072x8, .i32⟩
  | 37 => ⟨S131072x8, .i32⟩
  | 38 => ⟨S131072x8, .i32⟩
  | 39 => ⟨S131072x8x1, .i32⟩
  | 40 => ⟨S131072x8x1, .i32⟩
  | 41 => ⟨S131072x8x2, .i32⟩
  | 42 => ⟨S131072x9, .f32⟩
  | 43 => ⟨S131072x8, .f32⟩
  | 44 => ⟨S131072x8, .f32⟩
  | 45 => ⟨S_, .i32⟩
  | 46 => ⟨S131072, .i32⟩
  | 47 => ⟨S131072x1, .f32⟩
  | 48 => ⟨S131072, .f32⟩
  | 49 => ⟨S131072x1, .f32⟩
  | 50 => ⟨S131072, .f32⟩
  | 51 => ⟨S131072x1, .f32⟩
  | 52 => ⟨S131072, .f32⟩
  | 53 => ⟨S131072x1, .f32⟩
  | 54 => ⟨S131072, .f32⟩
  | 55 => ⟨S8, .i32⟩
  | 56 => ⟨S1x8, .i32⟩
  | 57 => ⟨S131072x1, .i32⟩
  | 58 => ⟨S131072x8, .i32⟩
  | 59 => ⟨S131072x8, .i32⟩
  | 60 => ⟨S131072x8, .i1⟩
  | 61 => ⟨S8, .i32⟩
  | 62 => ⟨S1x8, .i32⟩
  | 63 => ⟨S_, .i32⟩
  | 64 => ⟨S1x8, .i32⟩
  | 65 => ⟨S1x8, .i32⟩
  | 66 => ⟨S131072x1, .i32⟩
  | 67 => ⟨S131072x8, .i32⟩
  | 68 => ⟨S131072x8, .i32⟩
  | 69 => ⟨S131072x8, .i1⟩
  | 70 => ⟨S1x8, .i32⟩
  | 71 => ⟨S_, .i32⟩
  | 72 => ⟨S1x8, .i32⟩
  | 73 => ⟨S1x8, .i32⟩
  | 74 => ⟨S_, .i32⟩
  | 75 => ⟨S_, .i32⟩
  | 76 => ⟨S131072x8, .i32⟩
  | 77 => ⟨S131072x8, .i32⟩
  | 78 => ⟨S131072x8, .i32⟩
  | 79 => ⟨S_, .i32⟩
  | 80 => ⟨S131072x8, .i32⟩
  | 81 => ⟨S131072x8, .i1⟩
  | 82 => ⟨S_, .i32⟩
  | 83 => ⟨S131072x8, .i32⟩
  | 84 => ⟨S131072x8, .i32⟩
  | 85 => ⟨S131072x8, .i32⟩
  | 86 => ⟨S131072x8x1, .i32⟩
  | 87 => ⟨S131072x8, .f32⟩
  | 88 => ⟨S8, .i32⟩
  | 89 => ⟨S1x8, .i32⟩
  | 90 => ⟨S_, .i32⟩
  | 91 => ⟨S1x8, .i32⟩
  | 92 => ⟨S1x8, .i32⟩
  | 93 => ⟨S131072x1, .i32⟩
  | 94 => ⟨S131072x8, .i32⟩
  | 95 => ⟨S131072x8, .i32⟩
  | 96 => ⟨S131072x8, .i1⟩
  | 97 => ⟨S1x8, .i32⟩
  | 98 => ⟨S_, .i32⟩
  | 99 => ⟨S1x8, .i32⟩
  | 100 => ⟨S1x8, .i32⟩
  | 101 => ⟨S_, .i32⟩
  | 102 => ⟨S_, .i32⟩
  | 103 => ⟨S131072x8, .i32⟩
  | 104 => ⟨S131072x8, .i32⟩
  | 105 => ⟨S131072x8, .i32⟩
  | 106 => ⟨S_, .i32⟩
  | 107 => ⟨S131072x8, .i32⟩
  | 108 => ⟨S131072x8, .i1⟩
  | 109 => ⟨S_, .i32⟩
  | 110 => ⟨S131072x8, .i32⟩
  | 111 => ⟨S131072x8, .i32⟩
  | 112 => ⟨S131072x8, .i32⟩
  | 113 => ⟨S131072x8x1, .i32⟩
  | 114 => ⟨S131072x8, .f32⟩
  | 115 => ⟨S131072, .f32⟩
  | 116 => ⟨S131072x1, .f32⟩
  | 117 => ⟨S131072, .f32⟩
  | 118 => ⟨S131072x1, .f32⟩
  | 119 => ⟨S131072x1, .f32⟩
  | 120 => ⟨S131072x8, .f32⟩
  | 121 => ⟨S131072x8, .f32⟩
  | 122 => ⟨S131072x8, .f32⟩
  | 123 => ⟨S131072x8, .f32⟩
  | 124 => ⟨S131072x1, .f32⟩
  | 125 => ⟨S131072x8, .f32⟩
  | 126 => ⟨S131072x8, .f32⟩
  | 127 => ⟨S131072x8, .f32⟩
  | _ => ⟨S131072x7, .f32⟩

abbrev hbmTy0_5 (i : Nat) : BufTy := match i % 128 with
  | 0 => ⟨S131072x8, .f32⟩
  | 1 => ⟨S131072x8, .f32⟩
  | 2 => ⟨S131072x1, .f32⟩
  | 3 => ⟨S131072x8, .f32⟩
  | 4 => ⟨S131072x8, .f32⟩
  | 5 => ⟨S131072x8, .f32⟩
  | 6 => ⟨S131072x8, .f32⟩
  | 7 => ⟨S131072x1, .f32⟩
  | 8 => ⟨S131072x8, .f32⟩
  | 9 => ⟨S131072x8, .f32⟩
  | 10 => ⟨S131072x8, .f32⟩
  | 11 => ⟨S131072x8, .f32⟩
  | 12 => ⟨S131072x8, .f32⟩
  | 13 => ⟨S_, .f32⟩
  | 14 => ⟨S131072x8, .f32⟩
  | 15 => ⟨S131072x8, .i1⟩
  | 16 => ⟨S_, .f32⟩
  | 17 => ⟨S131072x8, .f32⟩
  | 18 => ⟨S131072x8, .i1⟩
  | 19 => ⟨S131072x8, .f32⟩
  | 20 => ⟨S131072x8, .f32⟩
  | 21 => ⟨S_, .f32⟩
  | 22 => ⟨S131072x8, .f32⟩
  | 23 => ⟨S131072x8, .i1⟩
  | 24 => ⟨S_, .f32⟩
  | 25 => ⟨S_, .f32⟩
  | 26 => ⟨S131072x8, .f32⟩
  | 27 => ⟨S131072x8, .f32⟩
  | 28 => ⟨S131072x8, .f32⟩
  | 29 => ⟨S131072x8, .f32⟩
  | 30 => ⟨S131072x8, .f32⟩
  | 31 => ⟨S131072x8, .f32⟩
  | 32 => ⟨S131072x8, .f32⟩
  | 33 => ⟨S131072x8, .f32⟩
  | 34 => ⟨S131072x8, .f32⟩
  | 35 => ⟨S131072x8, .i1⟩
  | 36 => ⟨S131072x8, .i1⟩
  | 37 => ⟨S131072x8, .i1⟩
  | 38 => ⟨S131072x8, .i32⟩
  | 39 => ⟨S131072x8, .i32⟩
  | 40 => ⟨S131072x8, .i32⟩
  | 41 => ⟨S_, .i32⟩
  | 42 => ⟨S_, .i32⟩
  | 43 => ⟨S131072x8, .i32⟩
  | 44 => ⟨S131072x8, .i32⟩
  | 45 => ⟨S_, .i32⟩
  | 46 => ⟨S_, .i32⟩
  | 47 => ⟨S131072x8, .i32⟩
  | 48 => ⟨S131072x8, .i32⟩
  | 49 => ⟨S131072x8, .i32⟩
  | 50 => ⟨S_, .i32⟩
  | 51 => ⟨S_, .i32⟩
  | 52 => ⟨S131072x8, .i32⟩
  | 53 => ⟨S131072x8, .i32⟩
  | 54 => ⟨S131072, .i32⟩
  | 55 => ⟨S131072x1, .i32⟩
  | 56 => ⟨S_, .f32⟩
  | 57 => ⟨S131072x9, .f32⟩
  | 58 => ⟨S_, .i32⟩
  | 59 => ⟨S131072x1, .i32⟩
  | 60 => ⟨S131072x1, .i1⟩
  | 61 => ⟨S_, .i32⟩
  | 62 => ⟨S131072x1, .i32⟩
  | 63 => ⟨S131072x1, .i32⟩
  | 64 => ⟨S131072x1, .i32⟩
  | 65 => ⟨S_, .i32⟩
  | 66 => ⟨S131072x8, .i32⟩
  | 67 => ⟨S131072x8, .i1⟩
  | 68 => ⟨S_, .i32⟩
  | 69 => ⟨S131072x8, .i32⟩
  | 70 => ⟨S131072x8, .i32⟩
  | 71 => ⟨S131072x8, .i32⟩
  | 72 => ⟨S131072x8, .i32⟩
  | 73 => ⟨S131072x8x1, .i32⟩
  | 74 => ⟨S131072x8x1, .i32⟩
  | 75 => ⟨S131072x8x2, .i32⟩
  | 76 => ⟨S131072x9, .f32⟩
  | 77 => ⟨S_, .i32⟩
  | 78 => ⟨S131072x1, .i32⟩
  | 79 => ⟨S131072x1, .i1⟩
  | 80 => ⟨S_, .i32⟩
  | 81 => ⟨S131072x1, .i32⟩
  | 82 => ⟨S131072x1, .i32⟩
  | 83 => ⟨S131072x1, .i32⟩
  | 84 => ⟨S_, .i32⟩
  | 85 => ⟨S131072x8, .i32⟩
  | 86 => ⟨S131072x8, .i1⟩
  | 87 => ⟨S_, .i32⟩
  | 88 => ⟨S131072x8, .i32⟩
  | 89 => ⟨S131072x8, .i32⟩
  | 90 => ⟨S131072x8, .i32⟩
  | 91 => ⟨S131072x8, .i32⟩
  | 92 => ⟨S131072x8x1, .i32⟩
  | 93 => ⟨S131072x8x1, .i32⟩
  | 94 => ⟨S131072x8x2, .i32⟩
  | 95 => ⟨S131072x9, .f32⟩
  | 96 => ⟨S_, .i32⟩
  | 97 => ⟨S131072x1, .i32⟩
  | 98 => ⟨S131072x1, .i1⟩
  | 99 => ⟨S_, .i32⟩
  | 100 => ⟨S131072x1, .i32⟩
  | 101 => ⟨S131072x1, .i32⟩
  | 102 => ⟨S131072x1, .i32⟩
  | 103 => ⟨S_, .i32⟩
  | 104 => ⟨S131072x8, .i32⟩
  | 105 => ⟨S131072x8, .i1⟩
  | 106 => ⟨S_, .i32⟩
  | 107 => ⟨S131072x8, .i32⟩
  | 108 => ⟨S131072x8, .i32⟩
  | 109 => ⟨S131072x8, .i32⟩
  | 110 => ⟨S131072x8, .i32⟩
  | 111 => ⟨S131072x8x1, .i32⟩
  | 112 => ⟨S131072x8x1, .i32⟩
  | 113 => ⟨S131072x8x2, .i32⟩
  | 114 => ⟨S131072x9, .f32⟩
  | 115 => ⟨S_, .i32⟩
  | 116 => ⟨S131072x1, .i32⟩
  | 117 => ⟨S131072x1, .i1⟩
  | 118 => ⟨S_, .i32⟩
  | 119 => ⟨S131072x1, .i32⟩
  | 120 => ⟨S131072x1, .i32⟩
  | 121 => ⟨S131072x1, .i32⟩
  | 122 => ⟨S_, .i32⟩
  | 123 => ⟨S131072x8, .i32⟩
  | 124 => ⟨S131072x8, .i1⟩
  | 125 => ⟨S_, .i32⟩
  | 126 => ⟨S131072x8, .i32⟩
  | 127 => ⟨S131072x8, .i32⟩
  | _ => ⟨S131072x7, .f32⟩

abbrev hbmTy0_6 (i : Nat) : BufTy := match i % 128 with
  | 0 => ⟨S131072x8, .i32⟩
  | 1 => ⟨S131072x8, .i32⟩
  | 2 => ⟨S131072x8x1, .i32⟩
  | 3 => ⟨S131072x8x1, .i32⟩
  | 4 => ⟨S131072x8x2, .i32⟩
  | 5 => ⟨S131072x9, .f32⟩
  | 6 => ⟨S131072x8, .f32⟩
  | 7 => ⟨S131072x8, .f32⟩
  | 8 => ⟨S_, .i32⟩
  | 9 => ⟨S131072, .i32⟩
  | 10 => ⟨S131072x1, .f32⟩
  | 11 => ⟨S131072, .f32⟩
  | 12 => ⟨S131072x1, .f32⟩
  | 13 => ⟨S131072, .f32⟩
  | 14 => ⟨S131072x1, .f32⟩
  | 15 => ⟨S131072, .f32⟩
  | 16 => ⟨S131072x1, .f32⟩
  | 17 => ⟨S131072, .f32⟩
  | 18 => ⟨S8, .i32⟩
  | 19 => ⟨S1x8, .i32⟩
  | 20 => ⟨S131072x1, .i32⟩
  | 21 => ⟨S131072x8, .i32⟩
  | 22 => ⟨S131072x8, .i32⟩
  | 23 => ⟨S131072x8, .i1⟩
  | 24 => ⟨S8, .i32⟩
  | 25 => ⟨S1x8, .i32⟩
  | 26 => ⟨S_, .i32⟩
  | 27 => ⟨S1x8, .i32⟩
  | 28 => ⟨S1x8, .i32⟩
  | 29 => ⟨S131072x1, .i32⟩
  | 30 => ⟨S131072x8, .i32⟩
  | 31 => ⟨S131072x8, .i32⟩
  | 32 => ⟨S131072x8, .i1⟩
  | 33 => ⟨S1x8, .i32⟩
  | 34 => ⟨S_, .i32⟩
  | 35 => ⟨S1x8, .i32⟩
  | 36 => ⟨S1x8, .i32⟩
  | 37 => ⟨S_, .i32⟩
  | 38 => ⟨S_, .i32⟩
  | 39 => ⟨S131072x8, .i32⟩
  | 40 => ⟨S131072x8, .i32⟩
  | 41 => ⟨S131072x8, .i32⟩
  | 42 => ⟨S_, .i32⟩
  | 43 => ⟨S131072x8, .i32⟩
  | 44 => ⟨S131072x8, .i1⟩
  | 45 => ⟨S_, .i32⟩
  | 46 => ⟨S131072x8, .i32⟩
  | 47 => ⟨S131072x8, .i32⟩
  | 48 => ⟨S131072x8, .i32⟩
  | 49 => ⟨S131072x8x1, .i32⟩
  | 50 => ⟨S131072x8, .f32⟩
  | 51 => ⟨S8, .i32⟩
  | 52 => ⟨S1x8, .i32⟩
  | 53 => ⟨S_, .i32⟩
  | 54 => ⟨S1x8, .i32⟩
  | 55 => ⟨S1x8, .i32⟩
  | 56 => ⟨S131072x1, .i32⟩
  | 57 => ⟨S131072x8, .i32⟩
  | 58 => ⟨S131072x8, .i32⟩
  | 59 => ⟨S131072x8, .i1⟩
  | 60 => ⟨S1x8, .i32⟩
  | 61 => ⟨S_, .i32⟩
  | 62 => ⟨S1x8, .i32⟩
  | 63 => ⟨S1x8, .i32⟩
  | 64 => ⟨S_, .i32⟩
  | 65 => ⟨S_, .i32⟩
  | 66 => ⟨S131072x8, .i32⟩
  | 67 => ⟨S131072x8, .i32⟩
  | 68 => ⟨S131072x8, .i32⟩
  | 69 => ⟨S_, .i32⟩
  | 70 => ⟨S131072x8, .i32⟩
  | 71 => ⟨S131072x8, .i1⟩
  | 72 => ⟨S_, .i32⟩
  | 73 => ⟨S131072x8, .i32⟩
  | 74 => ⟨S131072x8, .i32⟩
  | 75 => ⟨S131072x8, .i32⟩
  | 76 => ⟨S131072x8x1, .i32⟩
  | 77 => ⟨S131072x8, .f32⟩
  | 78 => ⟨S131072, .f32⟩
  | 79 => ⟨S131072x1, .f32⟩
  | 80 => ⟨S131072, .f32⟩
  | 81 => ⟨S131072x1, .f32⟩
  | 82 => ⟨S131072x1, .f32⟩
  | 83 => ⟨S131072x8, .f32⟩
  | 84 => ⟨S131072x8, .f32⟩
  | 85 => ⟨S131072x8, .f32⟩
  | 86 => ⟨S131072x8, .f32⟩
  | 87 => ⟨S131072x1, .f32⟩
  | 88 => ⟨S131072x8, .f32⟩
  | 89 => ⟨S131072x8, .f32⟩
  | 90 => ⟨S131072x8, .f32⟩
  | 91 => ⟨S131072x8, .f32⟩
  | 92 => ⟨S131072x8, .f32⟩
  | 93 => ⟨S131072x1, .f32⟩
  | 94 => ⟨S131072x8, .f32⟩
  | 95 => ⟨S131072x8, .f32⟩
  | 96 => ⟨S131072x8, .f32⟩
  | 97 => ⟨S131072x8, .f32⟩
  | 98 => ⟨S131072x1, .f32⟩
  | 99 => ⟨S131072x8, .f32⟩
  | 100 => ⟨S131072x8, .f32⟩
  | 101 => ⟨S131072x8, .f32⟩
  | 102 => ⟨S131072x8, .f32⟩
  | 103 => ⟨S131072x8, .f32⟩
  | 104 => ⟨S_, .f32⟩
  | 105 => ⟨S131072x8, .f32⟩
  | 106 => ⟨S131072x8, .i1⟩
  | 107 => ⟨S_, .f32⟩
  | 108 => ⟨S131072x8, .f32⟩
  | 109 => ⟨S131072x8, .i1⟩
  | 110 => ⟨S131072x8, .f32⟩
  | 111 => ⟨S131072x8, .f32⟩
  | 112 => ⟨S_, .f32⟩
  | 113 => ⟨S131072x8, .f32⟩
  | 114 => ⟨S131072x8, .i1⟩
  | 115 => ⟨S_, .f32⟩
  | 116 => ⟨S_, .f32⟩
  | 117 => ⟨S131072x8, .f32⟩
  | 118 => ⟨S131072x8, .f32⟩
  | 119 => ⟨S131072x8, .f32⟩
  | 120 => ⟨S131072x8, .f32⟩
  | 121 => ⟨S131072x8, .f32⟩
  | 122 => ⟨S131072x8, .f32⟩
  | 123 => ⟨S131072x8, .f32⟩
  | 124 => ⟨S131072x8, .f32⟩
  | 125 => ⟨S131072x8, .f32⟩
  | 126 => ⟨S131072x8, .i1⟩
  | 127 => ⟨S131072x8, .i1⟩
  | _ => ⟨S131072x7, .f32⟩

abbrev hbmTy0_7 (i : Nat) : BufTy := match i % 128 with
  | 0 => ⟨S131072x8, .i1⟩
  | 1 => ⟨S131072x8, .i32⟩
  | 2 => ⟨S131072x8, .i32⟩
  | 3 => ⟨S131072x8, .i32⟩
  | 4 => ⟨S_, .i32⟩
  | 5 => ⟨S_, .i32⟩
  | 6 => ⟨S131072x8, .i32⟩
  | 7 => ⟨S131072x8, .i32⟩
  | 8 => ⟨S_, .i32⟩
  | 9 => ⟨S_, .i32⟩
  | 10 => ⟨S131072x8, .i32⟩
  | 11 => ⟨S131072x8, .i32⟩
  | 12 => ⟨S131072x8, .i32⟩
  | 13 => ⟨S_, .i32⟩
  | 14 => ⟨S_, .i32⟩
  | 15 => ⟨S131072x8, .i32⟩
  | 16 => ⟨S131072x8, .i32⟩
  | 17 => ⟨S131072, .i32⟩
  | 18 => ⟨S131072x1, .i32⟩
  | 19 => ⟨S_, .f32⟩
  | 20 => ⟨S131072x9, .f32⟩
  | 21 => ⟨S_, .i32⟩
  | 22 => ⟨S131072x1, .i32⟩
  | 23 => ⟨S131072x1, .i1⟩
  | 24 => ⟨S_, .i32⟩
  | 25 => ⟨S131072x1, .i32⟩
  | 26 => ⟨S131072x1, .i32⟩
  | 27 => ⟨S131072x1, .i32⟩
  | 28 => ⟨S_, .i32⟩
  | 29 => ⟨S131072x8, .i32⟩
  | 30 => ⟨S131072x8, .i1⟩
  | 31 => ⟨S_, .i32⟩
  | 32 => ⟨S131072x8, .i32⟩
  | 33 => ⟨S131072x8, .i32⟩
  | 34 => ⟨S131072x8, .i32⟩
  | 35 => ⟨S131072x8, .i32⟩
  | 36 => ⟨S131072x8x1, .i32⟩
  | 37 => ⟨S131072x8x1, .i32⟩
  | 38 => ⟨S131072x8x2, .i32⟩
  | 39 => ⟨S131072x9, .f32⟩
  | 40 => ⟨S_, .i32⟩
  | 41 => ⟨S131072x1, .i32⟩
  | 42 => ⟨S131072x1, .i1⟩
  | 43 => ⟨S_, .i32⟩
  | 44 => ⟨S131072x1, .i32⟩
  | 45 => ⟨S131072x1, .i32⟩
  | 46 => ⟨S131072x1, .i32⟩
  | 47 => ⟨S_, .i32⟩
  | 48 => ⟨S131072x8, .i32⟩
  | 49 => ⟨S131072x8, .i1⟩
  | 50 => ⟨S_, .i32⟩
  | 51 => ⟨S131072x8, .i32⟩
  | 52 => ⟨S131072x8, .i32⟩
  | 53 => ⟨S131072x8, .i32⟩
  | 54 => ⟨S131072x8, .i32⟩
  | 55 => ⟨S131072x8x1, .i32⟩
  | 56 => ⟨S131072x8x1, .i32⟩
  | 57 => ⟨S131072x8x2, .i32⟩
  | 58 => ⟨S131072x9, .f32⟩
  | 59 => ⟨S_, .i32⟩
  | 60 => ⟨S131072x1, .i32⟩
  | 61 => ⟨S131072x1, .i1⟩
  | 62 => ⟨S_, .i32⟩
  | 63 => ⟨S131072x1, .i32⟩
  | 64 => ⟨S131072x1, .i32⟩
  | 65 => ⟨S131072x1, .i32⟩
  | 66 => ⟨S_, .i32⟩
  | 67 => ⟨S131072x8, .i32⟩
  | 68 => ⟨S131072x8, .i1⟩
  | 69 => ⟨S_, .i32⟩
  | 70 => ⟨S131072x8, .i32⟩
  | 71 => ⟨S131072x8, .i32⟩
  | 72 => ⟨S131072x8, .i32⟩
  | 73 => ⟨S131072x8, .i32⟩
  | 74 => ⟨S131072x8x1, .i32⟩
  | 75 => ⟨S131072x8x1, .i32⟩
  | 76 => ⟨S131072x8x2, .i32⟩
  | 77 => ⟨S131072x9, .f32⟩
  | 78 => ⟨S_, .i32⟩
  | 79 => ⟨S131072x1, .i32⟩
  | 80 => ⟨S131072x1, .i1⟩
  | 81 => ⟨S_, .i32⟩
  | 82 => ⟨S131072x1, .i32⟩
  | 83 => ⟨S131072x1, .i32⟩
  | 84 => ⟨S131072x1, .i32⟩
  | 85 => ⟨S_, .i32⟩
  | 86 => ⟨S131072x8, .i32⟩
  | 87 => ⟨S131072x8, .i1⟩
  | 88 => ⟨S_, .i32⟩
  | 89 => ⟨S131072x8, .i32⟩
  | 90 => ⟨S131072x8, .i32⟩
  | 91 => ⟨S131072x8, .i32⟩
  | 92 => ⟨S131072x8, .i32⟩
  | 93 => ⟨S131072x8x1, .i32⟩
  | 94 => ⟨S131072x8x1, .i32⟩
  | 95 => ⟨S131072x8x2, .i32⟩
  | 96 => ⟨S131072x9, .f32⟩
  | 97 => ⟨S131072x8, .f32⟩
  | 98 => ⟨S131072x8, .f32⟩
  | 99 => ⟨S_, .i32⟩
  | 100 => ⟨S131072, .i32⟩
  | 101 => ⟨S131072x1, .f32⟩
  | 102 => ⟨S131072, .f32⟩
  | 103 => ⟨S131072x1, .f32⟩
  | 104 => ⟨S131072, .f32⟩
  | 105 => ⟨S131072x1, .f32⟩
  | 106 => ⟨S131072, .f32⟩
  | 107 => ⟨S131072x1, .f32⟩
  | 108 => ⟨S131072, .f32⟩
  | 109 => ⟨S8, .i32⟩
  | 110 => ⟨S1x8, .i32⟩
  | 111 => ⟨S131072x1, .i32⟩
  | 112 => ⟨S131072x8, .i32⟩
  | 113 => ⟨S131072x8, .i32⟩
  | 114 => ⟨S131072x8, .i1⟩
  | 115 => ⟨S8, .i32⟩
  | 116 => ⟨S1x8, .i32⟩
  | 117 => ⟨S_, .i32⟩
  | 118 => ⟨S1x8, .i32⟩
  | 119 => ⟨S1x8, .i32⟩
  | 120 => ⟨S131072x1, .i32⟩
  | 121 => ⟨S131072x8, .i32⟩
  | 122 => ⟨S131072x8, .i32⟩
  | 123 => ⟨S131072x8, .i1⟩
  | 124 => ⟨S1x8, .i32⟩
  | 125 => ⟨S_, .i32⟩
  | 126 => ⟨S1x8, .i32⟩
  | 127 => ⟨S1x8, .i32⟩
  | _ => ⟨S131072x7, .f32⟩

abbrev hbmTy0_8 (i : Nat) : BufTy := match i % 128 with
  | 0 => ⟨S_, .i32⟩
  | 1 => ⟨S_, .i32⟩
  | 2 => ⟨S131072x8, .i32⟩
  | 3 => ⟨S131072x8, .i32⟩
  | 4 => ⟨S131072x8, .i32⟩
  | 5 => ⟨S_, .i32⟩
  | 6 => ⟨S131072x8, .i32⟩
  | 7 => ⟨S131072x8, .i1⟩
  | 8 => ⟨S_, .i32⟩
  | 9 => ⟨S131072x8, .i32⟩
  | 10 => ⟨S131072x8, .i32⟩
  | 11 => ⟨S131072x8, .i32⟩
  | 12 => ⟨S131072x8x1, .i32⟩
  | 13 => ⟨S131072x8, .f32⟩
  | 14 => ⟨S8, .i32⟩
  | 15 => ⟨S1x8, .i32⟩
  | 16 => ⟨S_, .i32⟩
  | 17 => ⟨S1x8, .i32⟩
  | 18 => ⟨S1x8, .i32⟩
  | 19 => ⟨S131072x1, .i32⟩
  | 20 => ⟨S131072x8, .i32⟩
  | 21 => ⟨S131072x8, .i32⟩
  | 22 => ⟨S131072x8, .i1⟩
  | 23 => ⟨S1x8, .i32⟩
  | 24 => ⟨S_, .i32⟩
  | 25 => ⟨S1x8, .i32⟩
  | 26 => ⟨S1x8, .i32⟩
  | 27 => ⟨S_, .i32⟩
  | 28 => ⟨S_, .i32⟩
  | 29 => ⟨S131072x8, .i32⟩
  | 30 => ⟨S131072x8, .i32⟩
  | 31 => ⟨S131072x8, .i32⟩
  | 32 => ⟨S_, .i32⟩
  | 33 => ⟨S131072x8, .i32⟩
  | 34 => ⟨S131072x8, .i1⟩
  | 35 => ⟨S_, .i32⟩
  | 36 => ⟨S131072x8, .i32⟩
  | 37 => ⟨S131072x8, .i32⟩
  | 38 => ⟨S131072x8, .i32⟩
  | 39 => ⟨S131072x8x1, .i32⟩
  | 40 => ⟨S131072x8, .f32⟩
  | 41 => ⟨S131072, .f32⟩
  | 42 => ⟨S131072x1, .f32⟩
  | 43 => ⟨S131072, .f32⟩
  | 44 => ⟨S131072x1, .f32⟩
  | 45 => ⟨S131072x1, .f32⟩
  | 46 => ⟨S131072x8, .f32⟩
  | 47 => ⟨S131072x8, .f32⟩
  | 48 => ⟨S131072x8, .f32⟩
  | 49 => ⟨S131072x8, .f32⟩
  | 50 => ⟨S131072x1, .f32⟩
  | 51 => ⟨S131072x8, .f32⟩
  | 52 => ⟨S131072x8, .f32⟩
  | 53 => ⟨S131072x8, .f32⟩
  | 54 => ⟨S131072x8, .f32⟩
  | 55 => ⟨S131072x8, .f32⟩
  | 56 => ⟨S131072x1, .f32⟩
  | 57 => ⟨S131072x8, .f32⟩
  | 58 => ⟨S131072x8, .f32⟩
  | 59 => ⟨S131072x8, .f32⟩
  | 60 => ⟨S131072x8, .f32⟩
  | 61 => ⟨S131072x1, .f32⟩
  | 62 => ⟨S131072x8, .f32⟩
  | 63 => ⟨S131072x8, .f32⟩
  | 64 => ⟨S131072x8, .f32⟩
  | 65 => ⟨S131072x8, .f32⟩
  | 66 => ⟨S131072x8, .f32⟩
  | 67 => ⟨S_, .f32⟩
  | 68 => ⟨S131072x8, .f32⟩
  | 69 => ⟨S131072x8, .i1⟩
  | 70 => ⟨S_, .f32⟩
  | 71 => ⟨S131072x8, .f32⟩
  | 72 => ⟨S131072x8, .i1⟩
  | 73 => ⟨S131072x8, .f32⟩
  | 74 => ⟨S131072x8, .f32⟩
  | 75 => ⟨S_, .f32⟩
  | 76 => ⟨S131072x8, .f32⟩
  | 77 => ⟨S131072x8, .i1⟩
  | 78 => ⟨S_, .f32⟩
  | 79 => ⟨S_, .f32⟩
  | 80 => ⟨S131072x8, .f32⟩
  | 81 => ⟨S131072x8, .f32⟩
  | 82 => ⟨S131072x8, .f32⟩
  | 83 => ⟨S131072x8, .f32⟩
  | 84 => ⟨S131072x8, .f32⟩
  | 85 => ⟨S131072x8, .f32⟩
  | 86 => ⟨S131072x8, .f32⟩
  | 87 => ⟨S131072x8, .f32⟩
  | 88 => ⟨S131072x8, .f32⟩
  | 89 => ⟨S131072x8, .i1⟩
  | 90 => ⟨S131072x8, .i1⟩
  | 91 => ⟨S131072x8, .i1⟩
  | 92 => ⟨S131072x8, .i32⟩
  | 93 => ⟨S131072x8, .i32⟩
  | 94 => ⟨S131072x8, .i32⟩
  | 95 => ⟨S_, .i32⟩
  | 96 => ⟨S_, .i32⟩
  | 97 => ⟨S131072x8, .i32⟩
  | 98 => ⟨S131072x8, .i32⟩
  | 99 => ⟨S_, .i32⟩
  | 100 => ⟨S_, .i32⟩
  | 101 => ⟨S131072x8, .i32⟩
  | 102 => ⟨S131072x8, .i32⟩
  | 103 => ⟨S131072x8, .i32⟩
  | 104 => ⟨S_, .i32⟩
  | 105 => ⟨S_, .i32⟩
  | 106 => ⟨S131072x8, .i32⟩
  | 107 => ⟨S131072x8, .i32⟩
  | 108 => ⟨S131072, .i32⟩
  | 109 => ⟨S131072x1, .i32⟩
  | 110 => ⟨S_, .f32⟩
  | 111 => ⟨S131072x9, .f32⟩
  | 112 => ⟨S_, .i32⟩
  | 113 => ⟨S131072x1, .i32⟩
  | 114 => ⟨S131072x1, .i1⟩
  | 115 => ⟨S_, .i32⟩
  | 116 => ⟨S131072x1, .i32⟩
  | 117 => ⟨S131072x1, .i32⟩
  | 118 => ⟨S131072x1, .i32⟩
  | 119 => ⟨S_, .i32⟩
  | 120 => ⟨S131072x8, .i32⟩
  | 121 => ⟨S131072x8, .i1⟩
  | 122 => ⟨S_, .i32⟩
  | 123 => ⟨S131072x8, .i32⟩
  | 124 => ⟨S131072x8, .i32⟩
  | 125 => ⟨S131072x8, .i32⟩
  | 126 => ⟨S131072x8, .i32⟩
  | 127 => ⟨S131072x8x1, .i32⟩
  | _ => ⟨S131072x7, .f32⟩

abbrev hbmTy0_9 (i : Nat) : BufTy := match i % 128 with
  | 0 => ⟨S131072x8x1, .i32⟩
  | 1 => ⟨S131072x8x2, .i32⟩
  | 2 => ⟨S131072x9, .f32⟩
  | 3 => ⟨S_, .i32⟩
  | 4 => ⟨S131072x1, .i32⟩
  | 5 => ⟨S131072x1, .i1⟩
  | 6 => ⟨S_, .i32⟩
  | 7 => ⟨S131072x1, .i32⟩
  | 8 => ⟨S131072x1, .i32⟩
  | 9 => ⟨S131072x1, .i32⟩
  | 10 => ⟨S_, .i32⟩
  | 11 => ⟨S131072x8, .i32⟩
  | 12 => ⟨S131072x8, .i1⟩
  | 13 => ⟨S_, .i32⟩
  | 14 => ⟨S131072x8, .i32⟩
  | 15 => ⟨S131072x8, .i32⟩
  | 16 => ⟨S131072x8, .i32⟩
  | 17 => ⟨S131072x8, .i32⟩
  | 18 => ⟨S131072x8x1, .i32⟩
  | 19 => ⟨S131072x8x1, .i32⟩
  | 20 => ⟨S131072x8x2, .i32⟩
  | 21 => ⟨S131072x9, .f32⟩
  | 22 => ⟨S_, .i32⟩
  | 23 => ⟨S131072x1, .i32⟩
  | 24 => ⟨S131072x1, .i1⟩
  | 25 => ⟨S_, .i32⟩
  | 26 => ⟨S131072x1, .i32⟩
  | 27 => ⟨S131072x1, .i32⟩
  | 28 => ⟨S131072x1, .i32⟩
  | 29 => ⟨S_, .i32⟩
  | 30 => ⟨S131072x8, .i32⟩
  | 31 => ⟨S131072x8, .i1⟩
  | 32 => ⟨S_, .i32⟩
  | 33 => ⟨S131072x8, .i32⟩
  | 34 => ⟨S131072x8, .i32⟩
  | 35 => ⟨S131072x8, .i32⟩
  | 36 => ⟨S131072x8, .i32⟩
  | 37 => ⟨S131072x8x1, .i32⟩
  | 38 => ⟨S131072x8x1, .i32⟩
  | 39 => ⟨S131072x8x2, .i32⟩
  | 40 => ⟨S131072x9, .f32⟩
  | 41 => ⟨S_, .i32⟩
  | 42 => ⟨S131072x1, .i32⟩
  | 43 => ⟨S131072x1, .i1⟩
  | 44 => ⟨S_, .i32⟩
  | 45 => ⟨S131072x1, .i32⟩
  | 46 => ⟨S131072x1, .i32⟩
  | 47 => ⟨S131072x1, .i32⟩
  | 48 => ⟨S_, .i32⟩
  | 49 => ⟨S131072x8, .i32⟩
  | 50 => ⟨S131072x8, .i1⟩
  | 51 => ⟨S_, .i32⟩
  | 52 => ⟨S131072x8, .i32⟩
  | 53 => ⟨S131072x8, .i32⟩
  | 54 => ⟨S131072x8, .i32⟩
  | 55 => ⟨S131072x8, .i32⟩
  | 56 => ⟨S131072x8x1, .i32⟩
  | 57 => ⟨S131072x8x1, .i32⟩
  | 58 => ⟨S131072x8x2, .i32⟩
  | 59 => ⟨S131072x9, .f32⟩
  | 60 => ⟨S131072x8, .f32⟩
  | 61 => ⟨S131072x8, .f32⟩
  | 62 => ⟨S_, .i32⟩
  | 63 => ⟨S131072, .i32⟩
  | 64 => ⟨S8, .i32⟩
  | 65 => ⟨S1x8, .i32⟩
  | 66 => ⟨S131072x1, .i32⟩
  | 67 => ⟨S131072x8, .i32⟩
  | 68 => ⟨S131072x8, .i32⟩
  | 69 => ⟨S131072x8, .i1⟩
  | 70 => ⟨S8, .i32⟩
  | 71 => ⟨S1x8, .i32⟩
  | 72 => ⟨S_, .i32⟩
  | 73 => ⟨S1x8, .i32⟩
  | 74 => ⟨S1x8, .i32⟩
  | 75 => ⟨S131072x1, .i32⟩
  | 76 => ⟨S131072x8, .i32⟩
  | 77 => ⟨S131072x8, .i32⟩
  | 78 => ⟨S131072x8, .i1⟩
  | 79 => ⟨S1x8, .i32⟩
  | 80 => ⟨S_, .i32⟩
  | 81 => ⟨S1x8, .i32⟩
  | 82 => ⟨S1x8, .i32⟩
  | 83 => ⟨S_, .i32⟩
  | 84 => ⟨S_, .i32⟩
  | 85 => ⟨S131072x8, .i32⟩
  | 86 => ⟨S131072x8, .i32⟩
  | 87 => ⟨S131072x8, .i32⟩
  | 88 => ⟨S_, .i32⟩
  | 89 => ⟨S131072x8, .i32⟩
  | 90 => ⟨S131072x8, .i1⟩
  | 91 => ⟨S_, .i32⟩
  | 92 => ⟨S131072x8, .i32⟩
  | 93 => ⟨S131072x8, .i32⟩
  | 94 => ⟨S131072x8, .i32⟩
  | 95 => ⟨S131072x8x1, .i32⟩
  | 96 => ⟨S131072x8, .f32⟩
  | 97 => ⟨S131072x8, .f32⟩
  | 98 => ⟨S8, .i32⟩
  | 99 => ⟨S1x8, .i32⟩
  | 100 => ⟨S_, .i32⟩
  | 101 => ⟨S1x8, .i32⟩
  | 102 => ⟨S1x8, .i32⟩
  | 103 => ⟨S131072x1, .i32⟩
  | 104 => ⟨S131072x8, .i32⟩
  | 105 => ⟨S131072x8, .i32⟩
  | 106 => ⟨S131072x8, .i1⟩
  | 107 => ⟨S1x8, .i32⟩
  | 108 => ⟨S_, .i32⟩
  | 109 => ⟨S1x8, .i32⟩
  | 110 => ⟨S1x8, .i32⟩
  | 111 => ⟨S_, .i32⟩
  | 112 => ⟨S_, .i32⟩
  | 113 => ⟨S131072x8, .i32⟩
  | 114 => ⟨S131072x8, .i32⟩
  | 115 => ⟨S131072x8, .i32⟩
  | 116 => ⟨S_, .i32⟩
  | 117 => ⟨S131072x8, .i32⟩
  | 118 => ⟨S131072x8, .i1⟩
  | 119 => ⟨S_, .i32⟩
  | 120 => ⟨S131072x8, .i32⟩
  | 121 => ⟨S131072x8, .i32⟩
  | 122 => ⟨S131072x8, .i32⟩
  | 123 => ⟨S131072x8x1, .i32⟩
  | 124 => ⟨S131072x8, .f32⟩
  | 125 => ⟨S131072x8, .f32⟩
  | 126 => ⟨S131072x8, .f32⟩
  | 127 => ⟨S_, .f32⟩
  | _ => ⟨S131072x7, .f32⟩

abbrev hbmTy0_10 (i : Nat) : BufTy := match i % 128 with
  | 0 => ⟨S_, .f32⟩
  | 1 => ⟨S131072x8, .f32⟩
  | 2 => ⟨S131072x8, .f32⟩
  | 3 => ⟨S_, .f32⟩
  | 4 => ⟨S131072, .f32⟩
  | 5 => ⟨S131072, .f32⟩
  | 6 => ⟨S_, .f32⟩
  | 7 => ⟨S131072, .f32⟩
  | 8 => ⟨S131072, .f32⟩
  | 9 => ⟨S_, .f32⟩
  | 10 => ⟨S131072, .f32⟩
  | 11 => ⟨S131072, .f32⟩
  | 12 => ⟨S131072, .f32⟩
  | 13 => ⟨S_, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .f32⟩
  | 25 => ⟨S131072, .f32⟩
  | 26 => ⟨S131072, .f32⟩
  | 27 => ⟨S131072, .f32⟩
  | 28 => ⟨S_, .f32⟩
  | 29 => ⟨S131072, .f32⟩
  | 30 => ⟨S131072, .f32⟩
  | 31 => ⟨S131072, .f32⟩
  | 32 => ⟨S131072, .f32⟩
  | 33 => ⟨S131072, .f32⟩
  | 34 => ⟨S131072, .f32⟩
  | 35 => ⟨S131072, .f32⟩
  | 36 => ⟨S131072, .f32⟩
  | 37 => ⟨S131072, .f32⟩
  | 38 => ⟨S_, .f32⟩
  | 39 => ⟨S131072, .f32⟩
  | 40 => ⟨S131072, .f32⟩
  | 41 => ⟨S131072, .f32⟩
  | 42 => ⟨S131072x8, .f32⟩
  | 43 => ⟨S131072x8, .f32⟩
  | 44 => ⟨S131072x1x8, .f32⟩
  | 45 => ⟨S131072x8x1, .f32⟩
  | 46 => ⟨S131072x8x8, .f32⟩
  | 47 => ⟨S131072x8x8, .f32⟩
  | 48 => ⟨S131072x8x8, .f32⟩
  | 49 => ⟨S131072x1x8, .f32⟩
  | 50 => ⟨S131072x8x1, .f32⟩
  | 51 => ⟨S131072x8x8, .f32⟩
  | 52 => ⟨S131072x8x8, .f32⟩
  | 53 => ⟨S131072x8x8, .f32⟩
  | 54 => ⟨S131072x8x8x1, .f32⟩
  | 55 => ⟨S131072x8x1x8, .f32⟩
  | 56 => ⟨S131072x8x8x8, .f32⟩
  | 57 => ⟨S131072x8x8x8, .f32⟩
  | 58 => ⟨S131072x8x8x8, .f32⟩
  | 59 => ⟨S131072x8x8x1, .f32⟩
  | 60 => ⟨S131072x8x1x8, .f32⟩
  | 61 => ⟨S131072x8x8x8, .f32⟩
  | 62 => ⟨S131072x8x8x8, .f32⟩
  | 63 => ⟨S131072x8x8x8, .f32⟩
  | 64 => ⟨S131072x8x8x8, .f32⟩
  | 65 => ⟨S_, .f32⟩
  | 66 => ⟨S131072x8x8x8, .f32⟩
  | 67 => ⟨S131072x8x8x8, .i1⟩
  | 68 => ⟨S_, .i1⟩
  | 69 => ⟨S131072x8x8, .i1⟩
  | 70 => ⟨S8x8, .i32⟩
  | 71 => ⟨S8x8, .i32⟩
  | 72 => ⟨S_, .i32⟩
  | 73 => ⟨S8x8, .i32⟩
  | 74 => ⟨S8x8, .i32⟩
  | 75 => ⟨S8x8, .i1⟩
  | 76 => ⟨S1x8x8, .i1⟩
  | 77 => ⟨S1x8x8, .i1⟩
  | 78 => ⟨S131072x8x8, .i1⟩
  | 79 => ⟨S131072x8x8, .i1⟩
  | 80 => ⟨S131072x8x1, .f32⟩
  | 81 => ⟨S131072x1x8, .f32⟩
  | 82 => ⟨S131072x8x8, .f32⟩
  | 83 => ⟨S131072x8x8, .f32⟩
  | 84 => ⟨S131072x8x8, .f32⟩
  | 85 => ⟨S131072x1x8, .f32⟩
  | 86 => ⟨S131072x8x1, .f32⟩
  | 87 => ⟨S131072x8x8, .f32⟩
  | 88 => ⟨S131072x8x8, .f32⟩
  | 89 => ⟨S131072x8x8, .f32⟩
  | 90 => ⟨S131072x8x8, .f32⟩
  | 91 => ⟨S_, .f32⟩
  | 92 => ⟨S_, .f32⟩
  | 93 => ⟨S131072x8x8, .f32⟩
  | 94 => ⟨S131072x8x8, .f32⟩
  | 95 => ⟨S_, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072, .f32⟩
  | 102 => ⟨S131072, .f32⟩
  | 103 => ⟨S131072, .f32⟩
  | 104 => ⟨S_, .f32⟩
  | 105 => ⟨S131072, .f32⟩
  | 106 => ⟨S131072, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072, .f32⟩
  | 113 => ⟨S131072, .f32⟩
  | 114 => ⟨S_, .f32⟩
  | 115 => ⟨S131072, .f32⟩
  | 116 => ⟨S131072, .f32⟩
  | 117 => ⟨S_, .f32⟩
  | 118 => ⟨S_, .f32⟩
  | 119 => ⟨S1, .f32⟩
  | 120 => ⟨S_, .f32⟩
  | 121 => ⟨S1, .f32⟩
  | 122 => ⟨S1, .f32⟩
  | _ => ⟨S131072x7, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S131072x7, .f32⟩

abbrev bufTy : (tb : Table) → Fin (tcTables nBuf tb) → BufTy
  | .hbm, ⟨i, _⟩ => hbmTy i
  | _, _ => ⟨S131072x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_0 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_cst_6 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_7 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_8 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_9 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_c : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_c_10 : Ref sig .tc := ⟨.hbm, 97, rfl⟩
abbrev main_v83 : Ref sig .tc := ⟨.hbm, 98, rfl⟩
abbrev main_v84 : Ref sig .tc := ⟨.hbm, 99, rfl⟩
abbrev main_c_11 : Ref sig .tc := ⟨.hbm, 100, rfl⟩
abbrev main_v85 : Ref sig .tc := ⟨.hbm, 101, rfl⟩
abbrev main_v86 : Ref sig .tc := ⟨.hbm, 102, rfl⟩
abbrev main_c_12 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_c_13 : Ref sig .tc := ⟨.hbm, 111, rfl⟩
abbrev main_v94 : Ref sig .tc := ⟨.hbm, 112, rfl⟩
abbrev main_v95 : Ref sig .tc := ⟨.hbm, 113, rfl⟩
abbrev main_c_14 : Ref sig .tc := ⟨.hbm, 114, rfl⟩
abbrev main_v96 : Ref sig .tc := ⟨.hbm, 115, rfl⟩
abbrev main_v97 : Ref sig .tc := ⟨.hbm, 116, rfl⟩
abbrev main_c_15 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_c_16 : Ref sig .tc := ⟨.hbm, 124, rfl⟩
abbrev main_v104 : Ref sig .tc := ⟨.hbm, 125, rfl⟩
abbrev main_v105 : Ref sig .tc := ⟨.hbm, 126, rfl⟩
abbrev main_c_17 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_18 : Ref sig .tc := ⟨.hbm, 131, rfl⟩
abbrev main_cst_19 : Ref sig .tc := ⟨.hbm, 132, rfl⟩
abbrev main_call7_v0 : Ref sig .tc := ⟨.hbm, 133, rfl⟩
abbrev main_call7_v1 : Ref sig .tc := ⟨.hbm, 134, rfl⟩
abbrev main_v109 : Ref sig .tc := ⟨.hbm, 135, rfl⟩
abbrev main_c_20 : Ref sig .tc := ⟨.hbm, 136, rfl⟩
abbrev main_v110 : Ref sig .tc := ⟨.hbm, 137, rfl⟩
abbrev main_v111 : Ref sig .tc := ⟨.hbm, 138, rfl⟩
abbrev main_cst_21 : Ref sig .tc := ⟨.hbm, 139, rfl⟩
abbrev main_cst_22 : Ref sig .tc := ⟨.hbm, 140, rfl⟩
abbrev main_call8_v0 : Ref sig .tc := ⟨.hbm, 141, rfl⟩
abbrev main_call8_v1 : Ref sig .tc := ⟨.hbm, 142, rfl⟩
abbrev main_v112 : Ref sig .tc := ⟨.hbm, 143, rfl⟩
abbrev main_cst_23 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_24 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_25 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_26 : Ref sig .tc := ⟨.hbm, 188, rfl⟩
abbrev main_v154 : Ref sig .tc := ⟨.hbm, 189, rfl⟩
abbrev main_v155 : Ref sig .tc := ⟨.hbm, 190, rfl⟩
abbrev main_cst_27 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_28 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_29 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_30 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_cst_31 : Ref sig .tc := ⟨.hbm, 218, rfl⟩
abbrev main_v179 : Ref sig .tc := ⟨.hbm, 219, rfl⟩
abbrev main_v180 : Ref sig .tc := ⟨.hbm, 220, rfl⟩
abbrev main_cst_32 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_33 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_34 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_35 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_c_36 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_c_37 : Ref sig .tc := ⟨.hbm, 249, rfl⟩
abbrev main_v204 : Ref sig .tc := ⟨.hbm, 250, rfl⟩
abbrev main_v205 : Ref sig .tc := ⟨.hbm, 251, rfl⟩
abbrev main_c_38 : Ref sig .tc := ⟨.hbm, 252, rfl⟩
abbrev main_v206 : Ref sig .tc := ⟨.hbm, 253, rfl⟩
abbrev main_v207 : Ref sig .tc := ⟨.hbm, 254, rfl⟩
abbrev main_c_39 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_c_40 : Ref sig .tc := ⟨.hbm, 263, rfl⟩
abbrev main_v215 : Ref sig .tc := ⟨.hbm, 264, rfl⟩
abbrev main_v216 : Ref sig .tc := ⟨.hbm, 265, rfl⟩
abbrev main_c_41 : Ref sig .tc := ⟨.hbm, 266, rfl⟩
abbrev main_v217 : Ref sig .tc := ⟨.hbm, 267, rfl⟩
abbrev main_v218 : Ref sig .tc := ⟨.hbm, 268, rfl⟩
abbrev main_c_42 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_c_43 : Ref sig .tc := ⟨.hbm, 276, rfl⟩
abbrev main_v225 : Ref sig .tc := ⟨.hbm, 277, rfl⟩
abbrev main_v226 : Ref sig .tc := ⟨.hbm, 278, rfl⟩
abbrev main_c_44 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_45 : Ref sig .tc := ⟨.hbm, 283, rfl⟩
abbrev main_cst_46 : Ref sig .tc := ⟨.hbm, 284, rfl⟩
abbrev main_call16_v0 : Ref sig .tc := ⟨.hbm, 285, rfl⟩
abbrev main_call16_v1 : Ref sig .tc := ⟨.hbm, 286, rfl⟩
abbrev main_v230 : Ref sig .tc := ⟨.hbm, 287, rfl⟩
abbrev main_c_47 : Ref sig .tc := ⟨.hbm, 288, rfl⟩
abbrev main_v231 : Ref sig .tc := ⟨.hbm, 289, rfl⟩
abbrev main_v232 : Ref sig .tc := ⟨.hbm, 290, rfl⟩
abbrev main_cst_48 : Ref sig .tc := ⟨.hbm, 291, rfl⟩
abbrev main_cst_49 : Ref sig .tc := ⟨.hbm, 292, rfl⟩
abbrev main_call17_v0 : Ref sig .tc := ⟨.hbm, 293, rfl⟩
abbrev main_call17_v1 : Ref sig .tc := ⟨.hbm, 294, rfl⟩
abbrev main_v233 : Ref sig .tc := ⟨.hbm, 295, rfl⟩
abbrev main_cst_50 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_cst_51 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_cst_52 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_c_53 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_c_54 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_c_55 : Ref sig .tc := ⟨.hbm, 364, rfl⟩
abbrev main_v297 : Ref sig .tc := ⟨.hbm, 365, rfl⟩
abbrev main_v298 : Ref sig .tc := ⟨.hbm, 366, rfl⟩
abbrev main_c_56 : Ref sig .tc := ⟨.hbm, 367, rfl⟩
abbrev main_call18_v0 : Ref sig .tc := ⟨.hbm, 368, rfl⟩
abbrev main_call18_v1 : Ref sig .tc := ⟨.hbm, 369, rfl⟩
abbrev main_call18_v2 : Ref sig .tc := ⟨.hbm, 370, rfl⟩
abbrev main_v299 : Ref sig .tc := ⟨.hbm, 371, rfl⟩
abbrev main_call19_c : Ref sig .tc := ⟨.hbm, 372, rfl⟩
abbrev main_call19_v0 : Ref sig .tc := ⟨.hbm, 373, rfl⟩
abbrev main_call19_v1 : Ref sig .tc := ⟨.hbm, 374, rfl⟩
abbrev main_call19_c_0 : Ref sig .tc := ⟨.hbm, 375, rfl⟩
abbrev main_call19_v2 : Ref sig .tc := ⟨.hbm, 376, rfl⟩
abbrev main_call19_v3 : Ref sig .tc := ⟨.hbm, 377, rfl⟩
abbrev main_call19_v4 : Ref sig .tc := ⟨.hbm, 378, rfl⟩
abbrev main_call19_v5 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_c_57 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_c_58 : Ref sig .tc := ⟨.hbm, 391, rfl⟩
abbrev main_v310 : Ref sig .tc := ⟨.hbm, 392, rfl⟩
abbrev main_v311 : Ref sig .tc := ⟨.hbm, 393, rfl⟩
abbrev main_c_59 : Ref sig .tc := ⟨.hbm, 394, rfl⟩
abbrev main_call20_v0 : Ref sig .tc := ⟨.hbm, 395, rfl⟩
abbrev main_call20_v1 : Ref sig .tc := ⟨.hbm, 396, rfl⟩
abbrev main_call20_v2 : Ref sig .tc := ⟨.hbm, 397, rfl⟩
abbrev main_v312 : Ref sig .tc := ⟨.hbm, 398, rfl⟩
abbrev main_call21_c : Ref sig .tc := ⟨.hbm, 399, rfl⟩
abbrev main_call21_v0 : Ref sig .tc := ⟨.hbm, 400, rfl⟩
abbrev main_call21_v1 : Ref sig .tc := ⟨.hbm, 401, rfl⟩
abbrev main_call21_c_0 : Ref sig .tc := ⟨.hbm, 402, rfl⟩
abbrev main_call21_v2 : Ref sig .tc := ⟨.hbm, 403, rfl⟩
abbrev main_call21_v3 : Ref sig .tc := ⟨.hbm, 404, rfl⟩
abbrev main_call21_v4 : Ref sig .tc := ⟨.hbm, 405, rfl⟩
abbrev main_call21_v5 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_v328 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_v332 : Ref sig .tc := ⟨.hbm, 426, rfl⟩
abbrev main_v333 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_v338 : Ref sig .tc := ⟨.hbm, 432, rfl⟩
abbrev main_v339 : Ref sig .tc := ⟨.hbm, 433, rfl⟩
abbrev main_cst_60 : Ref sig .tc := ⟨.hbm, 434, rfl⟩
abbrev main_v340 : Ref sig .tc := ⟨.hbm, 435, rfl⟩
abbrev main_v341 : Ref sig .tc := ⟨.hbm, 436, rfl⟩
abbrev main_cst_61 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_cst_62 : Ref sig .tc := ⟨.hbm, 442, rfl⟩
abbrev main_v346 : Ref sig .tc := ⟨.hbm, 443, rfl⟩
abbrev main_v347 : Ref sig .tc := ⟨.hbm, 444, rfl⟩
abbrev main_cst_63 : Ref sig .tc := ⟨.hbm, 445, rfl⟩
abbrev main_call22_v0 : Ref sig .tc := ⟨.hbm, 446, rfl⟩
abbrev main_call22_v1 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_call23_call0_c : Ref sig .tc := ⟨.hbm, 462, rfl⟩
abbrev main_call23_call0_v0 : Ref sig .tc := ⟨.hbm, 463, rfl⟩
abbrev main_v362 : Ref sig .tc := ⟨.hbm, 464, rfl⟩
abbrev main_v363 : Ref sig .tc := ⟨.hbm, 465, rfl⟩
abbrev main_c_64 : Ref sig .tc := ⟨.hbm, 466, rfl⟩
abbrev main_call24_v0 : Ref sig .tc := ⟨.hbm, 467, rfl⟩
abbrev main_call24_v1 : Ref sig .tc := ⟨.hbm, 468, rfl⟩
abbrev main_v364 : Ref sig .tc := ⟨.hbm, 469, rfl⟩
abbrev main_v365 : Ref sig .tc := ⟨.hbm, 470, rfl⟩
abbrev main_c_65 : Ref sig .tc := ⟨.hbm, 471, rfl⟩
abbrev main_call25_v0 : Ref sig .tc := ⟨.hbm, 472, rfl⟩
abbrev main_call25_v1 : Ref sig .tc := ⟨.hbm, 473, rfl⟩
abbrev main_v366 : Ref sig .tc := ⟨.hbm, 474, rfl⟩
abbrev main_v367 : Ref sig .tc := ⟨.hbm, 475, rfl⟩
abbrev main_v368 : Ref sig .tc := ⟨.hbm, 476, rfl⟩
abbrev main_cst_66 : Ref sig .tc := ⟨.hbm, 477, rfl⟩
abbrev main_v369 : Ref sig .tc := ⟨.hbm, 478, rfl⟩
abbrev main_c_67 : Ref sig .tc := ⟨.hbm, 479, rfl⟩
abbrev main_v370 : Ref sig .tc := ⟨.hbm, 480, rfl⟩
abbrev main_v371 : Ref sig .tc := ⟨.hbm, 481, rfl⟩
abbrev main_c_68 : Ref sig .tc := ⟨.hbm, 482, rfl⟩
abbrev main_v372 : Ref sig .tc := ⟨.hbm, 483, rfl⟩
abbrev main_v373 : Ref sig .tc := ⟨.hbm, 484, rfl⟩
abbrev main_v374 : Ref sig .tc := ⟨.hbm, 485, rfl⟩
abbrev main_c_69 : Ref sig .tc := ⟨.hbm, 486, rfl⟩
abbrev main_v375 : Ref sig .tc := ⟨.hbm, 487, rfl⟩
abbrev main_v376 : Ref sig .tc := ⟨.hbm, 488, rfl⟩
abbrev main_c_70 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_c_71 : Ref sig .tc := ⟨.hbm, 498, rfl⟩
abbrev main_v385 : Ref sig .tc := ⟨.hbm, 499, rfl⟩
abbrev main_v386 : Ref sig .tc := ⟨.hbm, 500, rfl⟩
abbrev main_c_72 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_c_73 : Ref sig .tc := ⟨.hbm, 505, rfl⟩
abbrev main_v390 : Ref sig .tc := ⟨.hbm, 506, rfl⟩
abbrev main_v391 : Ref sig .tc := ⟨.hbm, 507, rfl⟩
abbrev main_c_74 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_v397 : Ref sig .tc := ⟨.hbm, 514, rfl⟩
abbrev main_v398 : Ref sig .tc := ⟨.hbm, 515, rfl⟩
abbrev main_v399 : Ref sig .tc := ⟨.hbm, 516, rfl⟩
abbrev main_c_75 : Ref sig .tc := ⟨.hbm, 517, rfl⟩
abbrev main_v400 : Ref sig .tc := ⟨.hbm, 518, rfl⟩
abbrev main_v401 : Ref sig .tc := ⟨.hbm, 519, rfl⟩
abbrev main_c_76 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_c_77 : Ref sig .tc := ⟨.hbm, 524, rfl⟩
abbrev main_v405 : Ref sig .tc := ⟨.hbm, 525, rfl⟩
abbrev main_v406 : Ref sig .tc := ⟨.hbm, 526, rfl⟩
abbrev main_c_78 : Ref sig .tc := ⟨.hbm, 527, rfl⟩
abbrev main_v407 : Ref sig .tc := ⟨.hbm, 528, rfl⟩
abbrev main_v408 : Ref sig .tc := ⟨.hbm, 529, rfl⟩
abbrev main_v409 : Ref sig .tc := ⟨.hbm, 530, rfl⟩
abbrev main_v410 : Ref sig .tc := ⟨.hbm, 531, rfl⟩
abbrev main_v411 : Ref sig .tc := ⟨.hbm, 532, rfl⟩
abbrev main_v412 : Ref sig .tc := ⟨.hbm, 533, rfl⟩
abbrev main_v413 : Ref sig .tc := ⟨.hbm, 534, rfl⟩
abbrev main_v414 : Ref sig .tc := ⟨.hbm, 535, rfl⟩
abbrev main_c_79 : Ref sig .tc := ⟨.hbm, 536, rfl⟩
abbrev main_v415 : Ref sig .tc := ⟨.hbm, 537, rfl⟩
abbrev main_v416 : Ref sig .tc := ⟨.hbm, 538, rfl⟩
abbrev main_c_80 : Ref sig .tc := ⟨.hbm, 539, rfl⟩
abbrev main_v417 : Ref sig .tc := ⟨.hbm, 540, rfl⟩
abbrev main_v418 : Ref sig .tc := ⟨.hbm, 541, rfl⟩
abbrev main_v419 : Ref sig .tc := ⟨.hbm, 542, rfl⟩
abbrev main_c_81 : Ref sig .tc := ⟨.hbm, 543, rfl⟩
abbrev main_v420 : Ref sig .tc := ⟨.hbm, 544, rfl⟩
abbrev main_v421 : Ref sig .tc := ⟨.hbm, 545, rfl⟩
abbrev main_c_82 : Ref sig .tc := ⟨.hbm, 546, rfl⟩
abbrev main_v422 : Ref sig .tc := ⟨.hbm, 547, rfl⟩
abbrev main_v423 : Ref sig .tc := ⟨.hbm, 548, rfl⟩
abbrev main_v424 : Ref sig .tc := ⟨.hbm, 549, rfl⟩
abbrev main_v425 : Ref sig .tc := ⟨.hbm, 550, rfl⟩
abbrev main_v426 : Ref sig .tc := ⟨.hbm, 551, rfl⟩
abbrev main_v427 : Ref sig .tc := ⟨.hbm, 552, rfl⟩
abbrev main_v428 : Ref sig .tc := ⟨.hbm, 553, rfl⟩
abbrev main_v429 : Ref sig .tc := ⟨.hbm, 554, rfl⟩
abbrev main_v430 : Ref sig .tc := ⟨.hbm, 555, rfl⟩
abbrev main_v431 : Ref sig .tc := ⟨.hbm, 556, rfl⟩
abbrev main_c_83 : Ref sig .tc := ⟨.hbm, 557, rfl⟩
abbrev main_v432 : Ref sig .tc := ⟨.hbm, 558, rfl⟩
abbrev main_v433 : Ref sig .tc := ⟨.hbm, 559, rfl⟩
abbrev main_v434 : Ref sig .tc := ⟨.hbm, 560, rfl⟩
abbrev main_v435 : Ref sig .tc := ⟨.hbm, 561, rfl⟩
abbrev main_v436 : Ref sig .tc := ⟨.hbm, 562, rfl⟩
abbrev main_v437 : Ref sig .tc := ⟨.hbm, 563, rfl⟩
abbrev main_v438 : Ref sig .tc := ⟨.hbm, 564, rfl⟩
abbrev main_v439 : Ref sig .tc := ⟨.hbm, 565, rfl⟩
abbrev main_v440 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_v444 : Ref sig .tc := ⟨.hbm, 570, rfl⟩
abbrev main_v445 : Ref sig .tc := ⟨.hbm, 571, rfl⟩
abbrev main_v446 : Ref sig .tc := ⟨.hbm, 572, rfl⟩
abbrev main_v447 : Ref sig .tc := ⟨.hbm, 573, rfl⟩
abbrev main_v448 : Ref sig .tc := ⟨.hbm, 574, rfl⟩
abbrev main_c_84 : Ref sig .tc := ⟨.hbm, 575, rfl⟩
abbrev main_v449 : Ref sig .tc := ⟨.hbm, 576, rfl⟩
abbrev main_v450 : Ref sig .tc := ⟨.hbm, 577, rfl⟩
abbrev main_v451 : Ref sig .tc := ⟨.hbm, 578, rfl⟩
abbrev main_v452 : Ref sig .tc := ⟨.hbm, 579, rfl⟩
abbrev main_v453 : Ref sig .tc := ⟨.hbm, 580, rfl⟩
abbrev main_v454 : Ref sig .tc := ⟨.hbm, 581, rfl⟩
abbrev main_v455 : Ref sig .tc := ⟨.hbm, 582, rfl⟩
abbrev main_c_85 : Ref sig .tc := ⟨.hbm, 583, rfl⟩
abbrev main_v456 : Ref sig .tc := ⟨.hbm, 584, rfl⟩
abbrev main_v457 : Ref sig .tc := ⟨.hbm, 585, rfl⟩
abbrev main_c_86 : Ref sig .tc := ⟨.hbm, 586, rfl⟩
abbrev main_call26_v0 : Ref sig .tc := ⟨.hbm, 587, rfl⟩
abbrev main_call26_v1 : Ref sig .tc := ⟨.hbm, 588, rfl⟩
abbrev main_call26_v2 : Ref sig .tc := ⟨.hbm, 589, rfl⟩
abbrev main_v458 : Ref sig .tc := ⟨.hbm, 590, rfl⟩
abbrev main_call27_c : Ref sig .tc := ⟨.hbm, 591, rfl⟩
abbrev main_call27_v0 : Ref sig .tc := ⟨.hbm, 592, rfl⟩
abbrev main_call27_v1 : Ref sig .tc := ⟨.hbm, 593, rfl⟩
abbrev main_call27_c_0 : Ref sig .tc := ⟨.hbm, 594, rfl⟩
abbrev main_call27_v2 : Ref sig .tc := ⟨.hbm, 595, rfl⟩
abbrev main_call27_v3 : Ref sig .tc := ⟨.hbm, 596, rfl⟩
abbrev main_call27_v4 : Ref sig .tc := ⟨.hbm, 597, rfl⟩
abbrev main_call27_v5 : Ref sig .tc := ⟨.hbm, 598, rfl⟩
abbrev main_v459 : Ref sig .tc := ⟨.hbm, 599, rfl⟩
abbrev main_v460 : Ref sig .tc := ⟨.hbm, 600, rfl⟩
abbrev main_v461 : Ref sig .tc := ⟨.hbm, 601, rfl⟩
abbrev main_c_87 : Ref sig .tc := ⟨.hbm, 602, rfl⟩
abbrev main_v462 : Ref sig .tc := ⟨.hbm, 603, rfl⟩
abbrev main_v463 : Ref sig .tc := ⟨.hbm, 604, rfl⟩
abbrev main_v464 : Ref sig .tc := ⟨.hbm, 605, rfl⟩
abbrev main_v465 : Ref sig .tc := ⟨.hbm, 606, rfl⟩
abbrev main_v466 : Ref sig .tc := ⟨.hbm, 607, rfl⟩
abbrev main_v467 : Ref sig .tc := ⟨.hbm, 608, rfl⟩
abbrev main_v468 : Ref sig .tc := ⟨.hbm, 609, rfl⟩
abbrev main_c_88 : Ref sig .tc := ⟨.hbm, 610, rfl⟩
abbrev main_v469 : Ref sig .tc := ⟨.hbm, 611, rfl⟩
abbrev main_v470 : Ref sig .tc := ⟨.hbm, 612, rfl⟩
abbrev main_c_89 : Ref sig .tc := ⟨.hbm, 613, rfl⟩
abbrev main_call28_v0 : Ref sig .tc := ⟨.hbm, 614, rfl⟩
abbrev main_call28_v1 : Ref sig .tc := ⟨.hbm, 615, rfl⟩
abbrev main_call28_v2 : Ref sig .tc := ⟨.hbm, 616, rfl⟩
abbrev main_v471 : Ref sig .tc := ⟨.hbm, 617, rfl⟩
abbrev main_call29_c : Ref sig .tc := ⟨.hbm, 618, rfl⟩
abbrev main_call29_v0 : Ref sig .tc := ⟨.hbm, 619, rfl⟩
abbrev main_call29_v1 : Ref sig .tc := ⟨.hbm, 620, rfl⟩
abbrev main_call29_c_0 : Ref sig .tc := ⟨.hbm, 621, rfl⟩
abbrev main_call29_v2 : Ref sig .tc := ⟨.hbm, 622, rfl⟩
abbrev main_call29_v3 : Ref sig .tc := ⟨.hbm, 623, rfl⟩
abbrev main_call29_v4 : Ref sig .tc := ⟨.hbm, 624, rfl⟩
abbrev main_call29_v5 : Ref sig .tc := ⟨.hbm, 625, rfl⟩
abbrev main_v472 : Ref sig .tc := ⟨.hbm, 626, rfl⟩
abbrev main_v473 : Ref sig .tc := ⟨.hbm, 627, rfl⟩
abbrev main_v474 : Ref sig .tc := ⟨.hbm, 628, rfl⟩
abbrev main_v475 : Ref sig .tc := ⟨.hbm, 629, rfl⟩
abbrev main_v476 : Ref sig .tc := ⟨.hbm, 630, rfl⟩
abbrev main_v477 : Ref sig .tc := ⟨.hbm, 631, rfl⟩
abbrev main_v478 : Ref sig .tc := ⟨.hbm, 632, rfl⟩
abbrev main_v479 : Ref sig .tc := ⟨.hbm, 633, rfl⟩
abbrev main_v480 : Ref sig .tc := ⟨.hbm, 634, rfl⟩
abbrev main_v481 : Ref sig .tc := ⟨.hbm, 635, rfl⟩
abbrev main_v482 : Ref sig .tc := ⟨.hbm, 636, rfl⟩
abbrev main_v483 : Ref sig .tc := ⟨.hbm, 637, rfl⟩
abbrev main_v484 : Ref sig .tc := ⟨.hbm, 638, rfl⟩
abbrev main_v485 : Ref sig .tc := ⟨.hbm, 639, rfl⟩
abbrev main_v486 : Ref sig .tc := ⟨.hbm, 640, rfl⟩
abbrev main_v487 : Ref sig .tc := ⟨.hbm, 641, rfl⟩
abbrev main_v488 : Ref sig .tc := ⟨.hbm, 642, rfl⟩
abbrev main_v489 : Ref sig .tc := ⟨.hbm, 643, rfl⟩
abbrev main_v490 : Ref sig .tc := ⟨.hbm, 644, rfl⟩
abbrev main_v491 : Ref sig .tc := ⟨.hbm, 645, rfl⟩
abbrev main_v492 : Ref sig .tc := ⟨.hbm, 646, rfl⟩
abbrev main_v493 : Ref sig .tc := ⟨.hbm, 647, rfl⟩
abbrev main_v494 : Ref sig .tc := ⟨.hbm, 648, rfl⟩
abbrev main_v495 : Ref sig .tc := ⟨.hbm, 649, rfl⟩
abbrev main_v496 : Ref sig .tc := ⟨.hbm, 650, rfl⟩
abbrev main_v497 : Ref sig .tc := ⟨.hbm, 651, rfl⟩
abbrev main_v498 : Ref sig .tc := ⟨.hbm, 652, rfl⟩
abbrev main_cst_90 : Ref sig .tc := ⟨.hbm, 653, rfl⟩
abbrev main_v499 : Ref sig .tc := ⟨.hbm, 654, rfl⟩
abbrev main_v500 : Ref sig .tc := ⟨.hbm, 655, rfl⟩
abbrev main_cst_91 : Ref sig .tc := ⟨.hbm, 656, rfl⟩
abbrev main_v501 : Ref sig .tc := ⟨.hbm, 657, rfl⟩
abbrev main_v502 : Ref sig .tc := ⟨.hbm, 658, rfl⟩
abbrev main_v503 : Ref sig .tc := ⟨.hbm, 659, rfl⟩
abbrev main_v504 : Ref sig .tc := ⟨.hbm, 660, rfl⟩
abbrev main_cst_92 : Ref sig .tc := ⟨.hbm, 661, rfl⟩
abbrev main_v505 : Ref sig .tc := ⟨.hbm, 662, rfl⟩
abbrev main_v506 : Ref sig .tc := ⟨.hbm, 663, rfl⟩
abbrev main_cst_93 : Ref sig .tc := ⟨.hbm, 664, rfl⟩
abbrev main_call30_v0 : Ref sig .tc := ⟨.hbm, 665, rfl⟩
abbrev main_call30_v1 : Ref sig .tc := ⟨.hbm, 666, rfl⟩
abbrev main_v507 : Ref sig .tc := ⟨.hbm, 667, rfl⟩
abbrev main_v508 : Ref sig .tc := ⟨.hbm, 668, rfl⟩
abbrev main_v509 : Ref sig .tc := ⟨.hbm, 669, rfl⟩
abbrev main_v510 : Ref sig .tc := ⟨.hbm, 670, rfl⟩
abbrev main_v511 : Ref sig .tc := ⟨.hbm, 671, rfl⟩
abbrev main_v512 : Ref sig .tc := ⟨.hbm, 672, rfl⟩
abbrev main_v513 : Ref sig .tc := ⟨.hbm, 673, rfl⟩
abbrev main_v514 : Ref sig .tc := ⟨.hbm, 674, rfl⟩
abbrev main_v515 : Ref sig .tc := ⟨.hbm, 675, rfl⟩
abbrev main_v516 : Ref sig .tc := ⟨.hbm, 676, rfl⟩
abbrev main_v517 : Ref sig .tc := ⟨.hbm, 677, rfl⟩
abbrev main_v518 : Ref sig .tc := ⟨.hbm, 678, rfl⟩
abbrev main_v519 : Ref sig .tc := ⟨.hbm, 679, rfl⟩
abbrev main_v520 : Ref sig .tc := ⟨.hbm, 680, rfl⟩
abbrev main_call31_call0_c : Ref sig .tc := ⟨.hbm, 681, rfl⟩
abbrev main_call31_call0_v0 : Ref sig .tc := ⟨.hbm, 682, rfl⟩
abbrev main_v521 : Ref sig .tc := ⟨.hbm, 683, rfl⟩
abbrev main_v522 : Ref sig .tc := ⟨.hbm, 684, rfl⟩
abbrev main_c_94 : Ref sig .tc := ⟨.hbm, 685, rfl⟩
abbrev main_call32_v0 : Ref sig .tc := ⟨.hbm, 686, rfl⟩
abbrev main_call32_v1 : Ref sig .tc := ⟨.hbm, 687, rfl⟩
abbrev main_v523 : Ref sig .tc := ⟨.hbm, 688, rfl⟩
abbrev main_v524 : Ref sig .tc := ⟨.hbm, 689, rfl⟩
abbrev main_c_95 : Ref sig .tc := ⟨.hbm, 690, rfl⟩
abbrev main_call33_v0 : Ref sig .tc := ⟨.hbm, 691, rfl⟩
abbrev main_call33_v1 : Ref sig .tc := ⟨.hbm, 692, rfl⟩
abbrev main_v525 : Ref sig .tc := ⟨.hbm, 693, rfl⟩
abbrev main_v526 : Ref sig .tc := ⟨.hbm, 694, rfl⟩
abbrev main_v527 : Ref sig .tc := ⟨.hbm, 695, rfl⟩
abbrev main_cst_96 : Ref sig .tc := ⟨.hbm, 696, rfl⟩
abbrev main_v528 : Ref sig .tc := ⟨.hbm, 697, rfl⟩
abbrev main_c_97 : Ref sig .tc := ⟨.hbm, 698, rfl⟩
abbrev main_v529 : Ref sig .tc := ⟨.hbm, 699, rfl⟩
abbrev main_v530 : Ref sig .tc := ⟨.hbm, 700, rfl⟩
abbrev main_c_98 : Ref sig .tc := ⟨.hbm, 701, rfl⟩
abbrev main_v531 : Ref sig .tc := ⟨.hbm, 702, rfl⟩
abbrev main_v532 : Ref sig .tc := ⟨.hbm, 703, rfl⟩
abbrev main_v533 : Ref sig .tc := ⟨.hbm, 704, rfl⟩
abbrev main_c_99 : Ref sig .tc := ⟨.hbm, 705, rfl⟩
abbrev main_v534 : Ref sig .tc := ⟨.hbm, 706, rfl⟩
abbrev main_v535 : Ref sig .tc := ⟨.hbm, 707, rfl⟩
abbrev main_c_100 : Ref sig .tc := ⟨.hbm, 708, rfl⟩
abbrev main_v536 : Ref sig .tc := ⟨.hbm, 709, rfl⟩
abbrev main_v537 : Ref sig .tc := ⟨.hbm, 710, rfl⟩
abbrev main_v538 : Ref sig .tc := ⟨.hbm, 711, rfl⟩
abbrev main_v539 : Ref sig .tc := ⟨.hbm, 712, rfl⟩
abbrev main_v540 : Ref sig .tc := ⟨.hbm, 713, rfl⟩
abbrev main_v541 : Ref sig .tc := ⟨.hbm, 714, rfl⟩
abbrev main_v542 : Ref sig .tc := ⟨.hbm, 715, rfl⟩
abbrev main_v543 : Ref sig .tc := ⟨.hbm, 716, rfl⟩
abbrev main_c_101 : Ref sig .tc := ⟨.hbm, 717, rfl⟩
abbrev main_v544 : Ref sig .tc := ⟨.hbm, 718, rfl⟩
abbrev main_v545 : Ref sig .tc := ⟨.hbm, 719, rfl⟩
abbrev main_c_102 : Ref sig .tc := ⟨.hbm, 720, rfl⟩
abbrev main_v546 : Ref sig .tc := ⟨.hbm, 721, rfl⟩
abbrev main_v547 : Ref sig .tc := ⟨.hbm, 722, rfl⟩
abbrev main_v548 : Ref sig .tc := ⟨.hbm, 723, rfl⟩
abbrev main_c_103 : Ref sig .tc := ⟨.hbm, 724, rfl⟩
abbrev main_v549 : Ref sig .tc := ⟨.hbm, 725, rfl⟩
abbrev main_v550 : Ref sig .tc := ⟨.hbm, 726, rfl⟩
abbrev main_c_104 : Ref sig .tc := ⟨.hbm, 727, rfl⟩
abbrev main_v551 : Ref sig .tc := ⟨.hbm, 728, rfl⟩
abbrev main_v552 : Ref sig .tc := ⟨.hbm, 729, rfl⟩
abbrev main_v553 : Ref sig .tc := ⟨.hbm, 730, rfl⟩
abbrev main_v554 : Ref sig .tc := ⟨.hbm, 731, rfl⟩
abbrev main_v555 : Ref sig .tc := ⟨.hbm, 732, rfl⟩
abbrev main_v556 : Ref sig .tc := ⟨.hbm, 733, rfl⟩
abbrev main_v557 : Ref sig .tc := ⟨.hbm, 734, rfl⟩
abbrev main_v558 : Ref sig .tc := ⟨.hbm, 735, rfl⟩
abbrev main_c_105 : Ref sig .tc := ⟨.hbm, 736, rfl⟩
abbrev main_v559 : Ref sig .tc := ⟨.hbm, 737, rfl⟩
abbrev main_v560 : Ref sig .tc := ⟨.hbm, 738, rfl⟩
abbrev main_c_106 : Ref sig .tc := ⟨.hbm, 739, rfl⟩
abbrev main_v561 : Ref sig .tc := ⟨.hbm, 740, rfl⟩
abbrev main_v562 : Ref sig .tc := ⟨.hbm, 741, rfl⟩
abbrev main_v563 : Ref sig .tc := ⟨.hbm, 742, rfl⟩
abbrev main_c_107 : Ref sig .tc := ⟨.hbm, 743, rfl⟩
abbrev main_v564 : Ref sig .tc := ⟨.hbm, 744, rfl⟩
abbrev main_v565 : Ref sig .tc := ⟨.hbm, 745, rfl⟩
abbrev main_c_108 : Ref sig .tc := ⟨.hbm, 746, rfl⟩
abbrev main_v566 : Ref sig .tc := ⟨.hbm, 747, rfl⟩
abbrev main_v567 : Ref sig .tc := ⟨.hbm, 748, rfl⟩
abbrev main_v568 : Ref sig .tc := ⟨.hbm, 749, rfl⟩
abbrev main_v569 : Ref sig .tc := ⟨.hbm, 750, rfl⟩
abbrev main_v570 : Ref sig .tc := ⟨.hbm, 751, rfl⟩
abbrev main_v571 : Ref sig .tc := ⟨.hbm, 752, rfl⟩
abbrev main_v572 : Ref sig .tc := ⟨.hbm, 753, rfl⟩
abbrev main_v573 : Ref sig .tc := ⟨.hbm, 754, rfl⟩
abbrev main_c_109 : Ref sig .tc := ⟨.hbm, 755, rfl⟩
abbrev main_v574 : Ref sig .tc := ⟨.hbm, 756, rfl⟩
abbrev main_v575 : Ref sig .tc := ⟨.hbm, 757, rfl⟩
abbrev main_c_110 : Ref sig .tc := ⟨.hbm, 758, rfl⟩
abbrev main_v576 : Ref sig .tc := ⟨.hbm, 759, rfl⟩
abbrev main_v577 : Ref sig .tc := ⟨.hbm, 760, rfl⟩
abbrev main_v578 : Ref sig .tc := ⟨.hbm, 761, rfl⟩
abbrev main_c_111 : Ref sig .tc := ⟨.hbm, 762, rfl⟩
abbrev main_v579 : Ref sig .tc := ⟨.hbm, 763, rfl⟩
abbrev main_v580 : Ref sig .tc := ⟨.hbm, 764, rfl⟩
abbrev main_c_112 : Ref sig .tc := ⟨.hbm, 765, rfl⟩
abbrev main_v581 : Ref sig .tc := ⟨.hbm, 766, rfl⟩
abbrev main_v582 : Ref sig .tc := ⟨.hbm, 767, rfl⟩
abbrev main_v583 : Ref sig .tc := ⟨.hbm, 768, rfl⟩
abbrev main_v584 : Ref sig .tc := ⟨.hbm, 769, rfl⟩
abbrev main_v585 : Ref sig .tc := ⟨.hbm, 770, rfl⟩
abbrev main_v586 : Ref sig .tc := ⟨.hbm, 771, rfl⟩
abbrev main_v587 : Ref sig .tc := ⟨.hbm, 772, rfl⟩
abbrev main_v588 : Ref sig .tc := ⟨.hbm, 773, rfl⟩
abbrev main_v589 : Ref sig .tc := ⟨.hbm, 774, rfl⟩
abbrev main_v590 : Ref sig .tc := ⟨.hbm, 775, rfl⟩
abbrev main_c_113 : Ref sig .tc := ⟨.hbm, 776, rfl⟩
abbrev main_v591 : Ref sig .tc := ⟨.hbm, 777, rfl⟩
abbrev main_v592 : Ref sig .tc := ⟨.hbm, 778, rfl⟩
abbrev main_v593 : Ref sig .tc := ⟨.hbm, 779, rfl⟩
abbrev main_v594 : Ref sig .tc := ⟨.hbm, 780, rfl⟩
abbrev main_v595 : Ref sig .tc := ⟨.hbm, 781, rfl⟩
abbrev main_v596 : Ref sig .tc := ⟨.hbm, 782, rfl⟩
abbrev main_v597 : Ref sig .tc := ⟨.hbm, 783, rfl⟩
abbrev main_v598 : Ref sig .tc := ⟨.hbm, 784, rfl⟩
abbrev main_v599 : Ref sig .tc := ⟨.hbm, 785, rfl⟩
abbrev main_v600 : Ref sig .tc := ⟨.hbm, 786, rfl⟩
abbrev main_v601 : Ref sig .tc := ⟨.hbm, 787, rfl⟩
abbrev main_v602 : Ref sig .tc := ⟨.hbm, 788, rfl⟩
abbrev main_v603 : Ref sig .tc := ⟨.hbm, 789, rfl⟩
abbrev main_v604 : Ref sig .tc := ⟨.hbm, 790, rfl⟩
abbrev main_v605 : Ref sig .tc := ⟨.hbm, 791, rfl⟩
abbrev main_v606 : Ref sig .tc := ⟨.hbm, 792, rfl⟩
abbrev main_v607 : Ref sig .tc := ⟨.hbm, 793, rfl⟩
abbrev main_c_114 : Ref sig .tc := ⟨.hbm, 794, rfl⟩
abbrev main_v608 : Ref sig .tc := ⟨.hbm, 795, rfl⟩
abbrev main_v609 : Ref sig .tc := ⟨.hbm, 796, rfl⟩
abbrev main_v610 : Ref sig .tc := ⟨.hbm, 797, rfl⟩
abbrev main_v611 : Ref sig .tc := ⟨.hbm, 798, rfl⟩
abbrev main_v612 : Ref sig .tc := ⟨.hbm, 799, rfl⟩
abbrev main_v613 : Ref sig .tc := ⟨.hbm, 800, rfl⟩
abbrev main_v614 : Ref sig .tc := ⟨.hbm, 801, rfl⟩
abbrev main_c_115 : Ref sig .tc := ⟨.hbm, 802, rfl⟩
abbrev main_v615 : Ref sig .tc := ⟨.hbm, 803, rfl⟩
abbrev main_v616 : Ref sig .tc := ⟨.hbm, 804, rfl⟩
abbrev main_c_116 : Ref sig .tc := ⟨.hbm, 805, rfl⟩
abbrev main_call34_v0 : Ref sig .tc := ⟨.hbm, 806, rfl⟩
abbrev main_call34_v1 : Ref sig .tc := ⟨.hbm, 807, rfl⟩
abbrev main_call34_v2 : Ref sig .tc := ⟨.hbm, 808, rfl⟩
abbrev main_v617 : Ref sig .tc := ⟨.hbm, 809, rfl⟩
abbrev main_call35_c : Ref sig .tc := ⟨.hbm, 810, rfl⟩
abbrev main_call35_v0 : Ref sig .tc := ⟨.hbm, 811, rfl⟩
abbrev main_call35_v1 : Ref sig .tc := ⟨.hbm, 812, rfl⟩
abbrev main_call35_c_0 : Ref sig .tc := ⟨.hbm, 813, rfl⟩
abbrev main_call35_v2 : Ref sig .tc := ⟨.hbm, 814, rfl⟩
abbrev main_call35_v3 : Ref sig .tc := ⟨.hbm, 815, rfl⟩
abbrev main_call35_v4 : Ref sig .tc := ⟨.hbm, 816, rfl⟩
abbrev main_call35_v5 : Ref sig .tc := ⟨.hbm, 817, rfl⟩
abbrev main_v618 : Ref sig .tc := ⟨.hbm, 818, rfl⟩
abbrev main_v619 : Ref sig .tc := ⟨.hbm, 819, rfl⟩
abbrev main_v620 : Ref sig .tc := ⟨.hbm, 820, rfl⟩
abbrev main_c_117 : Ref sig .tc := ⟨.hbm, 821, rfl⟩
abbrev main_v621 : Ref sig .tc := ⟨.hbm, 822, rfl⟩
abbrev main_v622 : Ref sig .tc := ⟨.hbm, 823, rfl⟩
abbrev main_v623 : Ref sig .tc := ⟨.hbm, 824, rfl⟩
abbrev main_v624 : Ref sig .tc := ⟨.hbm, 825, rfl⟩
abbrev main_v625 : Ref sig .tc := ⟨.hbm, 826, rfl⟩
abbrev main_v626 : Ref sig .tc := ⟨.hbm, 827, rfl⟩
abbrev main_v627 : Ref sig .tc := ⟨.hbm, 828, rfl⟩
abbrev main_c_118 : Ref sig .tc := ⟨.hbm, 829, rfl⟩
abbrev main_v628 : Ref sig .tc := ⟨.hbm, 830, rfl⟩
abbrev main_v629 : Ref sig .tc := ⟨.hbm, 831, rfl⟩
abbrev main_c_119 : Ref sig .tc := ⟨.hbm, 832, rfl⟩
abbrev main_call36_v0 : Ref sig .tc := ⟨.hbm, 833, rfl⟩
abbrev main_call36_v1 : Ref sig .tc := ⟨.hbm, 834, rfl⟩
abbrev main_call36_v2 : Ref sig .tc := ⟨.hbm, 835, rfl⟩
abbrev main_v630 : Ref sig .tc := ⟨.hbm, 836, rfl⟩
abbrev main_call37_c : Ref sig .tc := ⟨.hbm, 837, rfl⟩
abbrev main_call37_v0 : Ref sig .tc := ⟨.hbm, 838, rfl⟩
abbrev main_call37_v1 : Ref sig .tc := ⟨.hbm, 839, rfl⟩
abbrev main_call37_c_0 : Ref sig .tc := ⟨.hbm, 840, rfl⟩
abbrev main_call37_v2 : Ref sig .tc := ⟨.hbm, 841, rfl⟩
abbrev main_call37_v3 : Ref sig .tc := ⟨.hbm, 842, rfl⟩
abbrev main_call37_v4 : Ref sig .tc := ⟨.hbm, 843, rfl⟩
abbrev main_call37_v5 : Ref sig .tc := ⟨.hbm, 844, rfl⟩
abbrev main_v631 : Ref sig .tc := ⟨.hbm, 845, rfl⟩
abbrev main_v632 : Ref sig .tc := ⟨.hbm, 846, rfl⟩
abbrev main_v633 : Ref sig .tc := ⟨.hbm, 847, rfl⟩
abbrev main_v634 : Ref sig .tc := ⟨.hbm, 848, rfl⟩
abbrev main_v635 : Ref sig .tc := ⟨.hbm, 849, rfl⟩
abbrev main_v636 : Ref sig .tc := ⟨.hbm, 850, rfl⟩
abbrev main_v637 : Ref sig .tc := ⟨.hbm, 851, rfl⟩
abbrev main_v638 : Ref sig .tc := ⟨.hbm, 852, rfl⟩
abbrev main_v639 : Ref sig .tc := ⟨.hbm, 853, rfl⟩
abbrev main_v640 : Ref sig .tc := ⟨.hbm, 854, rfl⟩
abbrev main_v641 : Ref sig .tc := ⟨.hbm, 855, rfl⟩
abbrev main_v642 : Ref sig .tc := ⟨.hbm, 856, rfl⟩
abbrev main_v643 : Ref sig .tc := ⟨.hbm, 857, rfl⟩
abbrev main_v644 : Ref sig .tc := ⟨.hbm, 858, rfl⟩
abbrev main_v645 : Ref sig .tc := ⟨.hbm, 859, rfl⟩
abbrev main_v646 : Ref sig .tc := ⟨.hbm, 860, rfl⟩
abbrev main_v647 : Ref sig .tc := ⟨.hbm, 861, rfl⟩
abbrev main_v648 : Ref sig .tc := ⟨.hbm, 862, rfl⟩
abbrev main_v649 : Ref sig .tc := ⟨.hbm, 863, rfl⟩
abbrev main_v650 : Ref sig .tc := ⟨.hbm, 864, rfl⟩
abbrev main_v651 : Ref sig .tc := ⟨.hbm, 865, rfl⟩
abbrev main_v652 : Ref sig .tc := ⟨.hbm, 866, rfl⟩
abbrev main_v653 : Ref sig .tc := ⟨.hbm, 867, rfl⟩
abbrev main_v654 : Ref sig .tc := ⟨.hbm, 868, rfl⟩
abbrev main_v655 : Ref sig .tc := ⟨.hbm, 869, rfl⟩
abbrev main_v656 : Ref sig .tc := ⟨.hbm, 870, rfl⟩
abbrev main_v657 : Ref sig .tc := ⟨.hbm, 871, rfl⟩
abbrev main_cst_120 : Ref sig .tc := ⟨.hbm, 872, rfl⟩
abbrev main_v658 : Ref sig .tc := ⟨.hbm, 873, rfl⟩
abbrev main_v659 : Ref sig .tc := ⟨.hbm, 874, rfl⟩
abbrev main_cst_121 : Ref sig .tc := ⟨.hbm, 875, rfl⟩
abbrev main_v660 : Ref sig .tc := ⟨.hbm, 876, rfl⟩
abbrev main_v661 : Ref sig .tc := ⟨.hbm, 877, rfl⟩
abbrev main_v662 : Ref sig .tc := ⟨.hbm, 878, rfl⟩
abbrev main_v663 : Ref sig .tc := ⟨.hbm, 879, rfl⟩
abbrev main_cst_122 : Ref sig .tc := ⟨.hbm, 880, rfl⟩
abbrev main_v664 : Ref sig .tc := ⟨.hbm, 881, rfl⟩
abbrev main_v665 : Ref sig .tc := ⟨.hbm, 882, rfl⟩
abbrev main_cst_123 : Ref sig .tc := ⟨.hbm, 883, rfl⟩
abbrev main_call38_v0 : Ref sig .tc := ⟨.hbm, 884, rfl⟩
abbrev main_call38_v1 : Ref sig .tc := ⟨.hbm, 885, rfl⟩
abbrev main_v666 : Ref sig .tc := ⟨.hbm, 886, rfl⟩
abbrev main_v667 : Ref sig .tc := ⟨.hbm, 887, rfl⟩
abbrev main_v668 : Ref sig .tc := ⟨.hbm, 888, rfl⟩
abbrev main_v669 : Ref sig .tc := ⟨.hbm, 889, rfl⟩
abbrev main_v670 : Ref sig .tc := ⟨.hbm, 890, rfl⟩
abbrev main_v671 : Ref sig .tc := ⟨.hbm, 891, rfl⟩
abbrev main_v672 : Ref sig .tc := ⟨.hbm, 892, rfl⟩
abbrev main_v673 : Ref sig .tc := ⟨.hbm, 893, rfl⟩
abbrev main_v674 : Ref sig .tc := ⟨.hbm, 894, rfl⟩
abbrev main_v675 : Ref sig .tc := ⟨.hbm, 895, rfl⟩
abbrev main_v676 : Ref sig .tc := ⟨.hbm, 896, rfl⟩
abbrev main_v677 : Ref sig .tc := ⟨.hbm, 897, rfl⟩
abbrev main_v678 : Ref sig .tc := ⟨.hbm, 898, rfl⟩
abbrev main_v679 : Ref sig .tc := ⟨.hbm, 899, rfl⟩
abbrev main_call39_call0_c : Ref sig .tc := ⟨.hbm, 900, rfl⟩
abbrev main_call39_call0_v0 : Ref sig .tc := ⟨.hbm, 901, rfl⟩
abbrev main_v680 : Ref sig .tc := ⟨.hbm, 902, rfl⟩
abbrev main_v681 : Ref sig .tc := ⟨.hbm, 903, rfl⟩
abbrev main_c_124 : Ref sig .tc := ⟨.hbm, 904, rfl⟩
abbrev main_call40_v0 : Ref sig .tc := ⟨.hbm, 905, rfl⟩
abbrev main_call40_v1 : Ref sig .tc := ⟨.hbm, 906, rfl⟩
abbrev main_v682 : Ref sig .tc := ⟨.hbm, 907, rfl⟩
abbrev main_v683 : Ref sig .tc := ⟨.hbm, 908, rfl⟩
abbrev main_c_125 : Ref sig .tc := ⟨.hbm, 909, rfl⟩
abbrev main_call41_v0 : Ref sig .tc := ⟨.hbm, 910, rfl⟩
abbrev main_call41_v1 : Ref sig .tc := ⟨.hbm, 911, rfl⟩
abbrev main_v684 : Ref sig .tc := ⟨.hbm, 912, rfl⟩
abbrev main_v685 : Ref sig .tc := ⟨.hbm, 913, rfl⟩
abbrev main_v686 : Ref sig .tc := ⟨.hbm, 914, rfl⟩
abbrev main_cst_126 : Ref sig .tc := ⟨.hbm, 915, rfl⟩
abbrev main_v687 : Ref sig .tc := ⟨.hbm, 916, rfl⟩
abbrev main_c_127 : Ref sig .tc := ⟨.hbm, 917, rfl⟩
abbrev main_v688 : Ref sig .tc := ⟨.hbm, 918, rfl⟩
abbrev main_v689 : Ref sig .tc := ⟨.hbm, 919, rfl⟩
abbrev main_c_128 : Ref sig .tc := ⟨.hbm, 920, rfl⟩
abbrev main_v690 : Ref sig .tc := ⟨.hbm, 921, rfl⟩
abbrev main_v691 : Ref sig .tc := ⟨.hbm, 922, rfl⟩
abbrev main_v692 : Ref sig .tc := ⟨.hbm, 923, rfl⟩
abbrev main_c_129 : Ref sig .tc := ⟨.hbm, 924, rfl⟩
abbrev main_v693 : Ref sig .tc := ⟨.hbm, 925, rfl⟩
abbrev main_v694 : Ref sig .tc := ⟨.hbm, 926, rfl⟩
abbrev main_c_130 : Ref sig .tc := ⟨.hbm, 927, rfl⟩
abbrev main_v695 : Ref sig .tc := ⟨.hbm, 928, rfl⟩
abbrev main_v696 : Ref sig .tc := ⟨.hbm, 929, rfl⟩
abbrev main_v697 : Ref sig .tc := ⟨.hbm, 930, rfl⟩
abbrev main_v698 : Ref sig .tc := ⟨.hbm, 931, rfl⟩
abbrev main_v699 : Ref sig .tc := ⟨.hbm, 932, rfl⟩
abbrev main_v700 : Ref sig .tc := ⟨.hbm, 933, rfl⟩
abbrev main_v701 : Ref sig .tc := ⟨.hbm, 934, rfl⟩
abbrev main_v702 : Ref sig .tc := ⟨.hbm, 935, rfl⟩
abbrev main_c_131 : Ref sig .tc := ⟨.hbm, 936, rfl⟩
abbrev main_v703 : Ref sig .tc := ⟨.hbm, 937, rfl⟩
abbrev main_v704 : Ref sig .tc := ⟨.hbm, 938, rfl⟩
abbrev main_c_132 : Ref sig .tc := ⟨.hbm, 939, rfl⟩
abbrev main_v705 : Ref sig .tc := ⟨.hbm, 940, rfl⟩
abbrev main_v706 : Ref sig .tc := ⟨.hbm, 941, rfl⟩
abbrev main_v707 : Ref sig .tc := ⟨.hbm, 942, rfl⟩
abbrev main_c_133 : Ref sig .tc := ⟨.hbm, 943, rfl⟩
abbrev main_v708 : Ref sig .tc := ⟨.hbm, 944, rfl⟩
abbrev main_v709 : Ref sig .tc := ⟨.hbm, 945, rfl⟩
abbrev main_c_134 : Ref sig .tc := ⟨.hbm, 946, rfl⟩
abbrev main_v710 : Ref sig .tc := ⟨.hbm, 947, rfl⟩
abbrev main_v711 : Ref sig .tc := ⟨.hbm, 948, rfl⟩
abbrev main_v712 : Ref sig .tc := ⟨.hbm, 949, rfl⟩
abbrev main_v713 : Ref sig .tc := ⟨.hbm, 950, rfl⟩
abbrev main_v714 : Ref sig .tc := ⟨.hbm, 951, rfl⟩
abbrev main_v715 : Ref sig .tc := ⟨.hbm, 952, rfl⟩
abbrev main_v716 : Ref sig .tc := ⟨.hbm, 953, rfl⟩
abbrev main_v717 : Ref sig .tc := ⟨.hbm, 954, rfl⟩
abbrev main_c_135 : Ref sig .tc := ⟨.hbm, 955, rfl⟩
abbrev main_v718 : Ref sig .tc := ⟨.hbm, 956, rfl⟩
abbrev main_v719 : Ref sig .tc := ⟨.hbm, 957, rfl⟩
abbrev main_c_136 : Ref sig .tc := ⟨.hbm, 958, rfl⟩
abbrev main_v720 : Ref sig .tc := ⟨.hbm, 959, rfl⟩
abbrev main_v721 : Ref sig .tc := ⟨.hbm, 960, rfl⟩
abbrev main_v722 : Ref sig .tc := ⟨.hbm, 961, rfl⟩
abbrev main_c_137 : Ref sig .tc := ⟨.hbm, 962, rfl⟩
abbrev main_v723 : Ref sig .tc := ⟨.hbm, 963, rfl⟩
abbrev main_v724 : Ref sig .tc := ⟨.hbm, 964, rfl⟩
abbrev main_c_138 : Ref sig .tc := ⟨.hbm, 965, rfl⟩
abbrev main_v725 : Ref sig .tc := ⟨.hbm, 966, rfl⟩
abbrev main_v726 : Ref sig .tc := ⟨.hbm, 967, rfl⟩
abbrev main_v727 : Ref sig .tc := ⟨.hbm, 968, rfl⟩
abbrev main_v728 : Ref sig .tc := ⟨.hbm, 969, rfl⟩
abbrev main_v729 : Ref sig .tc := ⟨.hbm, 970, rfl⟩
abbrev main_v730 : Ref sig .tc := ⟨.hbm, 971, rfl⟩
abbrev main_v731 : Ref sig .tc := ⟨.hbm, 972, rfl⟩
abbrev main_v732 : Ref sig .tc := ⟨.hbm, 973, rfl⟩
abbrev main_c_139 : Ref sig .tc := ⟨.hbm, 974, rfl⟩
abbrev main_v733 : Ref sig .tc := ⟨.hbm, 975, rfl⟩
abbrev main_v734 : Ref sig .tc := ⟨.hbm, 976, rfl⟩
abbrev main_c_140 : Ref sig .tc := ⟨.hbm, 977, rfl⟩
abbrev main_v735 : Ref sig .tc := ⟨.hbm, 978, rfl⟩
abbrev main_v736 : Ref sig .tc := ⟨.hbm, 979, rfl⟩
abbrev main_v737 : Ref sig .tc := ⟨.hbm, 980, rfl⟩
abbrev main_c_141 : Ref sig .tc := ⟨.hbm, 981, rfl⟩
abbrev main_v738 : Ref sig .tc := ⟨.hbm, 982, rfl⟩
abbrev main_v739 : Ref sig .tc := ⟨.hbm, 983, rfl⟩
abbrev main_c_142 : Ref sig .tc := ⟨.hbm, 984, rfl⟩
abbrev main_v740 : Ref sig .tc := ⟨.hbm, 985, rfl⟩
abbrev main_v741 : Ref sig .tc := ⟨.hbm, 986, rfl⟩
abbrev main_v742 : Ref sig .tc := ⟨.hbm, 987, rfl⟩
abbrev main_v743 : Ref sig .tc := ⟨.hbm, 988, rfl⟩
abbrev main_v744 : Ref sig .tc := ⟨.hbm, 989, rfl⟩
abbrev main_v745 : Ref sig .tc := ⟨.hbm, 990, rfl⟩
abbrev main_v746 : Ref sig .tc := ⟨.hbm, 991, rfl⟩
abbrev main_v747 : Ref sig .tc := ⟨.hbm, 992, rfl⟩
abbrev main_v748 : Ref sig .tc := ⟨.hbm, 993, rfl⟩
abbrev main_v749 : Ref sig .tc := ⟨.hbm, 994, rfl⟩
abbrev main_c_143 : Ref sig .tc := ⟨.hbm, 995, rfl⟩
abbrev main_v750 : Ref sig .tc := ⟨.hbm, 996, rfl⟩
abbrev main_v751 : Ref sig .tc := ⟨.hbm, 997, rfl⟩
abbrev main_v752 : Ref sig .tc := ⟨.hbm, 998, rfl⟩
abbrev main_v753 : Ref sig .tc := ⟨.hbm, 999, rfl⟩
abbrev main_v754 : Ref sig .tc := ⟨.hbm, 1000, rfl⟩
abbrev main_v755 : Ref sig .tc := ⟨.hbm, 1001, rfl⟩
abbrev main_v756 : Ref sig .tc := ⟨.hbm, 1002, rfl⟩
abbrev main_v757 : Ref sig .tc := ⟨.hbm, 1003, rfl⟩
abbrev main_v758 : Ref sig .tc := ⟨.hbm, 1004, rfl⟩
abbrev main_v759 : Ref sig .tc := ⟨.hbm, 1005, rfl⟩
abbrev main_v760 : Ref sig .tc := ⟨.hbm, 1006, rfl⟩
abbrev main_v761 : Ref sig .tc := ⟨.hbm, 1007, rfl⟩
abbrev main_v762 : Ref sig .tc := ⟨.hbm, 1008, rfl⟩
abbrev main_v763 : Ref sig .tc := ⟨.hbm, 1009, rfl⟩
abbrev main_v764 : Ref sig .tc := ⟨.hbm, 1010, rfl⟩
abbrev main_v765 : Ref sig .tc := ⟨.hbm, 1011, rfl⟩
abbrev main_v766 : Ref sig .tc := ⟨.hbm, 1012, rfl⟩
abbrev main_c_144 : Ref sig .tc := ⟨.hbm, 1013, rfl⟩
abbrev main_v767 : Ref sig .tc := ⟨.hbm, 1014, rfl⟩
abbrev main_v768 : Ref sig .tc := ⟨.hbm, 1015, rfl⟩
abbrev main_v769 : Ref sig .tc := ⟨.hbm, 1016, rfl⟩
abbrev main_v770 : Ref sig .tc := ⟨.hbm, 1017, rfl⟩
abbrev main_v771 : Ref sig .tc := ⟨.hbm, 1018, rfl⟩
abbrev main_v772 : Ref sig .tc := ⟨.hbm, 1019, rfl⟩
abbrev main_v773 : Ref sig .tc := ⟨.hbm, 1020, rfl⟩
abbrev main_c_145 : Ref sig .tc := ⟨.hbm, 1021, rfl⟩
abbrev main_v774 : Ref sig .tc := ⟨.hbm, 1022, rfl⟩
abbrev main_v775 : Ref sig .tc := ⟨.hbm, 1023, rfl⟩
abbrev main_c_146 : Ref sig .tc := ⟨.hbm, 1024, rfl⟩
abbrev main_call42_v0 : Ref sig .tc := ⟨.hbm, 1025, rfl⟩
abbrev main_call42_v1 : Ref sig .tc := ⟨.hbm, 1026, rfl⟩
abbrev main_call42_v2 : Ref sig .tc := ⟨.hbm, 1027, rfl⟩
abbrev main_v776 : Ref sig .tc := ⟨.hbm, 1028, rfl⟩
abbrev main_call43_c : Ref sig .tc := ⟨.hbm, 1029, rfl⟩
abbrev main_call43_v0 : Ref sig .tc := ⟨.hbm, 1030, rfl⟩
abbrev main_call43_v1 : Ref sig .tc := ⟨.hbm, 1031, rfl⟩
abbrev main_call43_c_0 : Ref sig .tc := ⟨.hbm, 1032, rfl⟩
abbrev main_call43_v2 : Ref sig .tc := ⟨.hbm, 1033, rfl⟩
abbrev main_call43_v3 : Ref sig .tc := ⟨.hbm, 1034, rfl⟩
abbrev main_call43_v4 : Ref sig .tc := ⟨.hbm, 1035, rfl⟩
abbrev main_call43_v5 : Ref sig .tc := ⟨.hbm, 1036, rfl⟩
abbrev main_v777 : Ref sig .tc := ⟨.hbm, 1037, rfl⟩
abbrev main_v778 : Ref sig .tc := ⟨.hbm, 1038, rfl⟩
abbrev main_v779 : Ref sig .tc := ⟨.hbm, 1039, rfl⟩
abbrev main_c_147 : Ref sig .tc := ⟨.hbm, 1040, rfl⟩
abbrev main_v780 : Ref sig .tc := ⟨.hbm, 1041, rfl⟩
abbrev main_v781 : Ref sig .tc := ⟨.hbm, 1042, rfl⟩
abbrev main_v782 : Ref sig .tc := ⟨.hbm, 1043, rfl⟩
abbrev main_v783 : Ref sig .tc := ⟨.hbm, 1044, rfl⟩
abbrev main_v784 : Ref sig .tc := ⟨.hbm, 1045, rfl⟩
abbrev main_v785 : Ref sig .tc := ⟨.hbm, 1046, rfl⟩
abbrev main_v786 : Ref sig .tc := ⟨.hbm, 1047, rfl⟩
abbrev main_c_148 : Ref sig .tc := ⟨.hbm, 1048, rfl⟩
abbrev main_v787 : Ref sig .tc := ⟨.hbm, 1049, rfl⟩
abbrev main_v788 : Ref sig .tc := ⟨.hbm, 1050, rfl⟩
abbrev main_c_149 : Ref sig .tc := ⟨.hbm, 1051, rfl⟩
abbrev main_call44_v0 : Ref sig .tc := ⟨.hbm, 1052, rfl⟩
abbrev main_call44_v1 : Ref sig .tc := ⟨.hbm, 1053, rfl⟩
abbrev main_call44_v2 : Ref sig .tc := ⟨.hbm, 1054, rfl⟩
abbrev main_v789 : Ref sig .tc := ⟨.hbm, 1055, rfl⟩
abbrev main_call45_c : Ref sig .tc := ⟨.hbm, 1056, rfl⟩
abbrev main_call45_v0 : Ref sig .tc := ⟨.hbm, 1057, rfl⟩
abbrev main_call45_v1 : Ref sig .tc := ⟨.hbm, 1058, rfl⟩
abbrev main_call45_c_0 : Ref sig .tc := ⟨.hbm, 1059, rfl⟩
abbrev main_call45_v2 : Ref sig .tc := ⟨.hbm, 1060, rfl⟩
abbrev main_call45_v3 : Ref sig .tc := ⟨.hbm, 1061, rfl⟩
abbrev main_call45_v4 : Ref sig .tc := ⟨.hbm, 1062, rfl⟩
abbrev main_call45_v5 : Ref sig .tc := ⟨.hbm, 1063, rfl⟩
abbrev main_v790 : Ref sig .tc := ⟨.hbm, 1064, rfl⟩
abbrev main_v791 : Ref sig .tc := ⟨.hbm, 1065, rfl⟩
abbrev main_v792 : Ref sig .tc := ⟨.hbm, 1066, rfl⟩
abbrev main_v793 : Ref sig .tc := ⟨.hbm, 1067, rfl⟩
abbrev main_v794 : Ref sig .tc := ⟨.hbm, 1068, rfl⟩
abbrev main_v795 : Ref sig .tc := ⟨.hbm, 1069, rfl⟩
abbrev main_v796 : Ref sig .tc := ⟨.hbm, 1070, rfl⟩
abbrev main_v797 : Ref sig .tc := ⟨.hbm, 1071, rfl⟩
abbrev main_v798 : Ref sig .tc := ⟨.hbm, 1072, rfl⟩
abbrev main_v799 : Ref sig .tc := ⟨.hbm, 1073, rfl⟩
abbrev main_v800 : Ref sig .tc := ⟨.hbm, 1074, rfl⟩
abbrev main_v801 : Ref sig .tc := ⟨.hbm, 1075, rfl⟩
abbrev main_v802 : Ref sig .tc := ⟨.hbm, 1076, rfl⟩
abbrev main_v803 : Ref sig .tc := ⟨.hbm, 1077, rfl⟩
abbrev main_v804 : Ref sig .tc := ⟨.hbm, 1078, rfl⟩
abbrev main_v805 : Ref sig .tc := ⟨.hbm, 1079, rfl⟩
abbrev main_v806 : Ref sig .tc := ⟨.hbm, 1080, rfl⟩
abbrev main_v807 : Ref sig .tc := ⟨.hbm, 1081, rfl⟩
abbrev main_v808 : Ref sig .tc := ⟨.hbm, 1082, rfl⟩
abbrev main_v809 : Ref sig .tc := ⟨.hbm, 1083, rfl⟩
abbrev main_v810 : Ref sig .tc := ⟨.hbm, 1084, rfl⟩
abbrev main_v811 : Ref sig .tc := ⟨.hbm, 1085, rfl⟩
abbrev main_v812 : Ref sig .tc := ⟨.hbm, 1086, rfl⟩
abbrev main_v813 : Ref sig .tc := ⟨.hbm, 1087, rfl⟩
abbrev main_v814 : Ref sig .tc := ⟨.hbm, 1088, rfl⟩
abbrev main_v815 : Ref sig .tc := ⟨.hbm, 1089, rfl⟩
abbrev main_v816 : Ref sig .tc := ⟨.hbm, 1090, rfl⟩
abbrev main_cst_150 : Ref sig .tc := ⟨.hbm, 1091, rfl⟩
abbrev main_v817 : Ref sig .tc := ⟨.hbm, 1092, rfl⟩
abbrev main_v818 : Ref sig .tc := ⟨.hbm, 1093, rfl⟩
abbrev main_cst_151 : Ref sig .tc := ⟨.hbm, 1094, rfl⟩
abbrev main_v819 : Ref sig .tc := ⟨.hbm, 1095, rfl⟩
abbrev main_v820 : Ref sig .tc := ⟨.hbm, 1096, rfl⟩
abbrev main_v821 : Ref sig .tc := ⟨.hbm, 1097, rfl⟩
abbrev main_v822 : Ref sig .tc := ⟨.hbm, 1098, rfl⟩
abbrev main_cst_152 : Ref sig .tc := ⟨.hbm, 1099, rfl⟩
abbrev main_v823 : Ref sig .tc := ⟨.hbm, 1100, rfl⟩
abbrev main_v824 : Ref sig .tc := ⟨.hbm, 1101, rfl⟩
abbrev main_cst_153 : Ref sig .tc := ⟨.hbm, 1102, rfl⟩
abbrev main_call46_v0 : Ref sig .tc := ⟨.hbm, 1103, rfl⟩
abbrev main_call46_v1 : Ref sig .tc := ⟨.hbm, 1104, rfl⟩
abbrev main_v825 : Ref sig .tc := ⟨.hbm, 1105, rfl⟩
abbrev main_v826 : Ref sig .tc := ⟨.hbm, 1106, rfl⟩
abbrev main_v827 : Ref sig .tc := ⟨.hbm, 1107, rfl⟩
abbrev main_v828 : Ref sig .tc := ⟨.hbm, 1108, rfl⟩
abbrev main_v829 : Ref sig .tc := ⟨.hbm, 1109, rfl⟩
abbrev main_v830 : Ref sig .tc := ⟨.hbm, 1110, rfl⟩
abbrev main_v831 : Ref sig .tc := ⟨.hbm, 1111, rfl⟩
abbrev main_v832 : Ref sig .tc := ⟨.hbm, 1112, rfl⟩
abbrev main_v833 : Ref sig .tc := ⟨.hbm, 1113, rfl⟩
abbrev main_v834 : Ref sig .tc := ⟨.hbm, 1114, rfl⟩
abbrev main_v835 : Ref sig .tc := ⟨.hbm, 1115, rfl⟩
abbrev main_v836 : Ref sig .tc := ⟨.hbm, 1116, rfl⟩
abbrev main_v837 : Ref sig .tc := ⟨.hbm, 1117, rfl⟩
abbrev main_v838 : Ref sig .tc := ⟨.hbm, 1118, rfl⟩
abbrev main_call47_call0_c : Ref sig .tc := ⟨.hbm, 1119, rfl⟩
abbrev main_call47_call0_v0 : Ref sig .tc := ⟨.hbm, 1120, rfl⟩
abbrev main_v839 : Ref sig .tc := ⟨.hbm, 1121, rfl⟩
abbrev main_v840 : Ref sig .tc := ⟨.hbm, 1122, rfl⟩
abbrev main_c_154 : Ref sig .tc := ⟨.hbm, 1123, rfl⟩
abbrev main_call48_v0 : Ref sig .tc := ⟨.hbm, 1124, rfl⟩
abbrev main_call48_v1 : Ref sig .tc := ⟨.hbm, 1125, rfl⟩
abbrev main_v841 : Ref sig .tc := ⟨.hbm, 1126, rfl⟩
abbrev main_v842 : Ref sig .tc := ⟨.hbm, 1127, rfl⟩
abbrev main_c_155 : Ref sig .tc := ⟨.hbm, 1128, rfl⟩
abbrev main_call49_v0 : Ref sig .tc := ⟨.hbm, 1129, rfl⟩
abbrev main_call49_v1 : Ref sig .tc := ⟨.hbm, 1130, rfl⟩
abbrev main_v843 : Ref sig .tc := ⟨.hbm, 1131, rfl⟩
abbrev main_v844 : Ref sig .tc := ⟨.hbm, 1132, rfl⟩
abbrev main_v845 : Ref sig .tc := ⟨.hbm, 1133, rfl⟩
abbrev main_cst_156 : Ref sig .tc := ⟨.hbm, 1134, rfl⟩
abbrev main_v846 : Ref sig .tc := ⟨.hbm, 1135, rfl⟩
abbrev main_c_157 : Ref sig .tc := ⟨.hbm, 1136, rfl⟩
abbrev main_v847 : Ref sig .tc := ⟨.hbm, 1137, rfl⟩
abbrev main_v848 : Ref sig .tc := ⟨.hbm, 1138, rfl⟩
abbrev main_c_158 : Ref sig .tc := ⟨.hbm, 1139, rfl⟩
abbrev main_v849 : Ref sig .tc := ⟨.hbm, 1140, rfl⟩
abbrev main_v850 : Ref sig .tc := ⟨.hbm, 1141, rfl⟩
abbrev main_v851 : Ref sig .tc := ⟨.hbm, 1142, rfl⟩
abbrev main_c_159 : Ref sig .tc := ⟨.hbm, 1143, rfl⟩
abbrev main_v852 : Ref sig .tc := ⟨.hbm, 1144, rfl⟩
abbrev main_v853 : Ref sig .tc := ⟨.hbm, 1145, rfl⟩
abbrev main_c_160 : Ref sig .tc := ⟨.hbm, 1146, rfl⟩
abbrev main_v854 : Ref sig .tc := ⟨.hbm, 1147, rfl⟩
abbrev main_v855 : Ref sig .tc := ⟨.hbm, 1148, rfl⟩
abbrev main_v856 : Ref sig .tc := ⟨.hbm, 1149, rfl⟩
abbrev main_v857 : Ref sig .tc := ⟨.hbm, 1150, rfl⟩
abbrev main_v858 : Ref sig .tc := ⟨.hbm, 1151, rfl⟩
abbrev main_v859 : Ref sig .tc := ⟨.hbm, 1152, rfl⟩
abbrev main_v860 : Ref sig .tc := ⟨.hbm, 1153, rfl⟩
abbrev main_v861 : Ref sig .tc := ⟨.hbm, 1154, rfl⟩
abbrev main_c_161 : Ref sig .tc := ⟨.hbm, 1155, rfl⟩
abbrev main_v862 : Ref sig .tc := ⟨.hbm, 1156, rfl⟩
abbrev main_v863 : Ref sig .tc := ⟨.hbm, 1157, rfl⟩
abbrev main_c_162 : Ref sig .tc := ⟨.hbm, 1158, rfl⟩
abbrev main_v864 : Ref sig .tc := ⟨.hbm, 1159, rfl⟩
abbrev main_v865 : Ref sig .tc := ⟨.hbm, 1160, rfl⟩
abbrev main_v866 : Ref sig .tc := ⟨.hbm, 1161, rfl⟩
abbrev main_c_163 : Ref sig .tc := ⟨.hbm, 1162, rfl⟩
abbrev main_v867 : Ref sig .tc := ⟨.hbm, 1163, rfl⟩
abbrev main_v868 : Ref sig .tc := ⟨.hbm, 1164, rfl⟩
abbrev main_c_164 : Ref sig .tc := ⟨.hbm, 1165, rfl⟩
abbrev main_v869 : Ref sig .tc := ⟨.hbm, 1166, rfl⟩
abbrev main_v870 : Ref sig .tc := ⟨.hbm, 1167, rfl⟩
abbrev main_v871 : Ref sig .tc := ⟨.hbm, 1168, rfl⟩
abbrev main_v872 : Ref sig .tc := ⟨.hbm, 1169, rfl⟩
abbrev main_v873 : Ref sig .tc := ⟨.hbm, 1170, rfl⟩
abbrev main_v874 : Ref sig .tc := ⟨.hbm, 1171, rfl⟩
abbrev main_v875 : Ref sig .tc := ⟨.hbm, 1172, rfl⟩
abbrev main_v876 : Ref sig .tc := ⟨.hbm, 1173, rfl⟩
abbrev main_c_165 : Ref sig .tc := ⟨.hbm, 1174, rfl⟩
abbrev main_v877 : Ref sig .tc := ⟨.hbm, 1175, rfl⟩
abbrev main_v878 : Ref sig .tc := ⟨.hbm, 1176, rfl⟩
abbrev main_c_166 : Ref sig .tc := ⟨.hbm, 1177, rfl⟩
abbrev main_v879 : Ref sig .tc := ⟨.hbm, 1178, rfl⟩
abbrev main_v880 : Ref sig .tc := ⟨.hbm, 1179, rfl⟩
abbrev main_v881 : Ref sig .tc := ⟨.hbm, 1180, rfl⟩
abbrev main_c_167 : Ref sig .tc := ⟨.hbm, 1181, rfl⟩
abbrev main_v882 : Ref sig .tc := ⟨.hbm, 1182, rfl⟩
abbrev main_v883 : Ref sig .tc := ⟨.hbm, 1183, rfl⟩
abbrev main_c_168 : Ref sig .tc := ⟨.hbm, 1184, rfl⟩
abbrev main_v884 : Ref sig .tc := ⟨.hbm, 1185, rfl⟩
abbrev main_v885 : Ref sig .tc := ⟨.hbm, 1186, rfl⟩
abbrev main_v886 : Ref sig .tc := ⟨.hbm, 1187, rfl⟩
abbrev main_v887 : Ref sig .tc := ⟨.hbm, 1188, rfl⟩
abbrev main_v888 : Ref sig .tc := ⟨.hbm, 1189, rfl⟩
abbrev main_v889 : Ref sig .tc := ⟨.hbm, 1190, rfl⟩
abbrev main_v890 : Ref sig .tc := ⟨.hbm, 1191, rfl⟩
abbrev main_v891 : Ref sig .tc := ⟨.hbm, 1192, rfl⟩
abbrev main_c_169 : Ref sig .tc := ⟨.hbm, 1193, rfl⟩
abbrev main_v892 : Ref sig .tc := ⟨.hbm, 1194, rfl⟩
abbrev main_v893 : Ref sig .tc := ⟨.hbm, 1195, rfl⟩
abbrev main_c_170 : Ref sig .tc := ⟨.hbm, 1196, rfl⟩
abbrev main_v894 : Ref sig .tc := ⟨.hbm, 1197, rfl⟩
abbrev main_v895 : Ref sig .tc := ⟨.hbm, 1198, rfl⟩
abbrev main_v896 : Ref sig .tc := ⟨.hbm, 1199, rfl⟩
abbrev main_c_171 : Ref sig .tc := ⟨.hbm, 1200, rfl⟩
abbrev main_v897 : Ref sig .tc := ⟨.hbm, 1201, rfl⟩
abbrev main_v898 : Ref sig .tc := ⟨.hbm, 1202, rfl⟩
abbrev main_c_172 : Ref sig .tc := ⟨.hbm, 1203, rfl⟩
abbrev main_v899 : Ref sig .tc := ⟨.hbm, 1204, rfl⟩
abbrev main_v900 : Ref sig .tc := ⟨.hbm, 1205, rfl⟩
abbrev main_v901 : Ref sig .tc := ⟨.hbm, 1206, rfl⟩
abbrev main_v902 : Ref sig .tc := ⟨.hbm, 1207, rfl⟩
abbrev main_v903 : Ref sig .tc := ⟨.hbm, 1208, rfl⟩
abbrev main_v904 : Ref sig .tc := ⟨.hbm, 1209, rfl⟩
abbrev main_v905 : Ref sig .tc := ⟨.hbm, 1210, rfl⟩
abbrev main_v906 : Ref sig .tc := ⟨.hbm, 1211, rfl⟩
abbrev main_v907 : Ref sig .tc := ⟨.hbm, 1212, rfl⟩
abbrev main_v908 : Ref sig .tc := ⟨.hbm, 1213, rfl⟩
abbrev main_c_173 : Ref sig .tc := ⟨.hbm, 1214, rfl⟩
abbrev main_v909 : Ref sig .tc := ⟨.hbm, 1215, rfl⟩
abbrev main_v910 : Ref sig .tc := ⟨.hbm, 1216, rfl⟩
abbrev main_v911 : Ref sig .tc := ⟨.hbm, 1217, rfl⟩
abbrev main_v912 : Ref sig .tc := ⟨.hbm, 1218, rfl⟩
abbrev main_v913 : Ref sig .tc := ⟨.hbm, 1219, rfl⟩
abbrev main_v914 : Ref sig .tc := ⟨.hbm, 1220, rfl⟩
abbrev main_v915 : Ref sig .tc := ⟨.hbm, 1221, rfl⟩
abbrev main_v916 : Ref sig .tc := ⟨.hbm, 1222, rfl⟩
abbrev main_v917 : Ref sig .tc := ⟨.hbm, 1223, rfl⟩
abbrev main_c_174 : Ref sig .tc := ⟨.hbm, 1224, rfl⟩
abbrev main_v918 : Ref sig .tc := ⟨.hbm, 1225, rfl⟩
abbrev main_v919 : Ref sig .tc := ⟨.hbm, 1226, rfl⟩
abbrev main_v920 : Ref sig .tc := ⟨.hbm, 1227, rfl⟩
abbrev main_v921 : Ref sig .tc := ⟨.hbm, 1228, rfl⟩
abbrev main_v922 : Ref sig .tc := ⟨.hbm, 1229, rfl⟩
abbrev main_v923 : Ref sig .tc := ⟨.hbm, 1230, rfl⟩
abbrev main_v924 : Ref sig .tc := ⟨.hbm, 1231, rfl⟩
abbrev main_c_175 : Ref sig .tc := ⟨.hbm, 1232, rfl⟩
abbrev main_v925 : Ref sig .tc := ⟨.hbm, 1233, rfl⟩
abbrev main_v926 : Ref sig .tc := ⟨.hbm, 1234, rfl⟩
abbrev main_c_176 : Ref sig .tc := ⟨.hbm, 1235, rfl⟩
abbrev main_call50_v0 : Ref sig .tc := ⟨.hbm, 1236, rfl⟩
abbrev main_call50_v1 : Ref sig .tc := ⟨.hbm, 1237, rfl⟩
abbrev main_call50_v2 : Ref sig .tc := ⟨.hbm, 1238, rfl⟩
abbrev main_v927 : Ref sig .tc := ⟨.hbm, 1239, rfl⟩
abbrev main_call51_c : Ref sig .tc := ⟨.hbm, 1240, rfl⟩
abbrev main_call51_v0 : Ref sig .tc := ⟨.hbm, 1241, rfl⟩
abbrev main_call51_v1 : Ref sig .tc := ⟨.hbm, 1242, rfl⟩
abbrev main_call51_c_0 : Ref sig .tc := ⟨.hbm, 1243, rfl⟩
abbrev main_call51_v2 : Ref sig .tc := ⟨.hbm, 1244, rfl⟩
abbrev main_call51_v3 : Ref sig .tc := ⟨.hbm, 1245, rfl⟩
abbrev main_call51_v4 : Ref sig .tc := ⟨.hbm, 1246, rfl⟩
abbrev main_call51_v5 : Ref sig .tc := ⟨.hbm, 1247, rfl⟩
abbrev main_v928 : Ref sig .tc := ⟨.hbm, 1248, rfl⟩
abbrev main_v929 : Ref sig .tc := ⟨.hbm, 1249, rfl⟩
abbrev main_v930 : Ref sig .tc := ⟨.hbm, 1250, rfl⟩
abbrev main_v931 : Ref sig .tc := ⟨.hbm, 1251, rfl⟩
abbrev main_c_177 : Ref sig .tc := ⟨.hbm, 1252, rfl⟩
abbrev main_v932 : Ref sig .tc := ⟨.hbm, 1253, rfl⟩
abbrev main_v933 : Ref sig .tc := ⟨.hbm, 1254, rfl⟩
abbrev main_v934 : Ref sig .tc := ⟨.hbm, 1255, rfl⟩
abbrev main_v935 : Ref sig .tc := ⟨.hbm, 1256, rfl⟩
abbrev main_v936 : Ref sig .tc := ⟨.hbm, 1257, rfl⟩
abbrev main_v937 : Ref sig .tc := ⟨.hbm, 1258, rfl⟩
abbrev main_v938 : Ref sig .tc := ⟨.hbm, 1259, rfl⟩
abbrev main_c_178 : Ref sig .tc := ⟨.hbm, 1260, rfl⟩
abbrev main_v939 : Ref sig .tc := ⟨.hbm, 1261, rfl⟩
abbrev main_v940 : Ref sig .tc := ⟨.hbm, 1262, rfl⟩
abbrev main_c_179 : Ref sig .tc := ⟨.hbm, 1263, rfl⟩
abbrev main_call52_v0 : Ref sig .tc := ⟨.hbm, 1264, rfl⟩
abbrev main_call52_v1 : Ref sig .tc := ⟨.hbm, 1265, rfl⟩
abbrev main_call52_v2 : Ref sig .tc := ⟨.hbm, 1266, rfl⟩
abbrev main_v941 : Ref sig .tc := ⟨.hbm, 1267, rfl⟩
abbrev main_call53_c : Ref sig .tc := ⟨.hbm, 1268, rfl⟩
abbrev main_call53_v0 : Ref sig .tc := ⟨.hbm, 1269, rfl⟩
abbrev main_call53_v1 : Ref sig .tc := ⟨.hbm, 1270, rfl⟩
abbrev main_call53_c_0 : Ref sig .tc := ⟨.hbm, 1271, rfl⟩
abbrev main_call53_v2 : Ref sig .tc := ⟨.hbm, 1272, rfl⟩
abbrev main_call53_v3 : Ref sig .tc := ⟨.hbm, 1273, rfl⟩
abbrev main_call53_v4 : Ref sig .tc := ⟨.hbm, 1274, rfl⟩
abbrev main_call53_v5 : Ref sig .tc := ⟨.hbm, 1275, rfl⟩
abbrev main_v942 : Ref sig .tc := ⟨.hbm, 1276, rfl⟩
abbrev main_v943 : Ref sig .tc := ⟨.hbm, 1277, rfl⟩
abbrev main_v944 : Ref sig .tc := ⟨.hbm, 1278, rfl⟩
abbrev main_cst_180 : Ref sig .tc := ⟨.hbm, 1279, rfl⟩
abbrev main_call54_v0 : Ref sig .tc := ⟨.hbm, 1280, rfl⟩
abbrev main_call54_v1 : Ref sig .tc := ⟨.hbm, 1281, rfl⟩
abbrev main_v945 : Ref sig .tc := ⟨.hbm, 1282, rfl⟩
abbrev main_cst_181 : Ref sig .tc := ⟨.hbm, 1283, rfl⟩
abbrev main_v946 : Ref sig .tc := ⟨.hbm, 1284, rfl⟩
abbrev main_v947 : Ref sig .tc := ⟨.hbm, 1285, rfl⟩
abbrev main_cst_182 : Ref sig .tc := ⟨.hbm, 1286, rfl⟩
abbrev main_v948 : Ref sig .tc := ⟨.hbm, 1287, rfl⟩
abbrev main_v949 : Ref sig .tc := ⟨.hbm, 1288, rfl⟩
abbrev main_cst_183 : Ref sig .tc := ⟨.hbm, 1289, rfl⟩
abbrev main_v950 : Ref sig .tc := ⟨.hbm, 1290, rfl⟩
abbrev main_v951 : Ref sig .tc := ⟨.hbm, 1291, rfl⟩
abbrev main_v952 : Ref sig .tc := ⟨.hbm, 1292, rfl⟩
abbrev main_cst_184 : Ref sig .tc := ⟨.hbm, 1293, rfl⟩
abbrev main_v953 : Ref sig .tc := ⟨.hbm, 1294, rfl⟩
abbrev main_v954 : Ref sig .tc := ⟨.hbm, 1295, rfl⟩
abbrev main_v955 : Ref sig .tc := ⟨.hbm, 1296, rfl⟩
abbrev main_cst_185 : Ref sig .tc := ⟨.hbm, 1297, rfl⟩
abbrev main_v956 : Ref sig .tc := ⟨.hbm, 1298, rfl⟩
abbrev main_v957 : Ref sig .tc := ⟨.hbm, 1299, rfl⟩
abbrev main_v958 : Ref sig .tc := ⟨.hbm, 1300, rfl⟩
abbrev main_cst_186 : Ref sig .tc := ⟨.hbm, 1301, rfl⟩
abbrev main_v959 : Ref sig .tc := ⟨.hbm, 1302, rfl⟩
abbrev main_v960 : Ref sig .tc := ⟨.hbm, 1303, rfl⟩
abbrev main_v961 : Ref sig .tc := ⟨.hbm, 1304, rfl⟩
abbrev main_v962 : Ref sig .tc := ⟨.hbm, 1305, rfl⟩
abbrev main_v963 : Ref sig .tc := ⟨.hbm, 1306, rfl⟩
abbrev main_v964 : Ref sig .tc := ⟨.hbm, 1307, rfl⟩
abbrev main_cst_187 : Ref sig .tc := ⟨.hbm, 1308, rfl⟩
abbrev main_v965 : Ref sig .tc := ⟨.hbm, 1309, rfl⟩
abbrev main_v966 : Ref sig .tc := ⟨.hbm, 1310, rfl⟩
abbrev main_v967 : Ref sig .tc := ⟨.hbm, 1311, rfl⟩
abbrev main_v968 : Ref sig .tc := ⟨.hbm, 1312, rfl⟩
abbrev main_v969 : Ref sig .tc := ⟨.hbm, 1313, rfl⟩
abbrev main_v970 : Ref sig .tc := ⟨.hbm, 1314, rfl⟩
abbrev main_v971 : Ref sig .tc := ⟨.hbm, 1315, rfl⟩
abbrev main_v972 : Ref sig .tc := ⟨.hbm, 1316, rfl⟩
abbrev main_v973 : Ref sig .tc := ⟨.hbm, 1317, rfl⟩
abbrev main_cst_188 : Ref sig .tc := ⟨.hbm, 1318, rfl⟩
abbrev main_v974 : Ref sig .tc := ⟨.hbm, 1319, rfl⟩
abbrev main_v975 : Ref sig .tc := ⟨.hbm, 1320, rfl⟩
abbrev main_v976 : Ref sig .tc := ⟨.hbm, 1321, rfl⟩
abbrev main_v977 : Ref sig .tc := ⟨.hbm, 1322, rfl⟩
abbrev main_v978 : Ref sig .tc := ⟨.hbm, 1323, rfl⟩
abbrev main_v979 : Ref sig .tc := ⟨.hbm, 1324, rfl⟩
abbrev main_v980 : Ref sig .tc := ⟨.hbm, 1325, rfl⟩
abbrev main_v981 : Ref sig .tc := ⟨.hbm, 1326, rfl⟩
abbrev main_v982 : Ref sig .tc := ⟨.hbm, 1327, rfl⟩
abbrev main_v983 : Ref sig .tc := ⟨.hbm, 1328, rfl⟩
abbrev main_v984 : Ref sig .tc := ⟨.hbm, 1329, rfl⟩
abbrev main_v985 : Ref sig .tc := ⟨.hbm, 1330, rfl⟩
abbrev main_v986 : Ref sig .tc := ⟨.hbm, 1331, rfl⟩
abbrev main_v987 : Ref sig .tc := ⟨.hbm, 1332, rfl⟩
abbrev main_v988 : Ref sig .tc := ⟨.hbm, 1333, rfl⟩
abbrev main_v989 : Ref sig .tc := ⟨.hbm, 1334, rfl⟩
abbrev main_v990 : Ref sig .tc := ⟨.hbm, 1335, rfl⟩
abbrev main_v991 : Ref sig .tc := ⟨.hbm, 1336, rfl⟩
abbrev main_v992 : Ref sig .tc := ⟨.hbm, 1337, rfl⟩
abbrev main_v993 : Ref sig .tc := ⟨.hbm, 1338, rfl⟩
abbrev main_v994 : Ref sig .tc := ⟨.hbm, 1339, rfl⟩
abbrev main_v995 : Ref sig .tc := ⟨.hbm, 1340, rfl⟩
abbrev main_v996 : Ref sig .tc := ⟨.hbm, 1341, rfl⟩
abbrev main_v997 : Ref sig .tc := ⟨.hbm, 1342, rfl⟩
abbrev main_v998 : Ref sig .tc := ⟨.hbm, 1343, rfl⟩
abbrev main_v999 : Ref sig .tc := ⟨.hbm, 1344, rfl⟩
abbrev main_cst_189 : Ref sig .tc := ⟨.hbm, 1345, rfl⟩
abbrev main_v1000 : Ref sig .tc := ⟨.hbm, 1346, rfl⟩
abbrev main_v1001 : Ref sig .tc := ⟨.hbm, 1347, rfl⟩
abbrev main_c_190 : Ref sig .tc := ⟨.hbm, 1348, rfl⟩
abbrev main_v1002 : Ref sig .tc := ⟨.hbm, 1349, rfl⟩
abbrev main_v1003 : Ref sig .tc := ⟨.hbm, 1350, rfl⟩
abbrev main_v1004 : Ref sig .tc := ⟨.hbm, 1351, rfl⟩
abbrev main_c_191 : Ref sig .tc := ⟨.hbm, 1352, rfl⟩
abbrev main_v1005 : Ref sig .tc := ⟨.hbm, 1353, rfl⟩
abbrev main_v1006 : Ref sig .tc := ⟨.hbm, 1354, rfl⟩
abbrev main_v1007 : Ref sig .tc := ⟨.hbm, 1355, rfl⟩
abbrev main_v1008 : Ref sig .tc := ⟨.hbm, 1356, rfl⟩
abbrev main_v1009 : Ref sig .tc := ⟨.hbm, 1357, rfl⟩
abbrev main_v1010 : Ref sig .tc := ⟨.hbm, 1358, rfl⟩
abbrev main_v1011 : Ref sig .tc := ⟨.hbm, 1359, rfl⟩
abbrev main_v1012 : Ref sig .tc := ⟨.hbm, 1360, rfl⟩
abbrev main_v1013 : Ref sig .tc := ⟨.hbm, 1361, rfl⟩
abbrev main_v1014 : Ref sig .tc := ⟨.hbm, 1362, rfl⟩
abbrev main_v1015 : Ref sig .tc := ⟨.hbm, 1363, rfl⟩
abbrev main_v1016 : Ref sig .tc := ⟨.hbm, 1364, rfl⟩
abbrev main_v1017 : Ref sig .tc := ⟨.hbm, 1365, rfl⟩
abbrev main_v1018 : Ref sig .tc := ⟨.hbm, 1366, rfl⟩
abbrev main_v1019 : Ref sig .tc := ⟨.hbm, 1367, rfl⟩
abbrev main_v1020 : Ref sig .tc := ⟨.hbm, 1368, rfl⟩
abbrev main_v1021 : Ref sig .tc := ⟨.hbm, 1369, rfl⟩
abbrev main_v1022 : Ref sig .tc := ⟨.hbm, 1370, rfl⟩
abbrev main_cst_192 : Ref sig .tc := ⟨.hbm, 1371, rfl⟩
abbrev main_call55_v0 : Ref sig .tc := ⟨.hbm, 1372, rfl⟩
abbrev main_call55_v1 : Ref sig .tc := ⟨.hbm, 1373, rfl⟩
abbrev main_v1023 : Ref sig .tc := ⟨.hbm, 1374, rfl⟩
abbrev main_cst_193 : Ref sig .tc := ⟨.hbm, 1375, rfl⟩
abbrev main_v1024 : Ref sig .tc := ⟨.hbm, 1376, rfl⟩
abbrev main_v1025 : Ref sig .tc := ⟨.hbm, 1377, rfl⟩
abbrev main_cst_194 : Ref sig .tc := ⟨.hbm, 1378, rfl⟩
abbrev main_v1026 : Ref sig .tc := ⟨.hbm, 1379, rfl⟩
abbrev main_v1027 : Ref sig .tc := ⟨.hbm, 1380, rfl⟩
abbrev main_v1028 : Ref sig .tc := ⟨.hbm, 1381, rfl⟩
abbrev main_v1029 : Ref sig .tc := ⟨.hbm, 1382, rfl⟩
abbrev main_v1030 : Ref sig .tc := ⟨.hbm, 1383, rfl⟩
abbrev main_cst_195 : Ref sig .tc := ⟨.hbm, 1384, rfl⟩
abbrev main_v1031 : Ref sig .tc := ⟨.hbm, 1385, rfl⟩
abbrev main_v1032 : Ref sig .tc := ⟨.hbm, 1386, rfl⟩
abbrev main_v1033 : Ref sig .tc := ⟨.hbm, 1387, rfl⟩
abbrev main_v1034 : Ref sig .tc := ⟨.hbm, 1388, rfl⟩
abbrev main_cst_196 : Ref sig .tc := ⟨.hbm, 1389, rfl⟩
abbrev main_v1035 : Ref sig .tc := ⟨.hbm, 1390, rfl⟩
abbrev main_v1036 : Ref sig .tc := ⟨.hbm, 1391, rfl⟩
abbrev main_v1037 : Ref sig .tc := ⟨.hbm, 1392, rfl⟩
abbrev main_v1038 : Ref sig .tc := ⟨.hbm, 1393, rfl⟩
abbrev main_cst_197 : Ref sig .tc := ⟨.hbm, 1394, rfl⟩
abbrev main_v1039 : Ref sig .tc := ⟨.hbm, 1395, rfl⟩
abbrev main_v1040 : Ref sig .tc := ⟨.hbm, 1396, rfl⟩
abbrev main_cst_198 : Ref sig .tc := ⟨.hbm, 1397, rfl⟩
abbrev main_v1041 : Ref sig .tc := ⟨.hbm, 1398, rfl⟩
abbrev main_v1042 : Ref sig .tc := ⟨.hbm, 1399, rfl⟩
abbrev main_cst_199 : Ref sig .tc := ⟨.hbm, 1400, rfl⟩
abbrev main_v1043 : Ref sig .tc := ⟨.hbm, 1401, rfl⟩
abbrev main_v1044 : Ref sig .tc := ⟨.hbm, 1402, rfl⟩

abbrev nD : Nat := 1
abbrev τ : Topo := Topo.v7x

variable {F : FTy → Type} [FloatOps F]
-- ==== Proof.Spec.lean ====
/- The rotated-box arithmetic of one pair of boxes, over the extended reals, as the kernel writes it lane by lane:
   the sine and cosine polynomials, the corners, the clip of a padded polygon by a half-plane, the area of the last
   clip, the hull's area and the loss of the pair. Flags are one-bit words and counts are 32-bit words, as in the
   program; what these functions mean is proved in the modules that import this one. -/
module

public import Idealize.ShloMosaic.PureOps.Ideal

@[expose] public section

noncomputable section

namespace Cert.Giou

open Idealize.ShloMosaic

/-- The value of a single-precision word. -/
abbrev word (b : BitVec 32) : EReal := Ideal.ofBits .f32 b
abbrev ge (a b : EReal) : BitVec 1 := Ideal.cmp .oge a b
abbrev gt (a b : EReal) : BitVec 1 := Ideal.cmp .ogt a b
abbrev sel (c : BitVec 1) (a b : EReal) : EReal := Scalar.select c a b

/-! ## Sine and cosine -/

/-- The number of quarter turns of an angle. -/
def quarter (x : EReal) : BitVec 32 := Ideal.fptosi 32 (Ideal.liftRound Ideal.roundHalfEven (x * word 0x3F22F983#32))
/-- The rest of the angle. -/
def rest (x : EReal) : EReal :=
  x - (((quarter x).toInt : ℝ) : EReal) * word 0x3FC90FDB#32 + (((quarter x).toInt : ℝ) : EReal) * word 0x333BBD2E#32
/-- The sine polynomial of the rest. -/
def sinPoly (r : EReal) : EReal :=
  ((word 0xB94CA1F9#32 * (r * r) + word 0x3C08839E#32) * (r * r) - word 0x3E2AAAA3#32) * (r * r) * r + r
/-- The cosine polynomial of the rest. -/
def cosPoly (r : EReal) : EReal :=
  ((word 0x37CCF5CE#32 * (r * r) - word 0x3AB6061A#32) * (r * r) + word 0x3D2AAAA5#32) * (r * r) * (r * r)
    - word 0x3F000000#32 * (r * r) + word 0x3F800000#32
def odd (x : EReal) : BitVec 1 := IntOp.cmpi .ne (IntOp.andi (quarter x) 1#32) 0#32
def sinOf (x : EReal) : EReal :=
  sel (IntOp.cmpi .ne (IntOp.andi (quarter x) 2#32) 0#32)
    (word 0#32 - sel (odd x) (cosPoly (rest x)) (sinPoly (rest x))) (sel (odd x) (cosPoly (rest x)) (sinPoly (rest x)))
def cosOf (x : EReal) : EReal :=
  sel (IntOp.cmpi .ne (IntOp.andi (IntOp.addi (quarter x) 1#32) 2#32) 0#32)
    (word 0#32 - sel (odd x) (sinPoly (rest x)) (cosPoly (rest x))) (sel (odd x) (sinPoly (rest x)) (cosPoly (rest x)))

/-! ## The corners -/

/-- The corners' first coordinates, from the half-side products. -/
def cornerX (x w l s c : EReal) : ℕ → EReal
  | 0 => x + word 0x3F000000#32 * w * c - word 0x3F000000#32 * l * s
  | 1 => x - word 0x3F000000#32 * w * c - word 0x3F000000#32 * l * s
  | 2 => x - word 0x3F000000#32 * w * c + word 0x3F000000#32 * l * s
  | _ => x + word 0x3F000000#32 * w * c + word 0x3F000000#32 * l * s
/-- The corners' second coordinates. -/
def cornerY (y w l s c : EReal) : ℕ → EReal
  | 0 => y + word 0x3F000000#32 * w * s + word 0x3F000000#32 * l * c
  | 1 => y - word 0x3F000000#32 * w * s + word 0x3F000000#32 * l * c
  | 2 => y - word 0x3F000000#32 * w * s - word 0x3F000000#32 * l * c
  | _ => y + word 0x3F000000#32 * w * s - word 0x3F000000#32 * l * c

/-! ## Clipping -/

/-- A directed line, by two of its points. -/
structure Line where
  (ax ay bx by' : EReal)

/-- A padded polygon: its slots' coordinates. -/
structure Poly where
  (x y : ℕ → EReal)

/-- On which side of the line a point lies. -/
def side (L : Line) (x y : EReal) : EReal := (L.bx - L.ax) * (y - L.ay) - (L.by' - L.ay) * (x - L.ax)
/-- Where the line cuts an edge, from the two ends' sides. -/
def share (s s' : EReal) : EReal :=
  Ideal.div s (sel (gt (max (s - s') (-(s - s'))) (word 0x2B8CBCCC#32)) (s - s') (word 0x3F800000#32))
def cut (s s' p q : EReal) : EReal := p + share s s' * (q - p)

/-- How many of the first `n` candidates are emitted. -/
def count (e : ℕ → BitVec 1) : ℕ → BitVec 32
  | 0 => 0#32
  | n + 1 => IntOp.addi (count e n) ((e n).setWidth 32)
/-- Output slot `j`: the last candidate, from the `j`-th on, whose place is `j`. -/
def slot (e : ℕ → BitVec 1) (X : ℕ → EReal) (j : ℕ) : ℕ → EReal
  | 0 => word 0#32
  | n + 1 => if j ≤ n then
      sel (IntOp.cmpi .eq (Scalar.select (e n) (count e n) 8#32) (BitVec.ofNat 32 j)) (X n) (slot e X j n)
    else slot e X j n

/-- Candidates come in pairs: the vertex, then the cut of the edge after it. -/
def alternate {α : Type} (f g : ℕ → α) (k : ℕ) : α := if k % 2 = 0 then f (k / 2) else g (k / 2)

def more (cnt : BitVec 32) (i : ℕ) : BitVec 1 := IntOp.cmpi .sgt cnt (BitVec.ofNat 32 i)
/-- What follows slot `i` among the first `nv` slots, the first slot after the last vertex. -/
def next (nv : ℕ) (cnt : BitVec 32) (v : ℕ → EReal) (i : ℕ) : EReal :=
  if i + 1 = nv ∧ nv < 8 then v 0 else sel (more cnt (i + 1)) (v (min (i + 1) 7)) (v 0)
def sides (L : Line) (p : Poly) (i : ℕ) : EReal := side L (p.x i) (p.y i)
def inside (s : EReal) : BitVec 1 := ge s (word 0#32)

/-- The flags of the candidates of a clip that looks at `nv` slots. -/
def flags (nv : ℕ) (cnt : BitVec 32) (p : Poly) (L : Line) : ℕ → BitVec 1 :=
  alternate (fun i => IntOp.andi (more cnt i) (inside (sides L p i)))
    (fun i => IntOp.andi (more cnt i) (IntOp.xori (inside (sides L p i)) (inside (next nv cnt (sides L p) i))))
/-- The candidates' coordinates, from the slots' `v`. -/
def cands (nv : ℕ) (cnt : BitVec 32) (p : Poly) (L : Line) (v : ℕ → EReal) : ℕ → EReal :=
  alternate v (fun i => cut (sides L p i) (next nv cnt (sides L p) i) (v i) (next nv cnt v i))

/-- The first clip's flags: a quadrilateral, all of whose slots are vertices. -/
def flags4 (p : Poly) (L : Line) : ℕ → BitVec 1 :=
  alternate (fun i => inside (sides L p i))
    (fun i => IntOp.xori (inside (sides L p i)) (inside (sides L p ((i + 1) % 4))))
def cands4 (p : Poly) (L : Line) (v : ℕ → EReal) : ℕ → EReal :=
  alternate v (fun i => cut (sides L p i) (sides L p ((i + 1) % 4)) (v i) (v ((i + 1) % 4)))

/-! ## The last clip's area -/

/-- A candidate is kept when it is emitted into one of the eight slots. -/
def kept (e : ℕ → BitVec 1) (k : ℕ) : BitVec 1 := IntOp.andi (e k) (IntOp.cmpi .slt (count e k) 8#32)
/-- The first kept candidate of the last `d` of sixteen, `z` if there is none. -/
def firstOf (E : ℕ → BitVec 1) (X : ℕ → EReal) (z : EReal) : ℕ → EReal
  | 0 => z
  | d + 1 => sel (E (15 - d)) (X (15 - d)) (firstOf E X z d)
/-- The last kept candidate of the first `n`. -/
def lastOf (E : ℕ → BitVec 1) (X : ℕ → EReal) : ℕ → EReal
  | 0 => word 0#32
  | n + 1 => sel (E n) (X n) (lastOf E X n)
/-- What the kept candidates' last one is followed by. -/
def wrapTo (e : ℕ → BitVec 1) (X : ℕ → EReal) : EReal :=
  sel (IntOp.cmpi .sle (count e 16) 8#32) (firstOf (kept e) X (word 0#32) 16) (lastOf (kept e) X 16)
/-- The shoelace term of candidate `t`. -/
def termAt (e : ℕ → BitVec 1) (X Y : ℕ → EReal) (t : ℕ) : EReal :=
  sel (kept e t) (X t * firstOf (kept e) Y (wrapTo e Y) (15 - t) - Y t * firstOf (kept e) X (wrapTo e X) (15 - t)) (word 0#32)
/-- The sum of the terms `0 … n`. -/
def sumTo (f : ℕ → EReal) : ℕ → EReal
  | 0 => f 0
  | n + 1 => sumTo f n + f (n + 1)
def halfAbs (a : EReal) : EReal := word 0x3F000000#32 * max a (-a)
def areaOf (e : ℕ → BitVec 1) (X Y : ℕ → EReal) : EReal := halfAbs (sumTo (termAt e X Y) 15)

/-! ## The hull -/

def fold1 (f : EReal → EReal → EReal) : List EReal → EReal
  | [] => word 0#32
  | a :: l => l.foldl f a

/-- Whether two of the eight points are of the same rectangle. -/
def sameQuad (i j : ℕ) : Bool := (decide (i < 4)) == (decide (j < 4))
/-- Whether `j` follows `i` in a rectangle. -/
def follows (i j : ℕ) : Bool := if i < 4 then j == (i + 1) % 4 else j == 4 + (i + 1) % 4
/-- Whether the pair `(i, j)` is looked at. -/
def looked (i j : ℕ) : Bool := (i != j) && (!(sameQuad i j) || follows i j)
/-- Whether point `k` is tested against the pair. -/
def tested (i j k : ℕ) : Bool := (k != i) && (k != j) && !(sameQuad i j && sameQuad k i)
/-- The cross product of the vectors from point `i` to the points `j` and `k`. -/
def cross (X Y : ℕ → EReal) (i j k : ℕ) : EReal := (X j - X i) * (Y k - Y i) - (Y j - Y i) * (X k - X i)
/-- The same, negated from the other order's where that was computed before. -/
def crossed (X Y : ℕ → EReal) (i j k : ℕ) : EReal :=
  if (decide (k < j) && looked i k && tested i k j) = true then word 0#32 - cross X Y i k j else cross X Y i j k
def shoe (X Y : ℕ → EReal) (i j : ℕ) : EReal :=
  if i < j then X i * Y j - X j * Y i else word 0#32 - (X j * Y i - X i * Y j)
def edgeTerm (X Y : ℕ → EReal) (i j : ℕ) : EReal :=
  sel (ge (fold1 min (((List.range 8).filter (tested i j)).map (crossed X Y i j))) (word 0xB727C5AC#32)) (shoe X Y i j) (word 0#32)
def hullOf (X Y : ℕ → EReal) : EReal :=
  halfAbs (fold1 (· + ·) ((List.range 8).flatMap fun i => ((List.range 8).filter (looked i)).map (edgeTerm X Y i)))

/-! ## The loss of a pair -/

/-- The overlap of two height ranges. -/
def overlap (z h z' h' : EReal) : EReal :=
  max (word 0#32) (min (z + h * word 0x3F000000#32) (z' + h' * word 0x3F000000#32)
    - max (z - h * word 0x3F000000#32) (z' - h' * word 0x3F000000#32))
/-- The height of both ranges together. -/
def extent (z h z' h' : EReal) : EReal :=
  max (word 0#32) (max (z + h * word 0x3F000000#32) (z' + h' * word 0x3F000000#32)
    - min (z - h * word 0x3F000000#32) (z' - h' * word 0x3F000000#32))
/-- The loss from the two heights, the two volumes and the two areas. -/
def lossOf (ov ex vols area hull : EReal) : EReal :=
  word 0x3F800000#32 - (Ideal.div (ov * area) (vols - ov * area + word 0x24E69595#32)
    - Ideal.div (ex * hull - (vols - ov * area)) (ex * hull + word 0x24E69595#32))

/-! ## The pipeline of one pair -/

/-- The corners of a rectangle. -/
def rect (x y w l a : EReal) : Poly := ⟨cornerX x w l (sinOf a) (cosOf a), cornerY y w l (sinOf a) (cosOf a)⟩
/-- The line along edge `k` of a rectangle. -/
def edge (q : Poly) (k : ℕ) : Line := ⟨q.x k, q.y k, q.x ((k + 1) % 4), q.y ((k + 1) % 4)⟩
/-- The first clip's result: five slots are filled, the others are zero. -/
def clip4 (p : Poly) (L : Line) : Poly where
  x j := if j < 5 then slot (flags4 p L) (cands4 p L p.x) j 8 else word 0#32
  y j := if j < 5 then slot (flags4 p L) (cands4 p L p.y) j 8 else word 0#32
def count4 (p : Poly) (L : Line) : BitVec 32 := count (flags4 p L) 8
/-- A clip that looks at `nv` slots and fills `m`. -/
def clipN (nv m : ℕ) (cnt : BitVec 32) (p : Poly) (L : Line) : Poly where
  x j := if j < m then slot (flags nv cnt p L) (cands nv cnt p L p.x) j (2 * nv) else word 0#32
  y j := if j < m then slot (flags nv cnt p L) (cands nv cnt p L p.y) j (2 * nv) else word 0#32
def countN (nv : ℕ) (cnt : BitVec 32) (p : Poly) (L : Line) : BitVec 32 := count (flags nv cnt p L) (2 * nv)
/-- The last clip's area. -/
def areaN (cnt : BitVec 32) (p : Poly) (L : Line) : EReal :=
  areaOf (flags 8 cnt p L) (cands 8 cnt p L p.x) (cands 8 cnt p L p.y)
/-- The area of the two rectangles' intersection, as the kernel clips. -/
def kernelArea (p t : Poly) : EReal :=
  areaN (countN 7 (countN 5 (count4 p (edge t 0)) (clip4 p (edge t 0)) (edge t 1))
      (clipN 5 7 (count4 p (edge t 0)) (clip4 p (edge t 0)) (edge t 1)) (edge t 2))
    (clipN 7 8 (countN 5 (count4 p (edge t 0)) (clip4 p (edge t 0)) (edge t 1))
      (clipN 5 7 (count4 p (edge t 0)) (clip4 p (edge t 0)) (edge t 1)) (edge t 2)) (edge t 3)
/-- The eight points of two rectangles. -/
def both (f g : ℕ → EReal) (k : ℕ) : EReal := if k < 4 then f k else g (k - 4)

/-- A box: centre, height, sides, yaw. -/
structure Box where
  (x y z h w l a : EReal)
def Box.rect (b : Box) : Poly := Giou.rect b.x b.y b.w b.l b.a
/-- The loss of a pair from the two areas. -/
def lossBy (p t : Box) (area hull : EReal) : EReal :=
  lossOf (overlap p.z p.h t.z t.h) (extent p.z p.h t.z t.h) (p.h * p.w * p.l + t.h * t.w * t.l) area hull
/-- The loss of a pair, as the kernel computes it. -/
def kernelLoss (p t : Box) : EReal :=
  lossBy p t (kernelArea p.rect t.rect) (hullOf (both p.rect.x t.rect.x) (both p.rect.y t.rect.y))

end Cert.Giou

end
-- ==== Proof.Congr.lean ====
/- Which values the clip's functions look at: the first eight slots and the candidates made from them. -/
module

public import proofs.«01_k».proof.Proof.Spec
public import Mathlib.Tactic.IntervalCases

@[expose] public section

noncomputable section

namespace Cert.Giou

open Idealize.ShloMosaic

theorem count_congr {e e' : ℕ → BitVec 1} : ∀ {n : ℕ}, (∀ k < n, e k = e' k) → count e n = count e' n
  | 0, _ => rfl
  | n + 1, h => by
    rw [count, count, count_congr fun k hk => h k (Nat.lt_succ_of_lt hk), h n (Nat.lt_succ_self n)]

theorem slot_congr {e e' : ℕ → BitVec 1} {X X' : ℕ → EReal} (j : ℕ) :
    ∀ {n : ℕ}, (∀ k < n, e k = e' k) → (∀ k < n, X k = X' k) → slot e X j n = slot e' X' j n
  | 0, _, _ => rfl
  | n + 1, h, hX => by
    rw [slot, slot, slot_congr j (fun k hk => h k (Nat.lt_succ_of_lt hk)) fun k hk => hX k (Nat.lt_succ_of_lt hk),
      h n (Nat.lt_succ_self n), hX n (Nat.lt_succ_self n), count_congr fun k hk => h k (Nat.lt_succ_of_lt hk)]

theorem firstOf_congr {E E' : ℕ → BitVec 1} {X X' : ℕ → EReal} (z : EReal) (hE : ∀ k < 16, E k = E' k)
    (hX : ∀ k < 16, X k = X' k) : ∀ d, firstOf E X z d = firstOf E' X' z d
  | 0 => rfl
  | d + 1 => by
    have h : 15 - d < 16 := by omega
    rw [firstOf, firstOf, firstOf_congr z hE hX d, hE _ h, hX _ h]

theorem lastOf_congr {E E' : ℕ → BitVec 1} {X X' : ℕ → EReal} :
    ∀ {n : ℕ}, (∀ k < n, E k = E' k) → (∀ k < n, X k = X' k) → lastOf E X n = lastOf E' X' n
  | 0, _, _ => rfl
  | n + 1, h, hX => by
    rw [lastOf, lastOf, lastOf_congr (fun k hk => h k (Nat.lt_succ_of_lt hk)) fun k hk => hX k (Nat.lt_succ_of_lt hk),
      h n (Nat.lt_succ_self n), hX n (Nat.lt_succ_self n)]

theorem sumTo_congr {f g : ℕ → EReal} : ∀ {n : ℕ}, (∀ k ≤ n, f k = g k) → sumTo f n = sumTo g n
  | 0, h => h 0 le_rfl
  | n + 1, h => by rw [sumTo, sumTo, sumTo_congr fun k hk => h k (Nat.le_succ_of_le hk), h (n + 1) le_rfl]

theorem areaOf_congr {e e' : ℕ → BitVec 1} {X X' Y Y' : ℕ → EReal} (he : ∀ k < 16, e k = e' k)
    (hX : ∀ k < 16, X k = X' k) (hY : ∀ k < 16, Y k = Y' k) : areaOf e X Y = areaOf e' X' Y' := by
  have hk : ∀ k < 16, kept e k = kept e' k := fun k h => by
    rw [kept, kept, he k h, count_congr fun i hi => he i (hi.trans h)]
  have hw : ∀ {X X' : ℕ → EReal}, (∀ k < 16, X k = X' k) → wrapTo e X = wrapTo e' X' := fun h => by
    rw [wrapTo, wrapTo, count_congr he, firstOf_congr _ hk h, lastOf_congr hk h]
  refine congrArg halfAbs (sumTo_congr fun t ht => ?_)
  have ht' : t < 16 := by omega
  rw [termAt, termAt, hk t ht', hX t ht', hY t ht', hw hX, hw hY, firstOf_congr _ hk hX, firstOf_congr _ hk hY]

theorem sides_congr {p p' : Poly} (L : Line) {j : ℕ} (hx : p.x j = p'.x j) (hy : p.y j = p'.y j) :
    sides L p j = sides L p' j := by rw [sides, sides, hx, hy]

theorem next_congr {nv : ℕ} {cnt : BitVec 32} {v v' : ℕ → EReal} (h : ∀ j < 8, v j = v' j) (i : ℕ) :
    next nv cnt v i = next nv cnt v' i := by
  rw [next, next, h 0 (by omega), h (min (i + 1) 7) (by omega)]

theorem flags_congr {nv : ℕ} {cnt : BitVec 32} {p p' : Poly} {L : Line} (hx : ∀ j < 8, p.x j = p'.x j)
    (hy : ∀ j < 8, p.y j = p'.y j) {k : ℕ} (hk : k < 16) : flags nv cnt p L k = flags nv cnt p' L k := by
  have hs : ∀ j < 8, sides L p j = sides L p' j := fun j hj => sides_congr L (hx j hj) (hy j hj)
  have hd : k / 2 < 8 := by omega
  simp only [flags, alternate, hs _ hd, next_congr hs]

theorem cands_congr {nv : ℕ} {cnt : BitVec 32} {p p' : Poly} {L : Line} {v v' : ℕ → EReal} (hx : ∀ j < 8, p.x j = p'.x j)
    (hy : ∀ j < 8, p.y j = p'.y j) (hv : ∀ j < 8, v j = v' j) {k : ℕ} (hk : k < 16) :
    cands nv cnt p L v k = cands nv cnt p' L v' k := by
  have hs : ∀ j < 8, sides L p j = sides L p' j := fun j hj => sides_congr L (hx j hj) (hy j hj)
  have hd : k / 2 < 8 := by omega
  simp only [cands, alternate, hs _ hd, hv _ hd, next_congr hs, next_congr hv]

theorem areaN_congr (c : BitVec 32) {p p' : Poly} (L : Line) (hx : ∀ j < 8, p.x j = p'.x j)
    (hy : ∀ j < 8, p.y j = p'.y j) : areaN c p L = areaN c p' L :=
  areaOf_congr (fun _ h => flags_congr hx hy h) (fun _ h => cands_congr hx hy hx h) (fun _ h => cands_congr hx hy hy h)

end Cert.Giou

end
-- ==== Proof.Emit.lean ====
/- How a clip's emitted candidates fill its slots: the count as a natural number, what a slot holds, and the area of the
   last clip, summed candidate by candidate, as the shoelace sum over the slots. -/
module

public import proofs.«01_k».proof.Proof.Congr
public import Mathlib.Algebra.BigOperators.Intervals

@[expose] public section

noncomputable section

namespace Cert.Giou

open Idealize.ShloMosaic Finset

theorem word_zero : word 0#32 = 0 := by
  show Ideal.ieee 8 23 0#32 = 0
  simp [Ideal.ieee]

theorem bit_ne_one {b : BitVec 1} (h : b ≠ 1#1) : b = 0#1 := by
  revert h; revert b; decide

/-- How many of the first `n` candidates are emitted, as a natural number. -/
def cn (e : ℕ → BitVec 1) (n : ℕ) : ℕ := ∑ k ∈ range n, (e k).toNat

theorem cn_succ (e : ℕ → BitVec 1) (n : ℕ) : cn e (n + 1) = cn e n + (e n).toNat := sum_range_succ _ _

theorem cn_succ_one {e : ℕ → BitVec 1} {n : ℕ} (h : e n = 1#1) : cn e (n + 1) = cn e n + 1 := by rw [cn_succ, h]; rfl

theorem cn_succ_zero {e : ℕ → BitVec 1} {n : ℕ} (h : e n = 0#1) : cn e (n + 1) = cn e n := by rw [cn_succ, h]; rfl

theorem cn_le (e : ℕ → BitVec 1) : ∀ n, cn e n ≤ n
  | 0 => le_rfl
  | n + 1 => by
    have := cn_le e n
    have h : (e n).toNat < 2 := (e n).isLt
    rw [cn_succ]; omega

theorem cn_mono (e : ℕ → BitVec 1) {a b : ℕ} (h : a ≤ b) : cn e a ≤ cn e b :=
  sum_le_sum_of_subset (range_mono h)

theorem cn_congr {e e' : ℕ → BitVec 1} {n : ℕ} (h : ∀ k < n, e k = e' k) : cn e n = cn e' n :=
  sum_congr rfl fun k hk => by rw [h k (mem_range.1 hk)]

theorem count_eq (e : ℕ → BitVec 1) : ∀ n, count e n = BitVec.ofNat 32 (cn e n)
  | 0 => rfl
  | n + 1 => by
    rw [count, count_eq e n, cn_succ, BitVec.ofNat_add]
    exact congrArg _ (BitVec.ofNat_toNat 32 (e n)).symm

theorem count_toNat (e : ℕ → BitVec 1) {n : ℕ} (hn : n ≤ 16) : (count e n).toNat = cn e n := by
  have := cn_le e n
  rw [count_eq, BitVec.toNat_ofNat]
  exact Nat.mod_eq_of_lt (by omega)

/-- A candidate's place: its count when it is emitted, else one that no slot has. -/
theorem place_eq_iff {e : ℕ → BitVec 1} {n j : ℕ} (hn : n ≤ 16) (hj : j < 8) :
    IntOp.cmpi .eq (Scalar.select (e n) (count e n) 8#32) (BitVec.ofNat 32 j) = 1#1 ↔ e n = 1#1 ∧ cn e n = j := by
  have hc := cn_le e n
  have key : ∀ a ≤ 16, ∀ b ≤ 16, ((IntOp.cmpi .eq (BitVec.ofNat 32 a) (BitVec.ofNat 32 b) = 1#1) ↔ a = b) := by
    decide +kernel
  by_cases h : e n = 1#1
  · rw [h, count_eq]
    show IntOp.cmpi .eq (BitVec.ofNat 32 (cn e n)) _ = _ ↔ _
    rw [key _ (by omega) _ (by omega)]
    simp
  · rw [bit_ne_one h]
    show IntOp.cmpi .eq (BitVec.ofNat 32 8) _ = _ ↔ _
    rw [key _ (by omega) _ (by omega)]
    simp; omega

theorem slot_succ {e : ℕ → BitVec 1} {X : ℕ → EReal} {j n : ℕ} (hn : n < 16) (hj : j < 8) :
    slot e X j (n + 1) = if e n = 1#1 ∧ cn e n = j then X n else slot e X j n := by
  have hc := cn_le e n
  rw [slot]
  by_cases h : e n = 1#1 ∧ cn e n = j
  · rw [if_pos (by omega), if_pos h, (place_eq_iff hn.le hj).2 h]; rfl
  · rw [if_neg h]
    split
    · rw [bit_ne_one (mt (place_eq_iff hn.le hj).1 h)]; rfl
    · rfl

/-- A slot that has not been reached is zero. -/
theorem slot_miss {e : ℕ → BitVec 1} {X : ℕ → EReal} {j : ℕ} (hj : j < 8) :
    ∀ {n : ℕ}, n ≤ 16 → cn e n ≤ j → slot e X j n = word 0#32
  | 0, _, _ => rfl
  | n + 1, hn, h => by
    rw [slot_succ hn hj, if_neg, slot_miss hj (by omega) ((cn_mono e (Nat.le_succ n)).trans h)]
    rintro ⟨h1, h2⟩
    rw [cn_succ_one h1] at h; omega

/-- A slot, once filled, holds what was emitted there. -/
theorem slot_hit {e : ℕ → BitVec 1} {X : ℕ → EReal} {j t : ℕ} (hj : j < 8) (h1 : e t = 1#1) (h2 : cn e t = j) :
    ∀ {n : ℕ}, n ≤ 16 → t < n → slot e X j n = X t
  | 0, _, h => absurd h (Nat.not_lt_zero t)
  | n + 1, hn, h => by
    rw [slot_succ hn hj]
    rcases Nat.lt_succ_iff_lt_or_eq.1 h with h | rfl
    · have := cn_mono e h
      rw [Nat.succ_eq_add_one, cn_succ_one h1] at this
      rw [if_neg (by omega), slot_hit hj h1 h2 (by omega) h]
    · rw [if_pos ⟨h1, h2⟩]

/-- Candidates past the last emitted one change nothing. -/
theorem slot_stop {e : ℕ → BitVec 1} {X : ℕ → EReal} {j a : ℕ} (hj : j < 8) :
    ∀ {n : ℕ}, a ≤ n → n ≤ 16 → (∀ k, a ≤ k → k < n → e k = 0#1) → slot e X j n = slot e X j a
  | 0, h, _, _ => by rw [Nat.le_zero.1 h]
  | n + 1, h, hn, hz => by
    rcases h.lt_or_eq with h | rfl
    · rw [slot_succ hn hj, if_neg (by rw [hz n (by omega) (by omega)]; simp),
        slot_stop hj (by omega) (by omega) fun k h1 h2 => hz k h1 (by omega)]
    · rfl

theorem cn_stop {e : ℕ → BitVec 1} {a : ℕ} :
    ∀ {n : ℕ}, a ≤ n → (∀ k, a ≤ k → k < n → e k = 0#1) → cn e n = cn e a
  | 0, h, _ => by rw [Nat.le_zero.1 h]
  | n + 1, h, hz => by
    rcases h.lt_or_eq with h | rfl
    · rw [cn_succ_zero (hz n (by omega) (by omega)), cn_stop (by omega) fun k h1 h2 => hz k h1 (by omega)]
    · rfl

/-! ## The area -/

theorem kept_iff {e : ℕ → BitVec 1} {k : ℕ} (hk : k ≤ 16) : kept e k = 1#1 ↔ e k = 1#1 ∧ cn e k < 8 := by
  have hc := cn_le e k
  have key : ∀ a ≤ 16, IntOp.cmpi .slt (BitVec.ofNat 32 a) 8#32 = if a < 8 then 1#1 else 0#1 := by decide +kernel
  rw [kept, count_eq, key _ (by omega)]
  have : ∀ x : BitVec 1, IntOp.andi x 1#1 = x ∧ IntOp.andi x 0#1 = 0#1 := by decide
  split <;> rename_i h <;> simp [this, h]

theorem kept_not {e : ℕ → BitVec 1} {k : ℕ} (hk : k ≤ 16) (h : ¬ (e k = 1#1 ∧ cn e k < 8)) : kept e k ≠ 1#1 :=
  mt (kept_iff hk).1 h

theorem sel_one {c : BitVec 1} (h : c = 1#1) (a b : EReal) : sel c a b = a := if_pos h
theorem sel_zero {c : BitVec 1} (h : c ≠ 1#1) (a b : EReal) : sel c a b = b := if_neg h

theorem firstOf_eq (e : ℕ → BitVec 1) (X : ℕ → EReal) (z : EReal) (d t : ℕ) (h : t + d = 16) : firstOf (kept e) X z d
    = if cn e t < min (cn e 16) 8 then slot e X (cn e t) 16 else z := by
  induction d generalizing t with
  | zero =>
    obtain rfl : t = 16 := h
    rw [firstOf, if_neg (by omega)]
  | succ d ih =>
    have ih := ih (t + 1) (by omega)
    have ht : 15 - d = t := by omega
    rw [firstOf, ht, ih]
    by_cases h1 : e t = 1#1
    · have hc := cn_mono e (show t + 1 ≤ 16 by omega)
      rw [cn_succ_one h1] at hc ⊢
      by_cases h2 : cn e t < 8
      · rw [sel_one ((kept_iff (by omega)).2 ⟨h1, h2⟩), if_pos (by omega), slot_hit h2 h1 rfl le_rfl (by omega)]
      · rw [sel_zero (kept_not (by omega) (fun h => h2 h.2)), if_neg (by omega), if_neg (by omega)]
    · rw [sel_zero (kept_not (by omega) (fun h => h1 h.1)), cn_succ_zero (bit_ne_one h1)]

theorem lastOf_eq (e : ℕ → BitVec 1) (X : ℕ → EReal) : ∀ n ≤ 16, lastOf (kept e) X n
    = if cn e n = 0 then word 0#32 else slot e X (min (cn e n) 8 - 1) 16
  | 0, _ => by rw [lastOf, if_pos (by rfl)]
  | n + 1, hn => by
    have ih := lastOf_eq e X n (by omega)
    rw [lastOf, ih]
    by_cases h1 : e n = 1#1
    · rw [cn_succ_one h1, if_neg (Nat.succ_ne_zero _)]
      by_cases h2 : cn e n < 8
      · have h3 : min (cn e n + 1) 8 - 1 = cn e n := by omega
        rw [sel_one ((kept_iff (by omega)).2 ⟨h1, h2⟩), h3, slot_hit h2 h1 rfl le_rfl (by omega)]
      · have h3 : min (cn e n + 1) 8 = min (cn e n) 8 := by omega
        rw [sel_zero (kept_not (by omega) (fun h => h2 h.2)), if_neg (by omega), h3]
    · rw [sel_zero (kept_not (by omega) (fun h => h1 h.1)), cn_succ_zero (bit_ne_one h1)]

theorem wrapTo_eq (e : ℕ → BitVec 1) (X : ℕ → EReal) (h0 : cn e 16 ≠ 0) :
    wrapTo e X = if cn e 16 ≤ 8 then slot e X 0 16 else slot e X 7 16 := by
  have hc := cn_le e 16
  have key : ∀ a ≤ 16, IntOp.cmpi .sle (BitVec.ofNat 32 a) 8#32 = if a ≤ 8 then 1#1 else 0#1 := by decide +kernel
  rw [wrapTo, count_eq, key _ hc]
  split <;> rename_i h
  · rw [sel_one rfl, firstOf_eq _ _ _ 16 0 rfl]
    have : cn e 0 = 0 := rfl
    rw [this, if_pos (by omega)]
  · rw [sel_zero (by decide), lastOf_eq _ _ _ le_rfl, if_neg h0]
    have : min (cn e 16) 8 - 1 = 7 := by omega
    rw [this]

theorem next8 (cnt : BitVec 32) (v : ℕ → EReal) (i : ℕ) :
    next 8 cnt v i = sel (more cnt (i + 1)) (v (min (i + 1) 7)) (v 0) := if_neg (by omega)

/-- What follows an emitted candidate is what follows its slot. -/
theorem after_eq (e : ℕ → BitVec 1) (X : ℕ → EReal) {t : ℕ} (ht : t < 16) (h1 : e t = 1#1) (h2 : cn e t < 8) :
    firstOf (kept e) X (wrapTo e X) (15 - t) = next 8 (count e 16) (fun j => slot e X j 16) (cn e t) := by
  have hc := cn_mono e (show t + 1 ≤ 16 by omega)
  have hc' := cn_le e 16
  have key : ∀ a ≤ 16, ∀ b ≤ 8, more (BitVec.ofNat 32 a) b = if b < a then 1#1 else 0#1 := by decide +kernel
  rw [cn_succ_one h1] at hc
  rw [firstOf_eq _ _ _ _ (t + 1) (by omega), cn_succ_one h1, next8,
    wrapTo_eq _ _ (by omega), count_eq, key _ hc' _ (by omega)]
  by_cases h : cn e t + 1 < cn e 16
  · rw [if_pos h, sel_one rfl]
    by_cases h' : cn e t + 1 < 8
    · rw [if_pos (by omega), Nat.min_eq_left (by omega)]
    · rw [if_neg (by omega), if_neg (by omega), Nat.min_eq_right (by omega)]
  · rw [if_neg h, sel_zero (by decide), if_neg (by omega), if_pos (by omega)]

theorem sumTo_eq (f : ℕ → EReal) : ∀ n, sumTo f n = ∑ k ∈ range (n + 1), f k
  | 0 => by simp [sumTo]
  | n + 1 => by rw [sumTo, sumTo_eq f n, sum_range_succ _ (n + 1)]

/-- The shoelace area of a padded polygon. -/
def polyArea (cnt : BitVec 32) (q : Poly) : EReal :=
  halfAbs (∑ j ∈ range 8, sel (more cnt j) (q.x j * next 8 cnt q.y j - q.y j * next 8 cnt q.x j) (word 0#32))

theorem areaOf_eq (e : ℕ → BitVec 1) (X Y : ℕ → EReal) :
    areaOf e X Y = polyArea (count e 16) ⟨fun j => slot e X j 16, fun j => slot e Y j 16⟩ := by
  have key : ∀ a ≤ 16, ∀ b ≤ 8, more (BitVec.ofNat 32 a) b = if b < a then 1#1 else 0#1 := by decide +kernel
  set T : ℕ → EReal := fun j => slot e X j 16 * next 8 (count e 16) (fun j => slot e Y j 16) j
    - slot e Y j 16 * next 8 (count e 16) (fun j => slot e X j 16) j with hT
  have step : ∀ n ≤ 16, ∑ k ∈ range n, termAt e X Y k = ∑ j ∈ range (min (cn e n) 8), T j := by
    intro n
    induction n with
    | zero => intro _; rfl
    | succ n ih =>
      intro hn
      rw [sum_range_succ, ih (by omega), termAt]
      by_cases h1 : e n = 1#1
      · by_cases h2 : cn e n < 8
        · rw [sel_one ((kept_iff (by omega)).2 ⟨h1, h2⟩), after_eq e X hn h1 h2, after_eq e Y hn h1 h2, cn_succ_one h1,
            show min (cn e n + 1) 8 = min (cn e n) 8 + 1 by omega, sum_range_succ, show min (cn e n) 8 = cn e n by omega, hT]
          dsimp only
          rw [slot_hit h2 h1 rfl le_rfl (by omega), slot_hit h2 h1 rfl le_rfl (by omega)]
        · rw [sel_zero (kept_not (by omega) (fun h => h2 h.2)), cn_succ_one h1, word_zero, add_zero,
            show min (cn e n + 1) 8 = min (cn e n) 8 by omega]
      · rw [sel_zero (kept_not (by omega) (fun h => h1 h.1)), cn_succ_zero (bit_ne_one h1), word_zero, add_zero]
  have hc := cn_le e 16
  rw [areaOf, sumTo_eq, step 16 le_rfl, polyArea]
  refine congrArg halfAbs ?_
  rw [← sum_subset (range_mono (Nat.min_le_right (cn e 16) 8))]
  · refine sum_congr rfl fun j hj => ?_
    have hj := mem_range.1 hj
    rw [count_eq, key _ hc _ (by omega), if_pos (by omega), sel_one rfl, ← count_eq]
  · intro j hj hj'
    have hj := mem_range.1 hj
    have hj' : ¬ j < min (cn e 16) 8 := fun h => hj' (mem_range.2 h)
    rw [count_eq, key _ hc _ (by omega), if_neg (by omega), sel_zero (by decide), word_zero]

theorem areaN_eq (cnt : BitVec 32) (p : Poly) (L : Line) :
    areaN cnt p L = polyArea (countN 8 cnt p L) ⟨fun j => slot (flags 8 cnt p L) (cands 8 cnt p L p.x) j 16,
      fun j => slot (flags 8 cnt p L) (cands 8 cnt p L p.y) j 16⟩ := areaOf_eq _ _ _

theorem polyArea_congr (cnt : BitVec 32) {q q' : Poly} (hx : ∀ j < 8, q.x j = q'.x j) (hy : ∀ j < 8, q.y j = q'.y j) :
    polyArea cnt q = polyArea cnt q' := by
  refine congrArg halfAbs (sum_congr rfl fun j hj => ?_)
  have hj := mem_range.1 hj
  rw [hx j hj, hy j hj, next_congr hx, next_congr hy]

end Cert.Giou

end
-- ==== Proof.Clips.lean ====
/- The kernel's four clips, each of which looks at no more slots than can be filled, against clips that look at all eight
   slots and fill all eight. -/
module

public import proofs.«01_k».proof.Proof.Emit

@[expose] public section

noncomputable section

namespace Cert.Giou

open Idealize.ShloMosaic Finset

/-- A quadrilateral, its other slots zero. -/
def pad (p : Poly) : Poly := ⟨fun j => if j < 4 then p.x j else word 0#32, fun j => if j < 4 then p.y j else word 0#32⟩

/-- The area of the intersection, each clip looking at all eight slots. -/
def fullArea (p t : Poly) : EReal :=
  let c1 := countN 8 4#32 (pad p) (edge t 0)
  let q1 := clipN 8 8 4#32 (pad p) (edge t 0)
  let c2 := countN 8 c1 q1 (edge t 1)
  let q2 := clipN 8 8 c1 q1 (edge t 1)
  let c3 := countN 8 c2 q2 (edge t 2)
  let q3 := clipN 8 8 c2 q2 (edge t 2)
  polyArea (countN 8 c3 q3 (edge t 3)) (clipN 8 8 c3 q3 (edge t 3))

theorem more_eq {a b : ℕ} (ha : a ≤ 16) (hb : b ≤ 8) : more (BitVec.ofNat 32 a) b = if b < a then 1#1 else 0#1 := by
  have key : ∀ a ≤ 16, ∀ b ≤ 8, more (BitVec.ofNat 32 a) b = if b < a then 1#1 else 0#1 := by decide +kernel
  exact key a ha b hb

theorem more_one {a b : ℕ} (ha : a ≤ 16) (hb : b ≤ 8) (h : b < a) : more (BitVec.ofNat 32 a) b = 1#1 := by
  rw [more_eq ha hb, if_pos h]
theorem more_zero {a b : ℕ} (ha : a ≤ 16) (hb : b ≤ 8) (h : a ≤ b) : more (BitVec.ofNat 32 a) b = 0#1 := by
  rw [more_eq ha hb, if_neg (by omega)]

theorem one_andi (x : BitVec 1) : IntOp.andi 1#1 x = x := by revert x; decide
theorem zero_andi (x : BitVec 1) : IntOp.andi 0#1 x = 0#1 := by revert x; decide

theorem alternate_congr {α : Type} {f f' g g' : ℕ → α} {n : ℕ} (hf : ∀ i < n, f i = f' i) (hg : ∀ i < n, g i = g' i) {k : ℕ}
    (hk : k < 2 * n) : alternate f g k = alternate f' g' k := by
  rw [alternate, alternate, hf _ (by omega), hg _ (by omega)]

/-! ## The flags' bits -/

/-- What follows bit `i` among eight, the first after the last. -/
def bitNext (cnt : BitVec 32) (b : ℕ → BitVec 1) (i : ℕ) : BitVec 1 := Scalar.select (more cnt (i + 1)) (b (min (i + 1) 7)) (b 0)
/-- The flags from the bits that say which slots lie inside. -/
def flagBits (cnt : BitVec 32) (b : ℕ → BitVec 1) : ℕ → BitVec 1 :=
  alternate (fun i => IntOp.andi (more cnt i) (b i)) (fun i => IntOp.andi (more cnt i) (IntOp.xori (b i) (bitNext cnt b i)))
/-- Eight bits. -/
def bits (b0 b1 b2 b3 b4 b5 b6 b7 : BitVec 1) : ℕ → BitVec 1
  | 0 => b0 | 1 => b1 | 2 => b2 | 3 => b3 | 4 => b4 | 5 => b5 | 6 => b6 | _ => b7

theorem inside_next (cnt : BitVec 32) (v : ℕ → EReal) (i : ℕ) :
    inside (next 8 cnt v i) = bitNext cnt (fun j => inside (v j)) i := by
  rw [next8, bitNext]
  by_cases h : more cnt (i + 1) = 1#1
  · rw [h]; rfl
  · rw [bit_ne_one h]; rfl

theorem flags_eq_bits (cnt : BitVec 32) (p : Poly) (L : Line) :
    flags 8 cnt p L = flagBits cnt fun i => inside (sides L p i) := by
  unfold flags flagBits
  simp only [inside_next]

theorem bits_eq (b : ℕ → BitVec 1) {j : ℕ} (hj : j < 8) : bits (b 0) (b 1) (b 2) (b 3) (b 4) (b 5) (b 6) (b 7) j = b j := by
  interval_cases j <;> rfl

theorem flagBits_eq (cnt : BitVec 32) (b : ℕ → BitVec 1) {k : ℕ} (hk : k < 16) :
    flagBits cnt b k = flagBits cnt (bits (b 0) (b 1) (b 2) (b 3) (b 4) (b 5) (b 6) (b 7)) k := by
  refine alternate_congr (n := 8) (fun i hi => ?_) (fun i hi => ?_) hk
  · rw [bits_eq b hi]
  · rw [bits_eq b hi, bitNext, bitNext, bits_eq b (by omega), bits_eq b (by omega)]

/-- A polygon of at most five vertices leaves at most seven. -/
theorem cn_le_seven {c : ℕ} (hc : c ≤ 5) (p : Poly) (L : Line) : cn (flags 8 (BitVec.ofNat 32 c) p L) 16 ≤ 7 := by
  have key : ∀ c ≤ 5, ∀ b0 b1 b2 b3 b4 b5 b6 b7 : BitVec 1,
      cn (flagBits (BitVec.ofNat 32 c) (bits b0 b1 b2 b3 b4 b5 b6 b7)) 16 ≤ 7 := by
    decide +kernel
  rw [flags_eq_bits, cn_congr fun k hk => flagBits_eq _ _ hk]
  exact key c hc _ _ _ _ _ _ _ _

/-- A quadrilateral whose vertices are not alternately inside and outside leaves at most five. -/
theorem cn_le_five (p : Poly) (L : Line)
    (h : ¬ (inside (sides L p 0) = inside (sides L p 2) ∧ inside (sides L p 1) = inside (sides L p 3)
      ∧ inside (sides L p 0) ≠ inside (sides L p 1))) : cn (flags 8 4#32 p L) 16 ≤ 5 := by
  have key : ∀ b0 b1 b2 b3 b4 b5 b6 b7 : BitVec 1, ¬ (b0 = b2 ∧ b1 = b3 ∧ b0 ≠ b1) →
      cn (flagBits 4#32 (bits b0 b1 b2 b3 b4 b5 b6 b7)) 16 ≤ 5 := by
    decide +kernel
  rw [flags_eq_bits, cn_congr fun k hk => flagBits_eq _ _ hk]
  exact key _ _ _ _ _ _ _ _ h

/-! ## A clip that looks at fewer slots -/

/-- Two polygons with the same eight slots. -/
def Same (p p' : Poly) : Prop := (∀ j < 8, p.x j = p'.x j) ∧ ∀ j < 8, p.y j = p'.y j

theorem next_full {nv c : ℕ} (hnv : nv < 8) (hc : c ≤ nv) {v v' : ℕ → EReal} (hv : ∀ j < 8, v j = v' j) {i : ℕ} (hi : i < nv) :
    next nv (BitVec.ofNat 32 c) v i = next 8 (BitVec.ofNat 32 c) v' i := by
  rw [next8]
  by_cases h : i + 1 = nv
  · rw [next, if_pos ⟨h, hnv⟩, more_zero (by omega) (by omega) (by omega), sel_zero (by decide), hv 0 (by omega)]
  · rw [next, if_neg (fun hh => h hh.1), hv _ (by omega), hv 0 (by omega)]

theorem sides_same {p p' : Poly} (h : Same p p') (L : Line) : ∀ j < 8, sides L p j = sides L p' j :=
  fun j hj => sides_congr L (h.1 j hj) (h.2 j hj)

theorem flags_full {nv c : ℕ} (hnv : nv < 8) (hc : c ≤ nv) {p p' : Poly} (h : Same p p') (L : Line) {k : ℕ} (hk : k < 2 * nv) :
    flags nv (BitVec.ofNat 32 c) p L k = flags 8 (BitVec.ofNat 32 c) p' L k := by
  have hs := sides_same h L
  refine alternate_congr (n := nv) (fun i hi => ?_) (fun i hi => ?_) hk
  · rw [hs i (by omega)]
  · rw [hs i (by omega), next_full hnv hc hs hi]

theorem cands_full {nv c : ℕ} (hnv : nv < 8) (hc : c ≤ nv) {p p' : Poly} (h : Same p p') (L : Line) {v v' : ℕ → EReal}
    (hv : ∀ j < 8, v j = v' j) {k : ℕ} (hk : k < 2 * nv) :
    cands nv (BitVec.ofNat 32 c) p L v k = cands 8 (BitVec.ofNat 32 c) p' L v' k := by
  have hs := sides_same h L
  refine alternate_congr (n := nv) (fun i hi => ?_) (fun i hi => ?_) hk
  · rw [hv i (by omega)]
  · rw [hs i (by omega), next_full hnv hc hs hi, next_full hnv hc hv hi, hv i (by omega)]

theorem flags_stop {nv c : ℕ} (hnv : nv < 8) (hc : c ≤ nv) (p : Poly) (L : Line) (k : ℕ) (h : 2 * nv ≤ k) (hk : k < 16) :
    flags 8 (BitVec.ofNat 32 c) p L k = 0#1 := by
  rw [flags, alternate, more_zero (by omega) (by omega) (by omega)]
  split <;> exact zero_andi _

theorem countN_eq_cn (cnt : BitVec 32) (p : Poly) (L : Line) : countN 8 cnt p L = BitVec.ofNat 32 (cn (flags 8 cnt p L) 16) :=
  count_eq _ _

theorem countN_full {nv c : ℕ} (hnv : nv < 8) (hc : c ≤ nv) {p p' : Poly} (h : Same p p') (L : Line) :
    countN nv (BitVec.ofNat 32 c) p L = countN 8 (BitVec.ofNat 32 c) p' L := by
  rw [countN, countN, count_eq, count_eq, cn_congr fun k hk => flags_full hnv hc h L hk,
    cn_stop (e := flags 8 (BitVec.ofNat 32 c) p' L) (a := 2 * nv) (n := 2 * 8) (by omega)
      fun k h1 h2 => flags_stop hnv hc p' L k h1 (by omega)]

theorem slot_full {nv c : ℕ} (hnv : nv < 8) (hc : c ≤ nv) {p p' : Poly} (h : Same p p') (L : Line) {v v' : ℕ → EReal}
    (hv : ∀ j < 8, v j = v' j) {j : ℕ} (hj : j < 8) :
    slot (flags nv (BitVec.ofNat 32 c) p L) (cands nv (BitVec.ofNat 32 c) p L v) j (2 * nv)
      = slot (flags 8 (BitVec.ofNat 32 c) p' L) (cands 8 (BitVec.ofNat 32 c) p' L v') j 16 := by
  rw [slot_stop (a := 2 * nv) (n := 16) hj (by omega) le_rfl fun k h1 h2 => flags_stop hnv hc p' L k h1 h2]
  exact slot_congr j (fun k hk => flags_full hnv hc h L hk) fun k hk => cands_full hnv hc h L hv hk

theorem clipN_same {nv m c : ℕ} (hnv : nv < 8) (hc : c ≤ nv) {p p' : Poly} (h : Same p p') (L : Line)
    (hm : cn (flags 8 (BitVec.ofNat 32 c) p' L) 16 ≤ m) :
    Same (clipN nv m (BitVec.ofNat 32 c) p L) (clipN 8 8 (BitVec.ofNat 32 c) p' L) := by
  constructor <;> intro j hj
  · show ite _ _ _ = ite _ _ _
    rw [if_pos hj]
    split
    · exact slot_full hnv hc h L h.1 hj
    · exact (slot_miss hj le_rfl (by omega)).symm
  · show ite _ _ _ = ite _ _ _
    rw [if_pos hj]
    split
    · exact slot_full hnv hc h L h.2 hj
    · exact (slot_miss hj le_rfl (by omega)).symm

theorem clipN_same' {nv c : ℕ} (hnv : nv < 8) (hc : c ≤ nv) {p p' : Poly} (h : Same p p') (L : Line) :
    Same (clipN nv 8 (BitVec.ofNat 32 c) p L) (clipN 8 8 (BitVec.ofNat 32 c) p' L) := by
  constructor <;> intro j hj
  · show ite _ _ _ = ite _ _ _
    rw [if_pos hj, if_pos hj]
    exact slot_full hnv hc h L h.1 hj
  · show ite _ _ _ = ite _ _ _
    rw [if_pos hj, if_pos hj]
    exact slot_full hnv hc h L h.2 hj

/-! ## The first clip -/

theorem pad_sides (p : Poly) (L : Line) {i : ℕ} (hi : i < 4) : sides L (pad p) i = sides L p i := by
  rw [sides, sides, pad]
  dsimp only
  rw [if_pos hi, if_pos hi]

theorem next_four (v : ℕ → EReal) {i : ℕ} (hi : i < 4) : next 8 4#32 v i = v ((i + 1) % 4) := by
  rw [next8, show (4#32 : BitVec 32) = BitVec.ofNat 32 4 from rfl, more_eq (by omega) (by omega)]
  split
  · rw [sel_one rfl, Nat.min_eq_left (by omega), Nat.mod_eq_of_lt (by omega)]
  · rw [sel_zero (by decide), show (i + 1) % 4 = 0 by omega]

theorem more_four {i : ℕ} (hi : i < 4) : more 4#32 i = 1#1 := more_one (a := 4) (by omega) (by omega) hi

theorem flags4_eq (p : Poly) (L : Line) {k : ℕ} (hk : k < 8) : flags4 p L k = flags 8 4#32 (pad p) L k := by
  refine alternate_congr (n := 4) (fun i hi => ?_) (fun i hi => ?_) hk
  · rw [more_four hi, one_andi, pad_sides p L hi]
  · rw [more_four hi, one_andi, pad_sides p L hi, next_four _ hi, pad_sides p L (by omega)]

theorem cands4_eq (p : Poly) (L : Line) {v v' : ℕ → EReal} (hv : ∀ i < 4, v i = v' i) {k : ℕ} (hk : k < 8) :
    cands4 p L v k = cands 8 4#32 (pad p) L v' k := by
  refine alternate_congr (n := 4) hv (fun i hi => ?_) hk
  rw [pad_sides p L hi, next_four _ hi, pad_sides p L (by omega), next_four _ hi, hv i hi, hv _ (by omega)]

theorem flags_stop4 (p : Poly) (L : Line) (k : ℕ) (h : 8 ≤ k) (hk : k < 16) : flags 8 4#32 p L k = 0#1 :=
  flags_stop (nv := 4) (c := 4) (by omega) le_rfl p L k h hk

theorem count4_eq (p : Poly) (L : Line) : count4 p L = countN 8 4#32 (pad p) L := by
  rw [count4, countN, count_eq, count_eq, cn_congr fun k hk => flags4_eq p L hk,
    cn_stop (e := flags 8 4#32 (pad p) L) (a := 8) (n := 2 * 8) (by omega) fun k h1 h2 => flags_stop4 _ L k h1 (by omega)]

theorem slot4_eq (p : Poly) (L : Line) {v v' : ℕ → EReal} (hv : ∀ i < 4, v i = v' i) {j : ℕ} (hj : j < 8) :
    slot (flags4 p L) (cands4 p L v) j 8 = slot (flags 8 4#32 (pad p) L) (cands 8 4#32 (pad p) L v') j 16 := by
  rw [slot_stop (a := 8) (n := 16) hj (by omega) le_rfl fun k h1 h2 => flags_stop4 _ L k h1 h2]
  exact slot_congr j (fun k hk => flags4_eq p L hk) fun k hk => cands4_eq p L hv hk

theorem clip4_same (p : Poly) (L : Line) (hm : cn (flags 8 4#32 (pad p) L) 16 ≤ 5) :
    Same (clip4 p L) (clipN 8 8 4#32 (pad p) L) := by
  constructor <;> intro j hj
  · show ite _ _ _ = ite _ _ _
    rw [if_pos hj]
    split
    · exact slot4_eq p L (fun i hi => (if_pos hi).symm) hj
    · exact (slot_miss hj le_rfl (by omega)).symm
  · show ite _ _ _ = ite _ _ _
    rw [if_pos hj]
    split
    · exact slot4_eq p L (fun i hi => (if_pos hi).symm) hj
    · exact (slot_miss hj le_rfl (by omega)).symm

/-- The kernel's area is that of the full clips, when the first line does not part the quadrilateral's vertices alternately. -/
theorem kernelArea_eq (p t : Poly)
    (h : ¬ (inside (sides (edge t 0) p 0) = inside (sides (edge t 0) p 2) ∧ inside (sides (edge t 0) p 1) = inside (sides (edge t 0) p 3)
      ∧ inside (sides (edge t 0) p 0) ≠ inside (sides (edge t 0) p 1))) : kernelArea p t = fullArea p t := by
  have h5 : cn (flags 8 4#32 (pad p) (edge t 0)) 16 ≤ 5 := cn_le_five _ _ (by
    rw [pad_sides p _ (by omega), pad_sides p _ (by omega), pad_sides p _ (by omega), pad_sides p _ (by omega)]; exact h)
  have s1 := clip4_same p (edge t 0) h5
  have e2 := countN_full (nv := 5) (by omega) h5 s1 (edge t 1)
  have h7 := cn_le_seven h5 (clipN 8 8 4#32 (pad p) (edge t 0)) (edge t 1)
  have s2 := clipN_same (nv := 5) (m := 7) (by omega) h5 s1 (edge t 1) h7
  have e3 := countN_full (nv := 7) (by omega) h7 s2 (edge t 2)
  have s3 : Same (clipN 7 8 (BitVec.ofNat 32 _) (clipN 5 7 _ (clip4 p (edge t 0)) (edge t 1)) (edge t 2)) _ :=
    clipN_same' (nv := 7) (by omega) h7 s2 (edge t 2)
  rw [kernelArea, fullArea]
  rw [count4_eq, countN_eq_cn 4#32, e2,
    countN_eq_cn (BitVec.ofNat 32 (cn (flags 8 4#32 (pad p) (edge t 0)) 16)) (clipN 8 8 4#32 (pad p) (edge t 0)) (edge t 1), e3,
    areaN_congr _ (edge t 3) s3.1 s3.2, areaN_eq]
  exact polyArea_congr _ (fun j hj => (if_pos hj).symm) fun j hj => (if_pos hj).symm

end Cert.Giou

end
-- ==== Proof.RefSpec.lean ====
/- The reference's arithmetic of one pair of boxes: the corners with their signs, and the hull as a sum over all ordered pairs
   of points, each tested against all eight points. -/
module

public import proofs.«01_k».proof.Proof.Clips

@[expose] public section

noncomputable section

namespace Cert.Giou

open Idealize.ShloMosaic

/-- The rest of the angle, in the reference. -/
def restR (x : EReal) : EReal :=
  x - ((((quarter x).toInt : ℝ) : EReal) * word 0x3FC90FDB#32 - (((quarter x).toInt : ℝ) : EReal) * word 0x333BBD2E#32)
/-- The sine's polynomial as a sum of powers. -/
def sinSum (r : EReal) : EReal :=
  r - word 0x3E2AAAA3#32 * (r * r * r) + word 0x3C08839E#32 * (r * (r * r * (r * r)))
    - word 0x394CA1F9#32 * (r * (r * r) * (r * r * (r * r)))
/-- The cosine's polynomial as a sum of powers. -/
def cosSum (r : EReal) : EReal :=
  word 0x3F800000#32 - word 0x3F000000#32 * (r * r) + word 0x3D2AAAA5#32 * (r * r * (r * r))
    - word 0x3AB6061A#32 * (r * r * (r * r * (r * r))) + word 0x37CCF5CE#32 * (r * r * (r * r) * (r * r * (r * r)))
/-- The one of four values that the number of quarter turns picks. -/
def byQuarter (q : BitVec 32) (a b c d : EReal) : EReal :=
  sel (IntOp.cmpi .eq (IntOp.andi q 3#32) 0#32) a (sel (IntOp.cmpi .eq (IntOp.andi q 3#32) 1#32) b
    (sel (IntOp.cmpi .eq (IntOp.andi q 3#32) 2#32) c d))
def sinR (x : EReal) : EReal :=
  byQuarter (quarter x) (sinSum (restR x)) (cosSum (restR x)) (-sinSum (restR x)) (-cosSum (restR x))
def cosR (x : EReal) : EReal :=
  byQuarter (quarter x) (cosSum (restR x)) (-sinSum (restR x)) (-cosSum (restR x)) (sinSum (restR x))

/-- The sign of a corner's first offset. -/
def signX (k : ℕ) : EReal := if k = 0 ∨ k = 3 then word 0x3F800000#32 else word 0xBF800000#32
/-- The sign of a corner's second offset. -/
def signY (k : ℕ) : EReal := if k < 2 then word 0x3F800000#32 else word 0xBF800000#32
def Box.cornerX (b : Box) (k : ℕ) : EReal :=
  b.x + b.w * word 0x3F000000#32 * signX k * cosR b.a - b.l * word 0x3F000000#32 * signY k * sinR b.a
def Box.cornerY (b : Box) (k : ℕ) : EReal :=
  b.y + b.w * word 0x3F000000#32 * signX k * sinR b.a + b.l * word 0x3F000000#32 * signY k * cosR b.a
/-- The corners of a box. -/
def Box.corners (b : Box) : Poly := ⟨b.cornerX, b.cornerY⟩

open Classical in
/-- The term of the pair `(i, j)`: counted when every point lies on its left. -/
def pairTerm (X Y : ℕ → EReal) (i j : ℕ) : EReal :=
  if i ≠ j ∧ ∀ k < 8, word 0xB727C5AC#32 ≤ cross X Y i j k then X i * Y j - X j * Y i else word 0#32
/-- The hull's area, over all ordered pairs. -/
def fullHull (X Y : ℕ → EReal) : EReal := halfAbs (∑ i ∈ Finset.range 8, ∑ j ∈ Finset.range 8, pairTerm X Y i j)

/-- The loss of a pair, as the reference computes it. -/
def refLoss (p t : Box) : EReal :=
  lossBy p t (fullArea p.corners t.corners) (fullHull (both p.corners.x t.corners.x) (both p.corners.y t.corners.y))

end Cert.Giou

end
-- ==== Proof.Trig.lean ====
/- The sine and cosine polynomials on finite angles: the kernel's and the reference's are the same and finite, and the sum of
   their squares is at least one half, however large the rest of the angle. -/
module

public import proofs.«01_k».proof.Proof.RefSpec
public import Idealize.ShloMosaic.PureOps.Ideal.Laws
public import Mathlib.Tactic.Linarith
public import Mathlib.Tactic.Ring
public import Mathlib.Tactic.Positivity
public import Mathlib.Tactic.NormNum

@[expose] public section

noncomputable section

namespace Cert.Giou

open Idealize.ShloMosaic

/-! ## The constants -/

theorem word_half : word 0x3F000000#32 = ((1 / 2 : ℝ) : EReal) := by
  simp [Ideal.ofBits, Ideal.ieee, -EReal.coe_mul]; norm_num
theorem word_one : word 0x3F800000#32 = ((1 : ℝ) : EReal) := by
  simp [Ideal.ofBits, Ideal.ieee, -EReal.coe_mul]; norm_num
theorem word_minus_one : word 0xBF800000#32 = ((-1 : ℝ) : EReal) := by
  simp [Ideal.ofBits, Ideal.ieee, -EReal.coe_mul, -EReal.coe_neg]; norm_num
theorem word_nought : word 0#32 = ((0 : ℝ) : EReal) := word_zero
/-- The hull test's tolerance. -/
def tol : ℝ := 10995116 / 2 ^ 40
theorem tol_pos : 0 < tol := by unfold tol; positivity
theorem word_tol : word 0xB727C5AC#32 = ((-tol : ℝ) : EReal) := by
  unfold tol; simp [Ideal.ofBits, Ideal.ieee, -EReal.coe_mul, -EReal.coe_neg]; norm_num
theorem word_two_tol : word 0x37A7C5AC#32 = ((2 * tol : ℝ) : EReal) := by
  unfold tol; simp [Ideal.ofBits, Ideal.ieee, -EReal.coe_mul]; norm_num
theorem word_turn : ∃ r : ℝ, word 0x3FC90FDB#32 = (r : EReal) := ⟨_, by
  simp only [Ideal.ofBits, Ideal.ieee]; rw [if_neg (by decide), if_neg (by decide)]⟩
theorem word_turn' : ∃ r : ℝ, word 0x333BBD2E#32 = (r : EReal) := ⟨_, by
  simp only [Ideal.ofBits, Ideal.ieee]; rw [if_neg (by decide), if_neg (by decide)]⟩
theorem word_A : word 0xB94CA1F9#32 = ((-13410809 / 68719476736 : ℝ) : EReal) := by
  simp [Ideal.ofBits, Ideal.ieee, -EReal.coe_mul, -EReal.coe_neg]; norm_num
theorem word_A' : word 0x394CA1F9#32 = ((13410809 / 68719476736 : ℝ) : EReal) := by
  simp [Ideal.ofBits, Ideal.ieee, -EReal.coe_mul]; norm_num
theorem word_B : word 0x3C08839E#32 = ((4473295 / 536870912 : ℝ) : EReal) := by
  simp [Ideal.ofBits, Ideal.ieee, -EReal.coe_mul]; norm_num
theorem word_C : word 0x3E2AAAA3#32 = ((11184803 / 67108864 : ℝ) : EReal) := by
  simp [Ideal.ofBits, Ideal.ieee, -EReal.coe_mul]; norm_num
theorem word_D : word 0x37CCF5CE#32 = ((6716135 / 274877906944 : ℝ) : EReal) := by
  simp [Ideal.ofBits, Ideal.ieee, -EReal.coe_mul]; norm_num
theorem word_E : word 0x3AB6061A#32 = ((5964557 / 4294967296 : ℝ) : EReal) := by
  simp [Ideal.ofBits, Ideal.ieee, -EReal.coe_mul]; norm_num
theorem word_G : word 0x3D2AAAA5#32 = ((11184805 / 268435456 : ℝ) : EReal) := by
  simp [Ideal.ofBits, Ideal.ieee, -EReal.coe_mul]; norm_num

/-! ## The polynomials over the reals -/

/-- The sine polynomial's factor beside the rest, in the rest's square. -/
def sinFactor (z : ℝ) : ℝ := (((-13410809/68719476736) * z + (4473295/536870912)) * z - (11184803/67108864)) * z + 1
/-- The cosine polynomial, in the rest's square. -/
def cosFactor (z : ℝ) : ℝ := (((6716135/274877906944) * z - (5964557/4294967296)) * z + (11184805/268435456)) * z * z - 1 / 2 * z + 1

theorem sinPoly_coe (r : ℝ) : sinPoly (r : EReal) = ((sinFactor (r * r) * r : ℝ) : EReal) := by
  rw [sinPoly, word_A, word_B, word_C]
  simp only [← EReal.coe_mul, ← EReal.coe_add, ← EReal.coe_sub]
  refine congrArg _ ?_
  unfold sinFactor
  ring
theorem cosPoly_coe (r : ℝ) : cosPoly (r : EReal) = ((cosFactor (r * r) : ℝ) : EReal) := by
  rw [cosPoly, word_D, word_E, word_G, word_half, word_one]
  norm_cast

/-- The reference's sums of powers are the same polynomials. -/
theorem sinSum_coe (r : ℝ) : sinSum (r : EReal) = ((sinFactor (r * r) * r : ℝ) : EReal) := by
  rw [sinSum, word_A', word_B, word_C]
  simp only [← EReal.coe_mul, ← EReal.coe_add, ← EReal.coe_sub]
  refine congrArg _ ?_
  unfold sinFactor
  ring
theorem cosSum_coe (r : ℝ) : cosSum (r : EReal) = ((cosFactor (r * r) : ℝ) : EReal) := by
  rw [cosSum, word_D, word_E, word_G, word_half, word_one]
  simp only [← EReal.coe_mul, ← EReal.coe_add, ← EReal.coe_sub]
  refine congrArg _ ?_
  unfold cosFactor
  ring

theorem squares_low {z : ℝ} (h0 : 0 ≤ z) (h1 : z ≤ 16) : 1 / 2 ≤ cosFactor z ^ 2 + z * sinFactor z ^ 2 := by
  have e : cosFactor z ^ 2 + z * sinFactor z ^ 2 - 1 / 2
      = (1/8589934592) * (z ^ 0 * (16 - z) ^ 8) + (1/1073741824) * (z ^ 1 * (16 - z) ^ 7) + (7340057/2251799813685248) * (z ^ 2 * (16 - z) ^ 6) + (30777422701513/4722366482869645213696) * (z ^ 3 * (16 - z) ^ 5) + (19435560453897/2361183241434822606848) * (z ^ 4 * (16 - z) ^ 4) + (51750067693035/9444732965739290427392) * (z ^ 5 * (16 - z) ^ 3) + (5692477156105/2361183241434822606848) * (z ^ 6 * (16 - z) ^ 2) + (62790668982337/75557863725914323419136) * (z ^ 7 * (16 - z) ^ 1) + (12760223620909/37778931862957161709568) * (z ^ 8 * (16 - z) ^ 0) := by
    unfold cosFactor sinFactor; ring
  have h2 : 0 ≤ 16 - z := by linarith
  have h3 : 0 ≤ cosFactor z ^ 2 + z * sinFactor z ^ 2 - 1 / 2 := by rw [e]; positivity
  linarith
theorem squares_high {z : ℝ} (h : 16 ≤ z) : 1 / 2 ≤ cosFactor z ^ 2 + z * sinFactor z ^ 2 := by
  have e : cosFactor z ^ 2 + z * sinFactor z ^ 2 - 1 / 2
      = (12760223620909/8796093022208) * (z - 16) ^ 0 + (141372908952207/281474976710656) * (z - 16) ^ 1 + (457197108889905/4503599627370496) * (z - 16) ^ 2 + (789496069340611/72057594037927936) * (z - 16) ^ 3 + (873082154279169/1152921504606846976) * (z - 16) ^ 4 + (729964570499021/18446744073709551616) * (z - 16) ^ 5 + (488954854587651/295147905179352825856) * (z - 16) ^ 6 + (220231392522721/4722366482869645213696) * (z - 16) ^ 7 + (45106469338225/75557863725914323419136) * (z - 16) ^ 8 := by
    unfold cosFactor sinFactor; ring
  have h2 : 0 ≤ z - 16 := by linarith
  have h3 : 0 ≤ cosFactor z ^ 2 + z * sinFactor z ^ 2 - 1 / 2 := by rw [e]; positivity
  linarith
theorem squares (r : ℝ) : 1 / 2 ≤ cosFactor (r * r) ^ 2 + (sinFactor (r * r) * r) ^ 2 := by
  have h : 0 ≤ r * r := mul_self_nonneg r
  have e : (sinFactor (r * r) * r) ^ 2 = r * r * sinFactor (r * r) ^ 2 := by ring
  rw [e]
  rcases le_total (r * r) 16 with h1 | h1
  · exact squares_low h h1
  · exact squares_high h1

/-! ## Sine and cosine of a finite angle -/

theorem rest_coe (a : ℝ) : ∃ r : ℝ, rest (a : EReal) = (r : EReal) ∧ restR (a : EReal) = (r : EReal) := by
  obtain ⟨u, hu⟩ := word_turn
  obtain ⟨v, hv⟩ := word_turn'
  refine ⟨a - ((quarter (a : EReal)).toInt : ℝ) * u + ((quarter (a : EReal)).toInt : ℝ) * v, ?_, ?_⟩
  · rw [rest, hu, hv]
    norm_cast
  · rw [restR, hu, hv]
    simp only [← EReal.coe_mul, ← EReal.coe_sub]
    exact congrArg _ (by ring)

theorem neg_word (v : ℝ) : word 0#32 - (v : EReal) = ((-v : ℝ) : EReal) := by
  rw [word_nought]; norm_cast; rw [zero_sub]

/-- The low two bits of a number are one of four. -/
theorem low_two (q : BitVec 32) : q &&& 3#32 = 0#32 ∨ q &&& 3#32 = 1#32 ∨ q &&& 3#32 = 2#32 ∨ q &&& 3#32 = 3#32 := by
  have h : (q &&& 3#32).toNat = q.toNat % 4 := by
    rw [BitVec.toNat_and]; exact Nat.and_two_pow_sub_one_eq_mod q.toNat 2
  have h4 : q.toNat % 4 < 4 := Nat.mod_lt _ (by decide)
  have e : ∀ k : ℕ, q.toNat % 4 = k → q &&& 3#32 = BitVec.ofNat 32 k := fun k hk => by
    rw [← hk, ← h, BitVec.ofNat_toNat, BitVec.setWidth_eq]
  rcases (by omega : q.toNat % 4 = 0 ∨ q.toNat % 4 = 1 ∨ q.toNat % 4 = 2 ∨ q.toNat % 4 = 3) with h | h | h | h
  · exact Or.inl (e 0 h)
  · exact Or.inr (Or.inl (e 1 h))
  · exact Or.inr (Or.inr (Or.inl (e 2 h)))
  · exact Or.inr (Or.inr (Or.inr (e 3 h)))
/-- The tests of single bits see the low two bits only. -/
theorem bit_one (q : BitVec 32) : q &&& 1#32 = (q &&& 3#32) &&& 1#32 := by
  rw [BitVec.and_assoc]; rfl
theorem bit_two (q : BitVec 32) : q &&& 2#32 = (q &&& 3#32) &&& 2#32 := by
  rw [BitVec.and_assoc]; rfl
theorem low_next (q : BitVec 32) : (q + 1#32) &&& 3#32 = ((q &&& 3#32) + 1#32) &&& 3#32 := by
  have h : ∀ p : BitVec 32, (p &&& 3#32).toNat = p.toNat % 4 := fun p => by
    rw [BitVec.toNat_and]; exact Nat.and_two_pow_sub_one_eq_mod p.toNat 2
  refine BitVec.eq_of_toNat_eq ?_
  rw [h, h, BitVec.toNat_add, BitVec.toNat_add, h]
  show (q.toNat + 1) % 4294967296 % 4 = (q.toNat % 4 + 1) % 4294967296 % 4
  omega

/-- The kernel's two swaps of sign and the reference's four cases pick the same values. -/
theorem turned (q : BitVec 32) (S C : ℝ) (h : 1 / 2 ≤ C ^ 2 + S ^ 2) : ∃ s c : ℝ,
    sel (IntOp.cmpi .ne (IntOp.andi q 2#32) 0#32) (word 0#32 - sel (IntOp.cmpi .ne (IntOp.andi q 1#32) 0#32) (C : EReal) S)
      (sel (IntOp.cmpi .ne (IntOp.andi q 1#32) 0#32) (C : EReal) S) = s
    ∧ byQuarter q S C (-(S : EReal)) (-(C : EReal)) = s
    ∧ sel (IntOp.cmpi .ne (IntOp.andi (IntOp.addi q 1#32) 2#32) 0#32)
      (word 0#32 - sel (IntOp.cmpi .ne (IntOp.andi q 1#32) 0#32) (S : EReal) C)
      (sel (IntOp.cmpi .ne (IntOp.andi q 1#32) 0#32) (S : EReal) C) = c
    ∧ byQuarter q C (-(S : EReal)) (-(C : EReal)) S = c
    ∧ 1 / 2 ≤ s * s + c * c := by
  have e1 : IntOp.andi q 1#32 = (q &&& 3#32) &&& 1#32 := bit_one q
  have e2 : IntOp.andi q 2#32 = (q &&& 3#32) &&& 2#32 := bit_two q
  have e3 : IntOp.andi (IntOp.addi q 1#32) 2#32 = (((q &&& 3#32) + 1#32) &&& 3#32) &&& 2#32 :=
    (bit_two (q + 1#32)).trans (congrArg (· &&& 2#32) (low_next q))
  have e4 : IntOp.andi q 3#32 = q &&& 3#32 := rfl
  unfold byQuarter
  rw [e1, e2, e3, e4]
  rcases low_two q with h0 | h0 | h0 | h0 <;> rw [h0]
  · exact ⟨S, C, rfl, rfl, rfl, rfl, by nlinarith⟩
  · exact ⟨C, -S, rfl, rfl, neg_word S, (EReal.coe_neg S).symm, by nlinarith⟩
  · exact ⟨-S, -C, neg_word S, (EReal.coe_neg S).symm, neg_word C, (EReal.coe_neg C).symm, by nlinarith⟩
  · exact ⟨-C, S, neg_word C, (EReal.coe_neg C).symm, rfl, rfl, by nlinarith⟩

/-- At a finite angle the kernel's and the reference's sine and cosine are the same finite numbers, whose squares add up to at least one half. -/
theorem angle (a : ℝ) : ∃ s c : ℝ, sinOf (a : EReal) = s ∧ sinR (a : EReal) = s ∧ cosOf (a : EReal) = c ∧ cosR (a : EReal) = c
    ∧ 1 / 2 ≤ s * s + c * c := by
  obtain ⟨r, hr, hr'⟩ := rest_coe a
  rw [sinOf, sinR, cosOf, cosR, hr, hr', sinPoly_coe, cosPoly_coe, sinSum_coe, cosSum_coe]
  exact turned _ _ _ (squares r)

end Cert.Giou

end
-- ==== Proof.Hull.lean ====
/- The hull the kernel computes is the hull over all pairs: within a parallelogram every cross product is zero or plus or minus its
   area, so the pairs the kernel leaves out count nothing and the points it leaves untested never fail. -/
module

public import proofs.«01_k».proof.Proof.Trig
public import Mathlib.Tactic.IntervalCases

@[expose] public section

set_option synthInstance.maxSize 4000

noncomputable section

namespace Cert.Giou

open Idealize.ShloMosaic

/-! ## Folds -/

theorem le_foldl_min (c : EReal) : ∀ (l : List EReal) (a : EReal), c ≤ l.foldl min a ↔ c ≤ a ∧ ∀ x ∈ l, c ≤ x
  | [], a => by simp
  | b :: l, a => by
    rw [List.foldl_cons, le_foldl_min c l, le_min_iff, List.forall_mem_cons, and_assoc]
theorem le_fold1_min (c : EReal) {l : List EReal} (h : l ≠ []) : c ≤ fold1 min l ↔ ∀ x ∈ l, c ≤ x := by
  cases l with
  | nil => exact absurd rfl h
  | cons a l => rw [fold1, le_foldl_min, List.forall_mem_cons]
theorem foldl_add : ∀ (l : List EReal) (a : EReal), l.foldl (· + ·) a = a + l.sum
  | [], a => by simp
  | b :: l, a => by rw [List.foldl_cons, foldl_add l, List.sum_cons, add_assoc]
theorem fold1_add (l : List EReal) : fold1 (· + ·) l = l.sum := by
  cases l with
  | nil => exact word_zero
  | cons a l => rw [fold1, foldl_add, List.sum_cons]
theorem flat_sum (f : ℕ → List EReal) : ∀ l : List ℕ, (l.flatMap f).sum = (l.map fun i => (f i).sum).sum
  | [] => rfl
  | a :: l => by rw [List.flatMap_cons, List.sum_append, flat_sum f l, List.map_cons, List.sum_cons]
theorem filter_sum (p : ℕ → Bool) (g : ℕ → EReal) : ∀ l : List ℕ,
    ((l.filter p).map g).sum = (l.map fun j => if p j = true then g j else 0).sum
  | [] => rfl
  | a :: l => by
    by_cases h : p a = true
    · rw [List.filter_cons_of_pos h, List.map_cons, List.sum_cons, filter_sum p g l, List.map_cons, List.sum_cons, if_pos h]
    · rw [List.filter_cons_of_neg h, filter_sum p g l, List.map_cons, List.sum_cons, if_neg h, zero_add]
theorem range_sum (g : ℕ → EReal) (n : ℕ) : ((List.range n).map g).sum = ∑ i ∈ Finset.range n, g i := by
  induction n with
  | zero => simp
  | succ n ih => rw [List.range_succ, List.map_append, List.sum_append, ih, Finset.sum_range_succ]; simp

/-! ## Cross products of real points -/

/-- The cross product over the reals. -/
def turn (u v : ℕ → ℝ) (i j k : ℕ) : ℝ := (u j - u i) * (v k - v i) - (v j - v i) * (u k - u i)
/-- The area of a parallelogram, with its orientation. -/
def quadArea (u v : ℕ → ℝ) : ℝ := (u 1 - u 0) * (v 2 - v 0) - (v 1 - v 0) * (u 2 - u 0)

theorem turn_next {u v : ℕ → ℝ} (hu : u 0 + u 2 = u 1 + u 3) (hv : v 0 + v 2 = v 1 + v 3) {i k : ℕ} (hi : i < 4) (hk : k < 4) :
    turn u v i ((i + 1) % 4) k = 0 ∨ turn u v i ((i + 1) % 4) k = quadArea u v := by
  have h3 : u 3 = u 0 + u 2 - u 1 := by linarith
  have g3 : v 3 = v 0 + v 2 - v 1 := by linarith
  interval_cases i <;> interval_cases k <;>
    first
      | (left; simp only [turn, quadArea, Nat.reduceAdd, Nat.reduceMod, h3, g3]; ring1)
      | (right; simp only [turn, quadArea, Nat.reduceAdd, Nat.reduceMod, h3, g3]; ring1)
      | (right; rfl)
theorem turn_back {u v : ℕ → ℝ} (hu : u 0 + u 2 = u 1 + u 3) (hv : v 0 + v 2 = v 1 + v 3) {i j : ℕ} (hi : i < 4) (hj : j < 4)
    (h : i ≠ j) (h' : j ≠ (i + 1) % 4) : turn u v i j ((i + 1) % 4) = -quadArea u v := by
  have h3 : u 3 = u 0 + u 2 - u 1 := by linarith
  have g3 : v 3 = v 0 + v 2 - v 1 := by linarith
  interval_cases i <;> interval_cases j <;> first
    | omega
    | (simp only [turn, quadArea, Nat.reduceAdd, Nat.reduceMod, h3, g3]; ring1)

/-- Eight finite points, the first four and the last four the corners of parallelograms larger than the tolerance. -/
structure Eight (X Y : ℕ → EReal) (u v : ℕ → ℝ) : Prop where
  hX : ∀ i < 8, X i = (u i : EReal)
  hY : ∀ i < 8, Y i = (v i : EReal)
  hu : u 0 + u 2 = u 1 + u 3
  hv : v 0 + v 2 = v 1 + v 3
  ha : tol < quadArea u v
  hu' : u 4 + u 6 = u 5 + u 7
  hv' : v 4 + v 6 = v 5 + v 7
  ha' : tol < quadArea (fun i => u (4 + i)) fun i => v (4 + i)

variable {X Y : ℕ → EReal} {u v : ℕ → ℝ} (E : Eight X Y u v)

include E

theorem Eight.cross_eq {i j k : ℕ} (hi : i < 8) (hj : j < 8) (hk : k < 8) : cross X Y i j k = (turn u v i j k : EReal) := by
  rw [cross, E.hX i hi, E.hX j hj, E.hX k hk, E.hY i hi, E.hY j hj, E.hY k hk]
  simp only [← EReal.coe_mul, ← EReal.coe_sub]
  rfl
theorem Eight.crossed_eq {i j k : ℕ} (hi : i < 8) (hj : j < 8) (hk : k < 8) : crossed X Y i j k = (turn u v i j k : EReal) := by
  rw [crossed]
  split
  · rw [E.cross_eq hi hk hj, neg_word]
    refine congrArg _ ?_
    unfold turn; ring
  · exact E.cross_eq hi hj hk
theorem Eight.shoe_eq {i j : ℕ} (hi : i < 8) (hj : j < 8) : shoe X Y i j = X i * Y j - X j * Y i := by
  rw [shoe]
  split
  · rfl
  · rw [E.hX i hi, E.hX j hj, E.hY i hi, E.hY j hj]
    simp only [← EReal.coe_mul, ← EReal.coe_sub, neg_word]
    refine congrArg _ ?_
    ring

/-- A pair that is looked at turns no untested point to its right. -/
theorem Eight.untested {i j k : ℕ} (hi : i < 8) (hj : j < 8) (hk : k < 8) (hl : looked i j = true) (ht : tested i j k = false) :
    -tol ≤ turn u v i j k := by
  have h0 := tol_pos
  have ha := E.ha
  have ha' := E.ha'
  by_cases h1 : k = i
  · subst h1
    have : turn u v k j k = 0 := by unfold turn; ring
    linarith
  by_cases h2 : k = j
  · subst h2
    have : turn u v i k k = 0 := by unfold turn; ring
    linarith
  have hc : ∀ i < 8, ∀ j < 8, ∀ k < 8, looked i j = true → tested i j k = false → k ≠ i → k ≠ j →
      (i < 4 ∧ j = (i + 1) % 4 ∧ k < 4) ∨ (4 ≤ i ∧ j = 4 + (i - 4 + 1) % 4 ∧ 4 ≤ k) := by decide +kernel
  rcases hc i hi j hj k hk hl ht h1 h2 with ⟨a, b, c⟩ | ⟨a, b, c⟩
  · rw [b]
    rcases turn_next E.hu E.hv a c with e | e <;> rw [e] <;> linarith
  · have e := turn_next (u := fun i => u (4 + i)) (v := fun i => v (4 + i)) E.hu' E.hv' (i := i - 4) (k := k - 4) (by omega) (by omega)
    have f : turn (fun i => u (4 + i)) (fun i => v (4 + i)) (i - 4) ((i - 4 + 1) % 4) (k - 4) = turn u v i j k := by
      show turn u v (4 + (i - 4)) (4 + (i - 4 + 1) % 4) (4 + (k - 4)) = _
      rw [← b, show 4 + (i - 4) = i by omega, show 4 + (k - 4) = k by omega]
    rw [f] at e
    rcases e with e | e <;> rw [e] <;> linarith

/-- A pair that is not looked at has a point to its right. -/
theorem Eight.unlooked {i j : ℕ} (hi : i < 8) (hj : j < 8) (hl : looked i j = false) (hij : i ≠ j) :
    ∃ k < 8, turn u v i j k < -tol := by
  have ha := E.ha
  have ha' := E.ha'
  have hc : ∀ i < 8, ∀ j < 8, looked i j = false → i ≠ j →
      (i < 4 ∧ j < 4 ∧ j ≠ (i + 1) % 4) ∨ (4 ≤ i ∧ 4 ≤ j ∧ j - 4 ≠ (i - 4 + 1) % 4) := by decide +kernel
  rcases hc i hi j hj hl hij with ⟨a, b, c⟩ | ⟨a, b, c⟩
  · exact ⟨(i + 1) % 4, by omega, by rw [turn_back E.hu E.hv a b hij c]; linarith⟩
  · have e := turn_back (u := fun i => u (4 + i)) (v := fun i => v (4 + i)) E.hu' E.hv' (i := i - 4) (j := j - 4) (by omega) (by omega) (by omega) c
    have f : turn (fun i => u (4 + i)) (fun i => v (4 + i)) (i - 4) (j - 4) ((i - 4 + 1) % 4) = turn u v i j (4 + (i - 4 + 1) % 4) := by
      show turn u v (4 + (i - 4)) (4 + (j - 4)) (4 + (i - 4 + 1) % 4) = _
      rw [show 4 + (i - 4) = i by omega, show 4 + (j - 4) = j by omega]
    rw [f] at e
    exact ⟨4 + (i - 4 + 1) % 4, by omega, by rw [e]; linarith⟩

theorem Eight.term_eq {i j : ℕ} (hi : i < 8) (hj : j < 8) : (if looked i j = true then edgeTerm X Y i j else 0) = pairTerm X Y i j := by
  have hne : ∀ i < 8, ∀ j < 8, looked i j = true → (List.range 8).filter (tested i j) ≠ [] ∧ i ≠ j := by decide +kernel
  by_cases hl : looked i j = true
  · obtain ⟨n1, n2⟩ := hne i hi j hj hl
    have hge : ge (fold1 min (((List.range 8).filter (tested i j)).map (crossed X Y i j))) (word 0xB727C5AC#32) = 1#1
        ↔ (i ≠ j ∧ ∀ k < 8, word 0xB727C5AC#32 ≤ cross X Y i j k) := by
      have hd : ∀ a b : EReal, ge a b = 1#1 ↔ b ≤ a := fun a b => by
        show BitVec.ofBool (decide (b ≤ a)) = 1#1 ↔ _
        by_cases h : b ≤ a <;> simp [h]
      rw [hd, le_fold1_min _ (by simpa using n1)]
      constructor
      · refine fun h => ⟨n2, fun k hk => ?_⟩
        rw [E.cross_eq hi hj hk, word_tol, EReal.coe_le_coe_iff]
        by_cases ht : tested i j k = true
        · have := h _ (List.mem_map_of_mem (List.mem_filter.2 ⟨List.mem_range.2 hk, ht⟩))
          rwa [E.crossed_eq hi hj hk, word_tol, EReal.coe_le_coe_iff] at this
        · exact E.untested hi hj hk hl (Bool.eq_false_iff.2 ht)
      · rintro ⟨-, h⟩ x hx
        obtain ⟨k, hk, rfl⟩ := List.mem_map.1 hx
        have hk := List.mem_range.1 (List.mem_filter.1 hk).1
        rw [E.crossed_eq hi hj hk, ← E.cross_eq hi hj hk]
        exact h k hk
    rw [if_pos hl, edgeTerm, pairTerm, E.shoe_eq hi hj]
    by_cases h : ge (fold1 min (((List.range 8).filter (tested i j)).map (crossed X Y i j))) (word 0xB727C5AC#32) = 1#1
    · rw [sel_one h, if_pos (hge.1 h)]
    · rw [sel_zero h, if_neg (mt hge.2 h)]
  · rw [if_neg hl, pairTerm, if_neg, word_zero]
    rintro ⟨hij, h⟩
    obtain ⟨k, hk, ht⟩ := E.unlooked hi hj (Bool.eq_false_iff.2 hl) hij
    have := h k hk
    rw [E.cross_eq hi hj hk, word_tol, EReal.coe_le_coe_iff] at this
    linarith

theorem Eight.hull_eq : hullOf X Y = fullHull X Y := by
  refine congrArg halfAbs ?_
  rw [fold1_add, flat_sum, range_sum]
  refine Finset.sum_congr rfl fun i hi => ?_
  rw [filter_sum, range_sum]
  exact Finset.sum_congr rfl fun j hj => E.term_eq (Finset.mem_range.1 hi) (Finset.mem_range.1 hj)

end Cert.Giou

end
-- ==== Proof.RowOps.lean ====
/- The reference's operations on arrays of 131072 rows, read at a row. -/
module

public import proofs.«01_k».proof.Proof.Clips
public import proofs.«01_k».proof.Proof.Gen.ReferenceIdeal.Read
public import Idealize.ShloMosaic.Lib.ValueIdx
public import Idealize.ShloMosaic.Lib.Routing.OpsOne
public import Idealize.ShloMosaic.Lib.ScatterToDense.RefScatter

@[expose] public section

noncomputable section

namespace Cert.ReferenceIdeal.Rows

open Idealize.ShloMosaic
open Idealize.ShloMosaic.ValueIdx Idealize.ShloMosaic.Routing Cert.ReferenceIdeal Cert.ReferenceIdeal.Gen Cert.Giou

variable {α : Type}

/-! ## Broadcasts -/

/-- One value for each row. -/
def row (c : S131072.Idx → α) : S131072x8.Idx → α :=
  broadcastInDim S131072x8 ![0, 1] bcast_S131072x1_S131072x8_0_1 (broadcastInDim S131072x1 ![0] bcast_S131072_S131072x1_0 c)
/-- One value for each slot. -/
def slots (c : S1x8.Idx → α) : S131072x8.Idx → α := broadcastInDim S131072x8 ![0, 1] bcast_S1x8_S131072x8_0_1 c
/-- One value. -/
def all8 (c : S_.Idx → α) : S131072x8.Idx → α := broadcastInDim S131072x8 ![] bcast_S_S131072x8 c
/-- The slots' places. -/
def places : IVec S1x8 32 := broadcastInDim S1x8 ![1] bcast_S8_S1x8_1 (iotaInDim S8 32 0)

theorem row_apply (c : S131072.Idx → α) (n : Fin 131072) (j : Fin 8) : row c (ix2 n j) = c (ix1 n) := by
  refine congrArg c (funext fun a => ?_)
  obtain rfl : a = 0 := Subsingleton.elim _ _
  rfl
theorem slots_apply (c : S1x8.Idx → α) (n : Fin 131072) (j : Fin 8) : slots c (ix2 n j) = c (ix2 0 j) := by
  refine congrArg c (funext fun a => ?_)
  match a with
  | ⟨0, _⟩ => rfl
  | ⟨1, _⟩ => rfl
theorem all8_apply (c : S_.Idx → α) (i : S131072x8.Idx) : all8 c i = c ix0 := by
  refine congrArg c (funext fun a => a.elim0)
theorem places_apply (j : Fin 8) : places (ix2 0 j) = BitVec.ofNat 32 j.val := rfl

/-- The next slots' places. -/
def nextPlaces : IVec S1x8 32 := addi places (broadcastInDim S1x8 ![] bcast_S_S1x8 (constantI S_ 32 1#32))
theorem nextPlaces_apply (j : Fin 8) : nextPlaces (ix2 0 j) = BitVec.ofNat 32 (j.val + 1) := by
  show BitVec.ofNat 32 j.val + BitVec.ofNat 32 1 = _
  rw [BitVec.ofNat_add]

/-- Row `n` of an array, zero outside its slots. -/
def rowAt (A : FVec Ideal S131072x8 .f32) (n : Fin 131072) (k : ℕ) : EReal := if h : k < 8 then A (ix2 n ⟨k, h⟩) else 0
theorem rowAt_of (A : FVec Ideal S131072x8 .f32) (n : Fin 131072) (j : Fin 8) : rowAt A n j.val = A (ix2 n j) := dif_pos j.isLt

/-! ## The vertex after each -/

/-- The place of the vertex after each, as a gather reads it. -/
def nextIdx (C : IVec S131072 32) : IVec S131072x8x1 32 :=
  shapeCast _ (select (cmpi .slt (select (cmpi .slt (slots nextPlaces) (row C)) (slots nextPlaces) (all8 (constantI S_ 32 0#32))) (all8 (constantI S_ 32 0#32)))
    (addi (select (cmpi .slt (slots nextPlaces) (row C)) (slots nextPlaces) (all8 (constantI S_ 32 0#32))) (all8 (constantI S_ 32 8#32)))
    (select (cmpi .slt (slots nextPlaces) (row C)) (slots nextPlaces) (all8 (constantI S_ 32 0#32)))) shapeCasts_S131072x8_S131072x8x1
/-- The vertex after each. -/
def nextOf (C : IVec S131072 32) (A : FVec Ideal S131072x8 .f32) : FVec Ideal S131072x8 .f32 :=
  Host.gather gather_S131072x8_S131072x8x1_S131072x8_n_1_0_0_1_2_11 A (nextIdx C)

theorem gather_at (A : FVec Ideal S131072x8 .f32) (I : IVec S131072x8x1 32) (n : Fin 131072) (j : Fin 8) :
    Host.gather gather_S131072x8_S131072x8x1_S131072x8_n_1_0_0_1_2_11 A I (ix2 n j)
      = A (ix2 n ⟨min (I (ix3 n j 0)).toInt.toNat 7, by omega⟩) := by
  set d := gather_S131072x8_S131072x8x1_S131072x8_n_1_0_0_1_2_11 with hd
  unfold Host.gather
  congr 1
  funext a
  refine Fin.ext ?_
  show d.start (ix2 n j) I a + d.batchCoord (ix2 n j) a + d.offCoord (ix2 n j) a = _
  match a with
  | ⟨1, h1⟩ =>
    rw [GatherDims.batchCoord_eq_zero _ _ _ (fun h => by simp [hd, gather_S131072x8_S131072x8x1_S131072x8_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ d.startIndexMap from List.mem_singleton.mpr rfl)]
    have hsi : d.siIdx (ix2 n j) ⟨List.idxOf (⟨1, h1⟩ : Fin 2) d.startIndexMap,
        List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin 2) ∈ d.operandBatchingDims from List.mem_singleton.mpr rfl)]
    rfl

theorem cast_at {α : Type} (x : S131072x8.Idx → α) (n : Fin 131072) (j : Fin 8) :
    shapeCast S131072x8x1 x shapeCasts_S131072x8_S131072x8x1 (ix3 n j 0) = x (ix2 n j) := by
  refine shapeCast_apply x _ _ _ ?_
  rw [Shape.rowMajor_val_two, Shape.rowMajor_val_three]
  show n.val * 8 + j.val = (n.val * 8 + j.val) * 1 + 0
  omega

theorem place_next : ∀ c : BitVec 1, ∀ j : Fin 8,
    min (Scalar.select (IntOp.cmpi .slt (Scalar.select c (BitVec.ofNat 32 (j.val + 1)) 0#32) 0#32)
      (IntOp.addi (Scalar.select c (BitVec.ofNat 32 (j.val + 1)) 0#32) 8#32) (Scalar.select c (BitVec.ofNat 32 (j.val + 1)) 0#32)).toInt.toNat 7
      = if c = 1#1 then min (j.val + 1) 7 else 0 := by
  decide +kernel

theorem nextOf_apply (C : IVec S131072 32) (A : FVec Ideal S131072x8 .f32) (n : Fin 131072) (j : Fin 8) :
    nextOf C A (ix2 n j) = next 8 (C (ix1 n)) (rowAt A n) j.val := by
  have e : ∀ k h, A (ix2 n ⟨k, h⟩) = rowAt A n k := fun k h => (rowAt_of A n ⟨k, h⟩).symm
  rw [nextOf, gather_at, e, nextIdx, cast_at, next8]
  have hp : ∀ y z : IVec S131072x8 32, select (cmpi .slt (slots nextPlaces) (row C)) y z (ix2 n j)
      = Scalar.select (more (C (ix1 n)) (j.val + 1)) (y (ix2 n j)) (z (ix2 n j)) := fun y z => by
    show Scalar.select (IntOp.cmpi .slt (slots nextPlaces (ix2 n j)) (row C (ix2 n j))) _ _ = _
    rw [slots_apply, nextPlaces_apply, row_apply]
    rfl
  set c := more (C (ix1 n)) (j.val + 1)
  have hq : (select (cmpi .slt (slots nextPlaces) (row C)) (slots nextPlaces) (all8 (constantI S_ 32 0#32))) (ix2 n j)
      = Scalar.select c (BitVec.ofNat 32 (j.val + 1)) 0#32 := by
    rw [hp, slots_apply, nextPlaces_apply, all8_apply]; rfl
  refine (congrArg (rowAt A n) ?_).trans (b := rowAt A n (if c = 1#1 then min (j.val + 1) 7 else 0)) ?_
  · rw [← place_next c j]
    show min (Scalar.select (IntOp.cmpi .slt (select _ _ _ (ix2 n j)) (all8 _ (ix2 n j))) (IntOp.addi (select _ _ _ (ix2 n j)) (all8 _ (ix2 n j)))
      (select _ _ _ (ix2 n j))).toInt.toNat 7 = _
    rw [hq, all8_apply, all8_apply]
    rfl
  · by_cases h : c = 1#1
    · rw [if_pos h, sel_one h]
    · rw [if_neg h, sel_zero h]

/-! ## Sums along a row -/

/-- The running sum along a row. -/
theorem cumsum_at (x : IVec S131072x8 32) (f : Fin 131072 → ℕ → ℕ) (hx : ∀ (n : Fin 131072) (j : Fin 8), x (ix2 n j) = BitVec.ofNat 32 (f n j.val))
    (init : IVec S_ 32) (hinit : init ix0 = 0#32) (n : Fin 131072) (j : Fin 8) :
    Host.reduceWindow IntOp.addi ![1, 8] ![1, 1] ![0, 7] ![0, 0] x init reduceWindows_S131072x8_S131072x8_w1s1p0_0_w8s1p7_0 h_S_ (ix2 n j)
      = BitVec.ofNat 32 ((List.range (j.val + 1)).map (f n)).sum := by
  have hv : init (Shape.Idx.first h_S_) = BitVec.ofNat 32 0 := (congrArg init (eq_ix0 _)).trans hinit
  have hj := j.isLt
  have hn' := n.isLt
  have hnum : (shape2 1 8).numel = 8 := by decide
  have hs : ∀ k : Fin (shape2 1 8).numel, ((shape2 1 8).rowMajor.symm k 0).val = 0 ∧ ((shape2 1 8).rowMajor.symm k 1).val = k.val := by
    intro k
    have h := Shape.rowMajor_val_two ((shape2 1 8).rowMajor.symm k)
    rw [Equiv.apply_symm_apply] at h
    have h0 : ((shape2 1 8).rowMajor.symm k 0).val < 1 := ((shape2 1 8).rowMajor.symm k 0).isLt
    have h0' : ((shape2 1 8).rowMajor.symm k 0).val = 0 := by omega
    refine ⟨h0', ?_⟩
    rw [h, h0']
    simp
  unfold Host.reduceWindow
  refine (foldl_addi_ofNat _ _ (fun k => if 7 ≤ j.val + k.val then f n (j.val + k.val - 7) else 0) (fun k _ => ?_) _ 0 hv).trans ?_
  · have hw0 := (hs k).1
    have hw1 := (hs k).2
    have hk : k.val < 8 := (k.cast hnum).isLt
    dsimp only
    split
    · next hin =>
      have h1 := hin 1
      change 7 ≤ j.val * 1 + ((shape2 1 8).rowMajor.symm k 1).val ∧ j.val * 1 + ((shape2 1 8).rowMajor.symm k 1).val - 7 < 8 at h1
      rw [hw1] at h1
      rw [if_pos (by omega)]
      refine (congrArg x (funext fun a => Fin.ext ?_)).trans (hx n ⟨j.val + k.val - 7, by omega⟩)
      match a with
      | ⟨0, _⟩ =>
        show n.val * 1 + ((shape2 1 8).rowMajor.symm k 0).val - 0 = n.val
        rw [hw0]; omega
      | ⟨1, _⟩ =>
        show j.val * 1 + ((shape2 1 8).rowMajor.symm k 1).val - 7 = j.val + k.val - 7
        rw [hw1, Nat.mul_one]
    · next hin =>
      rw [if_neg fun hle => hin fun a => by
        match a with
        | ⟨0, _⟩ =>
          show 0 ≤ n.val * 1 + ((shape2 1 8).rowMajor.symm k 0).val ∧ n.val * 1 + ((shape2 1 8).rowMajor.symm k 0).val - 0 < 131072
          rw [hw0]; omega
        | ⟨1, _⟩ =>
          show 7 ≤ j.val * 1 + ((shape2 1 8).rowMajor.symm k 1).val ∧ j.val * 1 + ((shape2 1 8).rowMajor.symm k 1).val - 7 < 8
          rw [hw1]; omega]
      exact hv
  · rw [Nat.zero_add, map_finRange_val _ (fun w => if 7 ≤ j.val + w then f n (j.val + w - 7) else 0)]
    exact congrArg (BitVec.ofNat 32) ((congrArg (fun M => ((List.range M).map fun w => if 7 ≤ j.val + w then f n (j.val + w - 7) else 0).sum)
      hnum).trans (sum_window (f n) 7 j.val (by omega)))

end Cert.ReferenceIdeal.Rows

end
-- ==== Proof.RefHull.lean ====
/- The reference's hull areas of 131072 rows of eight points, read at a row. -/
module

public import proofs.«01_k».proof.Proof.RefSpec
public import proofs.«01_k».proof.Proof.RowOps
public import Idealize.ShloMosaic.Lib.Tactic

@[expose] public section

noncomputable section

namespace Cert.ReferenceIdeal.Rows

open Idealize.ShloMosaic
open Idealize.ShloMosaic.ValueIdx Cert.ReferenceIdeal Cert.ReferenceIdeal.Gen Cert.ReferenceIdeal.Read Cert.Giou

variable {α : Type}

/-- The value of a pair's first point. -/
def fst3 (Z : S131072x8.Idx → α) : S131072x8x8.Idx → α :=
  broadcastInDim S131072x8x8 ![0, 1, 2] bcast_S131072x8x1_S131072x8x8_0_1_2 (broadcastInDim S131072x8x1 ![0, 1] bcast_S131072x8_S131072x8x1_0_1 Z)
/-- The value of a pair's second point. -/
def snd3 (Z : S131072x8.Idx → α) : S131072x8x8.Idx → α :=
  broadcastInDim S131072x8x8 ![0, 1, 2] bcast_S131072x1x8_S131072x8x8_0_1_2 (broadcastInDim S131072x1x8 ![0, 2] bcast_S131072x8_S131072x1x8_0_2 Z)
/-- A pair's value, for each point besides. -/
def pair4 (Z : S131072x8x8.Idx → α) : S131072x8x8x8.Idx → α :=
  broadcastInDim S131072x8x8x8 ![0, 1, 2, 3] bcast_S131072x8x8x1_S131072x8x8x8_0_1_2_3
    (broadcastInDim S131072x8x8x1 ![0, 1, 2] bcast_S131072x8x8_S131072x8x8x1_0_1_2 Z)
/-- The value of a pair's first point and the point besides. -/
def side4 (Z : S131072x8x8.Idx → α) : S131072x8x8x8.Idx → α :=
  broadcastInDim S131072x8x8x8 ![0, 1, 2, 3] bcast_S131072x8x1x8_S131072x8x8x8_0_1_2_3
    (broadcastInDim S131072x8x1x8 ![0, 1, 3] bcast_S131072x8x8_S131072x8x1x8_0_1_3 Z)

theorem fst3_apply (Z : S131072x8.Idx → α) (n : Fin 131072) (i j : Fin 8) : fst3 Z (ix3 n i j) = Z (ix2 n i) :=
  congrArg Z (funext fun a => by
    match a with
    | ⟨0, _⟩ => rfl
    | ⟨1, _⟩ => rfl)
theorem snd3_apply (Z : S131072x8.Idx → α) (n : Fin 131072) (i j : Fin 8) : snd3 Z (ix3 n i j) = Z (ix2 n j) :=
  congrArg Z (funext fun a => by
    match a with
    | ⟨0, _⟩ => rfl
    | ⟨1, _⟩ => rfl)
theorem pair4_apply (Z : S131072x8x8.Idx → α) (n : Fin 131072) (i j k : Fin 8) : pair4 Z (ix4 n i j k) = Z (ix3 n i j) :=
  congrArg Z (funext fun a => by
    match a with
    | ⟨0, _⟩ => rfl
    | ⟨1, _⟩ => rfl
    | ⟨2, _⟩ => rfl)
theorem side4_apply (Z : S131072x8x8.Idx → α) (n : Fin 131072) (i j k : Fin 8) : side4 Z (ix4 n i j k) = Z (ix3 n i k) :=
  congrArg Z (funext fun a => by
    match a with
    | ⟨0, _⟩ => rfl
    | ⟨1, _⟩ => rfl
    | ⟨2, _⟩ => rfl)

/-- The vector from a pair's first point to its second, one coordinate. -/
def deltaA (Z : FVec Ideal S131072x8 .f32) : FVec Ideal S131072x8x8 .f32 := subf (snd3 Z) (fst3 Z)
def crossA (X Y : FVec Ideal S131072x8 .f32) : FVec Ideal S131072x8x8x8 .f32 :=
  subf (mulf (pair4 (deltaA X)) (side4 (deltaA Y))) (mulf (pair4 (deltaA Y)) (side4 (deltaA X)))
def leftA (X Y : FVec Ideal S131072x8 .f32) : IVec S131072x8x8x8 1 :=
  cmpf .oge (crossA X Y) (broadcastInDim S131072x8x8x8 ![] bcast_S_S131072x8x8x8 (constant S_ .f32 0xB727C5AC#32))
def distinctA : IVec S131072x8x8 1 :=
  broadcastInDim S131072x8x8 ![0, 1, 2] bcast_S1x8x8_S131072x8x8_0_1_2 (noti (broadcastInDim S1x8x8 ![1, 2] bcast_S8x8_S1x8x8_1_2
    (cmpi .eq (addi (iotaInDim S8x8 32 0) (broadcastInDim S8x8 ![] bcast_S_S8x8 (constantI S_ 32 0#32))) (iotaInDim S8x8 32 1))))
def edgeA (X Y : FVec Ideal S131072x8 .f32) : IVec S131072x8x8 1 :=
  andi (Host.reduce IntOp.andi (leftA X Y) (constantI S_ 1 1#1) reducesTo_S131072x8x8x8_S131072x8x8_d3 h_S_) distinctA
def shoeA (X Y : FVec Ideal S131072x8 .f32) : FVec Ideal S131072x8x8 .f32 :=
  subf (mulf (fst3 X) (snd3 Y)) (mulf (snd3 X) (fst3 Y))
def termA (X Y : FVec Ideal S131072x8 .f32) : FVec Ideal S131072x8x8 .f32 :=
  select (edgeA X Y) (shoeA X Y) (broadcastInDim S131072x8x8 ![] bcast_S_S131072x8x8 (constant S_ .f32 0x00000000#32))
def hullA (X Y : FVec Ideal S131072x8 .f32) : FVec Ideal S131072 .f32 :=
  mulf (broadcastInDim S131072 ![] bcast_S_S131072 (constant S_ .f32 0x3F000000#32))
    (Host.absf (Host.reduceAdd (termA X Y) (constant S_ .f32 0x00000000#32) reducesTo_S131072x8x8_S131072_d1_2 h_S_))

theorem v1027_eq (x0 x1 : (⟨S131072x7, .f32⟩ : BufTy).Contents (Elt Ideal)) :
    val_main_v1027 (F := Ideal) x0 x1 = hullA (val_main_v977 (F := Ideal) x0 x1) (val_main_v978 (F := Ideal) x0 x1) := by sl_kernel_rfl

theorem crossA_apply (X Y : FVec Ideal S131072x8 .f32) (n : Fin 131072) (i j k : Fin 8) :
    crossA X Y (ix4 n i j k) = cross (rowAt X n) (rowAt Y n) i.val j.val k.val := by
  have d : ∀ (Z : FVec Ideal S131072x8 .f32) (i j : Fin 8), deltaA Z (ix3 n i j) = rowAt Z n j.val - rowAt Z n i.val := fun Z i j => by
    show snd3 Z (ix3 n i j) - fst3 Z (ix3 n i j) = _
    rw [snd3_apply, fst3_apply, rowAt_of, rowAt_of]
  show pair4 (deltaA X) (ix4 n i j k) * side4 (deltaA Y) (ix4 n i j k) - pair4 (deltaA Y) (ix4 n i j k) * side4 (deltaA X) (ix4 n i j k) = _
  rw [pair4_apply, pair4_apply, side4_apply, side4_apply, d, d, d, d]
  rfl

theorem leftA_apply (X Y : FVec Ideal S131072x8 .f32) (n : Fin 131072) (i j k : Fin 8) :
    leftA X Y (ix4 n i j k) = ge (cross (rowAt X n) (rowAt Y n) i.val j.val k.val) (word 0xB727C5AC#32) := by
  show Ideal.cmp .oge (crossA X Y (ix4 n i j k)) _ = _
  rw [crossA_apply]
  rfl

theorem ge_one {a b : EReal} : ge a b = 1#1 ↔ b ≤ a := by
  show BitVec.ofBool (decide (b ≤ a)) = 1#1 ↔ _
  by_cases h : b ≤ a <;> simp [h]

theorem distinctA_apply (n : Fin 131072) (i j : Fin 8) : distinctA (ix3 n i j) = if i.val ≠ j.val then 1#1 else 0#1 := by
  have key : ∀ i j : Fin 8, ~~~(IntOp.cmpi .eq (IntOp.addi (BitVec.ofNat 32 i.val) 0#32) (BitVec.ofNat 32 j.val)) = if i.val ≠ j.val then 1#1 else 0#1 := by
    decide +kernel
  rw [← key i j]
  rfl

theorem fold_andi (g : Fin 8 → BitVec 1) (t : Finset (Fin 8)) : t.fold IntOp.andi 1#1 g = 1#1 ↔ ∀ k ∈ t, g k = 1#1 := by
  have ha : ∀ a b : BitVec 1, IntOp.andi a b = 1#1 ↔ a = 1#1 ∧ b = 1#1 := by decide
  induction t using Finset.induction_on with
  | empty => simp
  | insert a t h ih =>
    rw [Finset.fold_insert h, ha, Finset.forall_mem_insert]
    exact and_congr Iff.rfl ih

theorem edgeA_apply (X Y : FVec Ideal S131072x8 .f32) (n : Fin 131072) (i j : Fin 8) :
    edgeA X Y (ix3 n i j) = 1#1 ↔ i.val ≠ j.val ∧ ∀ k < 8, word 0xB727C5AC#32 ≤ cross (rowAt X n) (rowAt Y n) i.val j.val k := by
  have h : (S131072x8x8x8 : Shape).Reduces [3] S131072x8x8 := by decide
  have hl : ∀ k : Fin 8, h.lift (ix3 n i j) k = ix4 n i j k := fun k => funext fun a => Fin.ext (by
    match a with
    | ⟨0, _⟩ => rfl
    | ⟨1, _⟩ => rfl
    | ⟨2, _⟩ => rfl
    | ⟨3, _⟩ => rfl)
  have ha : ∀ a b : BitVec 1, IntOp.andi a b = 1#1 ↔ a = 1#1 ∧ b = 1#1 := by decide
  have he : (leftA X Y ∘ h.lift (ix3 n i j)) = fun k : Fin 8 => ge (cross (rowAt X n) (rowAt Y n) i.val j.val k.val) (word 0xB727C5AC#32) :=
    funext fun k => (congrArg (leftA X Y) (hl k)).trans (leftA_apply X Y n i j k)
  show IntOp.andi (Host.reduce IntOp.andi (leftA X Y) (constantI S_ 1 1#1) reducesTo_S131072x8x8x8_S131072x8x8_d3 h_S_ (ix3 n i j)) (distinctA (ix3 n i j)) = 1#1 ↔ _
  rw [ha, Host.reduce_eq_fold_single IntOp.andi _ _ _ h, distinctA_apply]
  refine Iff.trans (b := (∀ k < 8, word 0xB727C5AC#32 ≤ cross (rowAt X n) (rowAt Y n) i.val j.val k) ∧ i.val ≠ j.val) (and_congr ?_ ?_) and_comm
  · refine (Eq.congr (congrArg (fun g : Fin 8 → BitVec 1 => Finset.fold IntOp.andi 1#1 g (Finset.univ : Finset (Fin 8))) he) rfl).trans ?_
    refine (fold_andi _ _).trans ⟨fun hh k hk => ge_one.1 (hh ⟨k, hk⟩ (Finset.mem_univ _)), fun hh k _ => ge_one.2 (hh k.val k.isLt)⟩
  · by_cases hij : i.val ≠ j.val
    · rw [if_pos hij]; simp [hij]
    · rw [if_neg hij]; simp [hij]

theorem termA_apply (X Y : FVec Ideal S131072x8 .f32) (n : Fin 131072) (i j : Fin 8) :
    termA X Y (ix3 n i j) = pairTerm (rowAt X n) (rowAt Y n) i.val j.val := by
  have hs : shoeA X Y (ix3 n i j) = rowAt X n i.val * rowAt Y n j.val - rowAt X n j.val * rowAt Y n i.val := by
    show fst3 X (ix3 n i j) * snd3 Y (ix3 n i j) - snd3 X (ix3 n i j) * fst3 Y (ix3 n i j) = _
    rw [fst3_apply, fst3_apply, snd3_apply, snd3_apply, rowAt_of, rowAt_of, rowAt_of, rowAt_of]
  show sel (edgeA X Y (ix3 n i j)) (shoeA X Y (ix3 n i j)) (word 0#32) = _
  rw [hs, pairTerm]
  by_cases h : edgeA X Y (ix3 n i j) = 1#1
  · rw [sel_one h, if_pos ((edgeA_apply X Y n i j).1 h)]
  · rw [sel_zero h, if_neg (mt (edgeA_apply X Y n i j).2 h)]

theorem sum_pairs (T : FVec Ideal S131072x8x8 .f32) (z : EReal) (n : Fin 131072) :
    Ideal.hostReduceAdd reducesTo_S131072x8x8_S131072_d1_2 T z (ix1 n) = z + ∑ i : Fin 8, ∑ j : Fin 8, T (ix3 n i j) := by
  unfold Ideal.hostReduceAdd
  refine congrArg (z + ·) ?_
  rw [← Finset.sum_product']
  have hd : ∀ (m : Fin 131072) (i j : Fin 8), reducesTo_S131072x8x8_S131072_d1_2.drop (ix3 m i j) = ix1 m := fun m i j => funext fun a => Fin.ext (by
    match a with
    | ⟨0, _⟩ => rfl)
  refine Finset.sum_nbij' (fun x => ((x 1 : Fin 8), (x 2 : Fin 8))) (fun p => ix3 n p.1 p.2) (fun _ _ => by simp) (fun p _ => ?_) (fun x hx => ?_) (fun p _ => rfl) (fun x hx => ?_)
  · exact Finset.mem_filter.2 ⟨Finset.mem_univ _, hd n p.1 p.2⟩
  · have h := (Finset.mem_filter.1 hx).2
    rw [eq_ix3 x] at h
    have h0 : (x 0 : Fin 131072) = n := congrFun ((hd _ _ _).symm.trans h) 0
    rw [← h0]; exact (eq_ix3 x).symm
  · have h := (Finset.mem_filter.1 hx).2
    rw [eq_ix3 x] at h
    have h0 : (x 0 : Fin 131072) = n := congrFun ((hd _ _ _).symm.trans h) 0
    rw [← h0]; exact congrArg T (eq_ix3 x)

theorem hullA_apply (X Y : FVec Ideal S131072x8 .f32) (n : Fin 131072) : hullA X Y (ix1 n) = fullHull (rowAt X n) (rowAt Y n) := by
  have e := sum_pairs (termA X Y) (word 0#32) n
  rw [word_zero, zero_add] at e
  have e2 : (∑ i : Fin 8, ∑ j : Fin 8, termA X Y (ix3 n i j)) = ∑ i ∈ Finset.range 8, ∑ j ∈ Finset.range 8, pairTerm (rowAt X n) (rowAt Y n) i j := by
    rw [← Fin.sum_univ_eq_sum_range (fun i => ∑ j ∈ Finset.range 8, pairTerm (rowAt X n) (rowAt Y n) i j) 8]
    refine Finset.sum_congr rfl fun i _ => ?_
    rw [← Fin.sum_univ_eq_sum_range (fun j => pairTerm (rowAt X n) (rowAt Y n) i.val j) 8]
    exact Finset.sum_congr rfl fun j _ => termA_apply X Y n i j
  rw [e2, ← word_zero] at e
  exact congrArg (fun S => word 0x3F000000#32 * max S (-S)) e

end Cert.ReferenceIdeal.Rows

end
-- ==== Proof.ClipRows.lean ====
/- The reference's clip of 131072 padded polygons by 131072 lines, read at a row: it is the clip that looks at all eight
   slots and fills all eight. -/
module

public import proofs.«01_k».proof.Proof.RowOps

@[expose] public section

noncomputable section

namespace Cert.Giou

open Idealize.ShloMosaic Idealize.ShloMosaic.ScatterToDense

theorem alternate_even {α : Type} (f g : ℕ → α) (k : ℕ) : alternate f g (2 * k) = f k := by
  rw [alternate, if_pos (by omega), show 2 * k / 2 = k by omega]
theorem alternate_odd {α : Type} (f g : ℕ → α) (k : ℕ) : alternate f g (2 * k + 1) = g k := by
  rw [alternate, if_neg (by omega), show (2 * k + 1) / 2 = k by omega]

/-! ## Two scatters, of the vertices and of the cuts, fill the slots as the candidates do in turn -/

/-- Where a candidate is put: its count, or past the slots. -/
def placeOf (e : ℕ → BitVec 1) (k : ℕ) : BitVec 32 := Scalar.select (e k) (count e k) 8#32

theorem placeOf_iff {e : ℕ → BitVec 1} {k j : ℕ} (hk : k ≤ 16) (hj : j < 8) : j = (placeOf e k).toNat ↔ e k = 1#1 ∧ cn e k = j := by
  rw [placeOf]
  by_cases h : e k = 1#1
  · rw [h]
    show j = (count e k).toNat ↔ _
    rw [count_toNat e hk]
    exact ⟨fun h => ⟨rfl, h.symm⟩, fun h => h.2.symm⟩
  · rw [bit_ne_one h]
    show j = 8 ↔ _
    exact ⟨fun h => by omega, fun h => absurd h.1 (by decide)⟩

theorem placeOf_small {e : ℕ → BitVec 1} {k : ℕ} (hk : k ≤ 16) : (placeOf e k).toNat ≤ 16 := by
  rw [placeOf]
  by_cases h : e k = 1#1
  · rw [h]
    show (count e k).toNat ≤ 16
    rw [count_toNat e hk]
    exact (cn_le e k).trans hk
  · rw [bit_ne_one h]
    show 8 ≤ 16
    omega

theorem GS_none {w : ℕ → BitVec 32} {v : ℕ → EReal} {z : EReal} {j : ℕ} : ∀ {n : ℕ}, (∀ k < n, ¬ j = (w k).toNat) → GS w v z j n = z
  | 0, _ => rfl
  | n + 1, h => by rw [GS_succ_miss (h n (Nat.lt_succ_self n)), GS_none fun k hk => h k (by omega)]

theorem fill_eq (e : ℕ → BitVec 1) (X : ℕ → EReal) {j : ℕ} (hj : j < 8) : ∀ m ≤ 8,
    GS (fun k => placeOf e (2 * k + 1)) (fun k => X (2 * k + 1)) (GS (fun k => placeOf e (2 * k)) (fun k => X (2 * k)) (word 0#32) j m) j m
      = slot e X j (2 * m)
  | 0, _ => rfl
  | m + 1, hm => by
    rw [show 2 * (m + 1) = 2 * m + 1 + 1 by ring, slot_succ (by omega) hj, slot_succ (by omega) hj, GS_succ, GS_succ,
      if_congr (placeOf_iff (by omega) hj) rfl rfl]
    split
    · rfl
    · rw [← fill_eq e X hj m (by omega)]
      by_cases h : e (2 * m) = 1#1 ∧ cn e (2 * m) = j
      · rw [if_pos h, if_pos ((placeOf_iff (by omega) hj).2 h), GS_none]
        intro k hk h'
        have h2 := (placeOf_iff (by omega) hj).1 h'
        have h3 := cn_mono e (show 2 * k + 1 + 1 ≤ 2 * m by omega)
        rw [cn_succ_one h2.1] at h3
        omega
      · rw [if_neg h, if_neg (mt (placeOf_iff (by omega) hj).1 h)]

theorem cn_pairs (e : ℕ → BitVec 1) (m : ℕ) : ((List.range m).map fun k => (e (2 * k)).toNat + (e (2 * k + 1)).toNat).sum = cn e (2 * m) := by
  induction m with
  | zero => rfl
  | succ m ih =>
    rw [List.range_succ, List.map_append, List.sum_append, ih, show 2 * (m + 1) = 2 * m + 1 + 1 by ring, cn_succ, cn_succ]
    simp [add_assoc]

theorem cn_pairs' (e : ℕ → BitVec 1) (m : ℕ) : ∑ k ∈ Finset.range m, ((e (2 * k)).toNat + (e (2 * k + 1)).toNat) = cn e (2 * m) := by
  induction m with
  | zero => rfl
  | succ m ih => rw [Finset.sum_range_succ, ih, show 2 * (m + 1) = 2 * m + 1 + 1 by ring, cn_succ, cn_succ, add_assoc]

end Cert.Giou

namespace Cert.ReferenceIdeal.Rows

open Idealize.ShloMosaic
open Idealize.ShloMosaic.ValueIdx Idealize.ShloMosaic.Routing Cert.ReferenceIdeal Cert.ReferenceIdeal.Gen Cert.Giou

/-! ## The clip, operation by operation -/

/-- The sides of the points. -/
def sideA (AX AY BX BY : FVec Ideal S131072 .f32) (X Y : FVec Ideal S131072x8 .f32) : FVec Ideal S131072x8 .f32 :=
  subf (mulf (row (subf BX AX)) (subf Y (row AY))) (mulf (row (subf BY AY)) (subf X (row AX)))
def insideA (s : FVec Ideal S131072x8 .f32) : IVec S131072x8 1 := cmpf .oge s (all8 (constant S_ .f32 0x00000000#32))
def validA (C : IVec S131072 32) : IVec S131072x8 1 := cmpi .slt (slots places) (row C)
def shareA (s s' : FVec Ideal S131072x8 .f32) : FVec Ideal S131072x8 .f32 :=
  Host.divf s (select (cmpf .ogt (Host.absf (subf s s')) (all8 (constant S_ .f32 0x2B8CBCCC#32))) (subf s s') (all8 (constant S_ .f32 0x3F800000#32)))
def cutA (s s' P Q : FVec Ideal S131072x8 .f32) : FVec Ideal S131072x8 .f32 := addf P (mulf (shareA s s') (subf Q P))
def emitA (C : IVec S131072 32) (s : FVec Ideal S131072x8 .f32) : IVec S131072x8 1 := andi (insideA s) (validA C)
def emitB (C : IVec S131072 32) (s s' : FVec Ideal S131072x8 .f32) : IVec S131072x8 1 := andi (xori (insideA s) (insideA s')) (validA C)
def both32 (a b : IVec S131072x8 1) : IVec S131072x8 32 := addi (extui 32 a natLt_1_32) (extui 32 b natLt_1_32)
def beforeA (a b : IVec S131072x8 1) : IVec S131072x8 32 :=
  subi (Host.reduceWindow IntOp.addi ![1, 8] ![1, 1] ![0, 7] ![0, 0] (both32 a b) (broadcastInDim S_ ![] bcast_S_S_ (constantI S_ 32 0#32))
    reduceWindows_S131072x8_S131072x8_w1s1p0_0_w8s1p7_0 h_S_) (both32 a b)
def placeA (a b : IVec S131072x8 1) : IVec S131072x8 32 := select a (beforeA a b) (all8 (constantI S_ 32 8#32))
def placeB (a b : IVec S131072x8 1) : IVec S131072x8 32 :=
  select b (addi (beforeA a b) (extui 32 a natLt_1_32)) (all8 (constantI S_ 32 8#32))
def rowsA : IVec S131072x1 32 := broadcastInDim S131072x1 ![0] bcast_S131072_S131072x1_0 (iotaInDim S131072 32 0)
/-- Where a scatter puts: the row, and the place in the row. -/
def whereA (I : IVec S131072x8 32) : IVec S131072x8x2 32 :=
  concatenate S131072x8x2 2 [⟨S131072x8x1, broadcastInDim S131072x8x1 ![0, 1] bcast_S131072x8_S131072x8x1_0_1
      (broadcastInDim S131072x8 ![0, 1] bcast_S131072x1_S131072x8_0_1
        (select (cmpi .slt rowsA (broadcastInDim S131072x1 ![] bcast_S_S131072x1 (constantI S_ 32 0#32)))
          (addi rowsA (broadcastInDim S131072x1 ![] bcast_S_S131072x1 (constantI S_ 32 131072#32))) rowsA))⟩,
    ⟨S131072x8x1, broadcastInDim S131072x8x1 ![0, 1] bcast_S131072x8_S131072x8x1_0_1
      (select (cmpi .slt I (all8 (constantI S_ 32 0#32))) (addi I (all8 (constantI S_ 32 9#32))) I)⟩] concatenates_S131072x8x1_S131072x8x1_S131072x8x2_d2
def putA (base : FVec Ideal S131072x9 .f32) (I : IVec S131072x8 32) (u : FVec Ideal S131072x8 .f32) : FVec Ideal S131072x9 .f32 :=
  Host.scatter scatter_S131072x9_S131072x8x2_S131072x8_n_01_01_2 (fun _ b => b) base (whereA I) u
/-- The slots that the clip fills. -/
def fillA (a b : IVec S131072x8 1) (P Q : FVec Ideal S131072x8 .f32) : FVec Ideal S131072x8 .f32 :=
  extractStridedSlice S131072x8 ![0, 0]
    (putA (putA (broadcastInDim S131072x9 ![] bcast_S_S131072x9 (constant S_ .f32 0x00000000#32)) (placeA a b) P) (placeB a b) Q) slices_S131072x9_S131072x8_0_0
def countA (a b : IVec S131072x8 1) : IVec S131072 32 :=
  Host.reduce IntOp.addi (both32 a b) (constantI S_ 32 0#32) reducesTo_S131072x8_S131072_d1 h_S_

/-- A clip's arguments: the count, the points, the line. -/
structure Args where
  (C : IVec S131072 32) (X Y : FVec Ideal S131072x8 .f32) (AX AY BX BY : FVec Ideal S131072 .f32)

variable (A : Args)

def Args.s : FVec Ideal S131072x8 .f32 := sideA A.AX A.AY A.BX A.BY A.X A.Y
def Args.s' : FVec Ideal S131072x8 .f32 := sideA A.AX A.AY A.BX A.BY (nextOf A.C A.X) (nextOf A.C A.Y)
def Args.e : IVec S131072x8 1 := emitA A.C A.s
def Args.e' : IVec S131072x8 1 := emitB A.C A.s A.s'
def Args.outX : FVec Ideal S131072x8 .f32 := fillA A.e A.e' A.X (cutA A.s A.s' A.X (nextOf A.C A.X))
def Args.outY : FVec Ideal S131072x8 .f32 := fillA A.e A.e' A.Y (cutA A.s A.s' A.Y (nextOf A.C A.Y))
def Args.outC : IVec S131072 32 := countA A.e A.e'

/-! ## At a row -/

def Args.cnt (n : Fin 131072) : BitVec 32 := A.C (ix1 n)
def Args.poly (n : Fin 131072) : Poly := ⟨rowAt A.X n, rowAt A.Y n⟩
def Args.line (n : Fin 131072) : Line := ⟨A.AX (ix1 n), A.AY (ix1 n), A.BX (ix1 n), A.BY (ix1 n)⟩
def Args.flags (n : Fin 131072) : ℕ → BitVec 1 := Giou.flags 8 (A.cnt n) (A.poly n) (A.line n)

theorem sideA_apply (AX AY BX BY : FVec Ideal S131072 .f32) (X Y : FVec Ideal S131072x8 .f32) (n : Fin 131072) (j : Fin 8) :
    sideA AX AY BX BY X Y (ix2 n j) = side ⟨AX (ix1 n), AY (ix1 n), BX (ix1 n), BY (ix1 n)⟩ (X (ix2 n j)) (Y (ix2 n j)) := by
  show row (subf BX AX) (ix2 n j) * (Y (ix2 n j) - row AY (ix2 n j)) - row (subf BY AY) (ix2 n j) * (X (ix2 n j) - row AX (ix2 n j)) = _
  rw [row_apply, row_apply, row_apply, row_apply]
  rfl

theorem s_apply (n : Fin 131072) (j : Fin 8) : A.s (ix2 n j) = sides (A.line n) (A.poly n) j.val := by
  rw [Args.s, sideA_apply, ← rowAt_of A.X, ← rowAt_of A.Y]
  rfl

theorem s'_apply (n : Fin 131072) (j : Fin 8) : A.s' (ix2 n j) = next 8 (A.cnt n) (sides (A.line n) (A.poly n)) j.val := by
  rw [Args.s', sideA_apply, nextOf_apply, nextOf_apply, next8, next8, next8]
  by_cases h : more (A.C (ix1 n)) (j.val + 1) = 1#1
  · rw [Args.cnt, sel_one h, sel_one h, sel_one h]; rfl
  · rw [Args.cnt, sel_zero h, sel_zero h, sel_zero h]; rfl

theorem insideA_apply (s : FVec Ideal S131072x8 .f32) (i : S131072x8.Idx) : insideA s i = inside (s i) := by
  show Ideal.cmp .oge (s i) (all8 _ i) = _
  rw [all8_apply]; rfl

theorem validA_apply (C : IVec S131072 32) (n : Fin 131072) (j : Fin 8) : validA C (ix2 n j) = more (C (ix1 n)) j.val := by
  show IntOp.cmpi .slt (slots places (ix2 n j)) (row C (ix2 n j)) = _
  rw [slots_apply, places_apply, row_apply]; rfl

theorem andi_comm' (a b : BitVec 1) : IntOp.andi a b = IntOp.andi b a := by revert a b; decide

theorem e_apply (n : Fin 131072) (j : Fin 8) : A.e (ix2 n j) = A.flags n (2 * j.val) := by
  show IntOp.andi (insideA A.s (ix2 n j)) (validA A.C (ix2 n j)) = _
  rw [insideA_apply, validA_apply, s_apply, andi_comm', Args.flags, Giou.flags, alternate_even]; rfl

theorem e'_apply (n : Fin 131072) (j : Fin 8) : A.e' (ix2 n j) = A.flags n (2 * j.val + 1) := by
  show IntOp.andi (IntOp.xori (insideA A.s (ix2 n j)) (insideA A.s' (ix2 n j))) (validA A.C (ix2 n j)) = _
  rw [insideA_apply, insideA_apply, validA_apply, s_apply, s'_apply, andi_comm', Args.flags, Giou.flags, alternate_odd]; rfl

theorem shareA_apply (s s' : FVec Ideal S131072x8 .f32) (i : S131072x8.Idx) : shareA s s' i = share (s i) (s' i) := by
  show Ideal.div (s i) (Scalar.select (Ideal.cmp .ogt (max (s i - s' i) (-(s i - s' i))) (all8 _ i)) (s i - s' i) (all8 _ i)) = _
  rw [all8_apply, all8_apply]; rfl

theorem cutA_apply (P : FVec Ideal S131072x8 .f32) (n : Fin 131072) (j : Fin 8) :
    cutA A.s A.s' P (nextOf A.C P) (ix2 n j) = cands 8 (A.cnt n) (A.poly n) (A.line n) (rowAt P n) (2 * j.val + 1) := by
  show P (ix2 n j) + shareA A.s A.s' (ix2 n j) * (nextOf A.C P (ix2 n j) - P (ix2 n j)) = _
  rw [shareA_apply, nextOf_apply, s_apply, s'_apply, cands, alternate_odd, ← rowAt_of P]; rfl

theorem cand_even (P : FVec Ideal S131072x8 .f32) (n : Fin 131072) (j : Fin 8) :
    P (ix2 n j) = cands 8 (A.cnt n) (A.poly n) (A.line n) (rowAt P n) (2 * j.val) := by
  rw [cands, alternate_even, rowAt_of]

/-! ### The counts -/

theorem both32_apply (n : Fin 131072) (j : Fin 8) :
    both32 A.e A.e' (ix2 n j) = BitVec.ofNat 32 ((A.flags n (2 * j.val)).toNat + (A.flags n (2 * j.val + 1)).toNat) := by
  show (A.e (ix2 n j)).setWidth 32 + (A.e' (ix2 n j)).setWidth 32 = _
  rw [e_apply, e'_apply, BitVec.ofNat_add, BitVec.ofNat_toNat, BitVec.ofNat_toNat]

theorem beforeA_apply (n : Fin 131072) (j : Fin 8) : beforeA A.e A.e' (ix2 n j) = count (A.flags n) (2 * j.val) := by
  show Host.reduceWindow IntOp.addi ![1, 8] ![1, 1] ![0, 7] ![0, 0] (both32 A.e A.e') (broadcastInDim S_ ![] bcast_S_S_ (constantI S_ 32 0#32))
    reduceWindows_S131072x8_S131072x8_w1s1p0_0_w8s1p7_0 h_S_ (ix2 n j) - both32 A.e A.e' (ix2 n j) = _
  rw [cumsum_at _ (fun n k => (A.flags n (2 * k)).toNat + (A.flags n (2 * k + 1)).toNat) (both32_apply A) _ rfl, both32_apply, cn_pairs,
    show 2 * (j.val + 1) = 2 * j.val + 1 + 1 by ring, cn_succ, cn_succ, count_eq, add_assoc, BitVec.ofNat_add, BitVec.add_sub_cancel]

theorem placeA_apply (n : Fin 131072) (j : Fin 8) : placeA A.e A.e' (ix2 n j) = placeOf (A.flags n) (2 * j.val) := by
  show Scalar.select (A.e (ix2 n j)) (beforeA A.e A.e' (ix2 n j)) (all8 _ (ix2 n j)) = _
  rw [e_apply, beforeA_apply, all8_apply]; rfl

theorem placeB_apply (n : Fin 131072) (j : Fin 8) : placeB A.e A.e' (ix2 n j) = placeOf (A.flags n) (2 * j.val + 1) := by
  show Scalar.select (A.e' (ix2 n j)) (IntOp.addi (beforeA A.e A.e' (ix2 n j)) ((A.e (ix2 n j)).setWidth 32)) (all8 _ (ix2 n j)) = _
  rw [e_apply, e'_apply, beforeA_apply, all8_apply]; rfl

theorem countA_apply (n : Fin 131072) : A.outC (ix1 n) = countN 8 (A.cnt n) (A.poly n) (A.line n) := by
  have h : (S131072x8 : Shape).Reduces [1] S131072 := by decide
  have hl : ∀ k : Fin 8, h.lift (ix1 n) k = ix2 n k := fun k => funext fun a => Fin.ext (by
    match a with
    | ⟨0, _⟩ => rfl
    | ⟨1, _⟩ => rfl)
  have hf : ∀ t : Finset (Fin 8), t.fold IntOp.addi 0#32 (fun k : Fin 8 => BitVec.ofNat 32 ((A.flags n (2 * k.val)).toNat + (A.flags n (2 * k.val + 1)).toNat))
      = BitVec.ofNat 32 (∑ k ∈ t, ((A.flags n (2 * k.val)).toNat + (A.flags n (2 * k.val + 1)).toNat)) := fun t => by
    induction t using Finset.induction_on with
    | empty => rfl
    | insert a t ha ih => rw [Finset.fold_insert ha, ih, Finset.sum_insert ha]; exact (BitVec.ofNat_add _ _).symm
  have he : (both32 A.e A.e' ∘ h.lift (ix1 n)) = fun k : Fin 8 => BitVec.ofNat 32 ((A.flags n (2 * k.val)).toNat + (A.flags n (2 * k.val + 1)).toNat) :=
    funext fun k => (congrArg (both32 A.e A.e') (hl k)).trans (both32_apply A n k)
  rw [Args.outC, countA, Host.reduce_eq_fold_single IntOp.addi _ _ _ h]
  refine (congrArg (fun g : Fin 8 → BitVec 32 => Finset.fold IntOp.addi 0#32 g (Finset.univ : Finset (Fin 8))) he).trans ((hf _).trans ?_)
  rw [countN, count_eq, Fin.sum_univ_eq_sum_range (fun k => (A.flags n (2 * k)).toNat + (A.flags n (2 * k + 1)).toNat) 8, cn_pairs']
  rfl

/-! ### The slots -/

theorem whereA_row (I : IVec S131072x8 32) (n : Fin 131072) (k : Fin 8) : whereA I (ix3 n k (0 : Fin 2)) = BitVec.ofNat 32 n.val := by
  have hn := n.isLt
  refine (concatenate_pair_apply_left (t := S131072x8x2) (s₁ := S131072x8x1) (s₂ := S131072x8x1) (2 : Fin 3) _ _ _ (ix3 n k (0 : Fin 2)) rfl (ix3 n k (0 : Fin 1)) (fun b => by
    match b with
    | ⟨0, _⟩ => rfl
    | ⟨1, _⟩ => rfl
    | ⟨2, _⟩ => rfl)).trans ?_
  show Scalar.select (IntOp.cmpi .slt (BitVec.ofNat 32 n.val) 0#32) (IntOp.addi (BitVec.ofNat 32 n.val) 131072#32) (BitVec.ofNat 32 n.val) = _
  refine wrap_of_lt _ _ ?_
  rw [BitVec.toNat_ofNat, Nat.mod_eq_of_lt (by omega)]
  omega

theorem whereA_place (I : IVec S131072x8 32) (n : Fin 131072) (k : Fin 8) (h : (I (ix2 n k)).toNat < 2 ^ 31) :
    whereA I (ix3 n k (1 : Fin 2)) = I (ix2 n k) := by
  refine (concatenate_pair_apply_right (t := S131072x8x2) (s₁ := S131072x8x1) (s₂ := S131072x8x1) (2 : Fin 3) _ _ _ (ix3 n k (1 : Fin 2)) rfl rfl (ix3 n k (0 : Fin 1)) (fun b hb => by
    match b with
    | ⟨0, _⟩ => rfl
    | ⟨1, _⟩ => rfl
    | ⟨2, _⟩ => exact absurd rfl hb) rfl).trans ?_
  have e : ∀ x : S131072x8.Idx → BitVec 32, broadcastInDim S131072x8x1 ![0, 1] bcast_S131072x8_S131072x8x1_0_1 x (ix3 n k (0 : Fin 1)) = x (ix2 n k) :=
    fun x => congrArg x (funext fun a => by
      match a with
      | ⟨0, _⟩ => rfl
      | ⟨1, _⟩ => rfl)
  rw [e]
  show Scalar.select (IntOp.cmpi .slt (I (ix2 n k)) (all8 _ (ix2 n k))) (IntOp.addi (I (ix2 n k)) (all8 _ (ix2 n k))) (I (ix2 n k)) = _
  rw [all8_apply, all8_apply]
  exact wrap_of_lt _ _ h

theorem putA_apply (base : FVec Ideal S131072x9 .f32) (I : IVec S131072x8 32) (u : FVec Ideal S131072x8 .f32) (w : Fin 131072 → ℕ → BitVec 32)
    (v : Fin 131072 → ℕ → EReal) (hI : ∀ (n : Fin 131072) (k : Fin 8), I (ix2 n k) = w n k.val) (hw : ∀ (n : Fin 131072) (k : Fin 8), (w n k.val).toNat < 2 ^ 31)
    (hv : ∀ (n : Fin 131072) (k : Fin 8), u (ix2 n k) = v n k.val) (n : Fin 131072) (j : Fin 9) :
    putA base I u (ix2 n j) = ScatterToDense.GS (w n) (v n) (base (ix2 n j)) j.val 8 :=
  ScatterToDense.scatter_eq_GS (T := 131072) (C := 9) (K := 8) scatter_S131072x9_S131072x8x2_S131072x8_n_01_01_2 rfl rfl rfl (by norm_num) (by norm_num) base (whereA I) u w v
    (fun i k => whereA_row I i k) (fun i k => by rw [whereA_place I i k (by rw [hI]; exact hw i k), hI]) hv n j

theorem fillA_apply (P : FVec Ideal S131072x8 .f32) (n : Fin 131072) (j : Fin 8) :
    fillA A.e A.e' P (cutA A.s A.s' P (nextOf A.C P)) (ix2 n j)
      = slot (A.flags n) (cands 8 (A.cnt n) (A.poly n) (A.line n) (rowAt P n)) j.val 16 := by
  rw [← fill_eq (A.flags n) _ j.isLt 8 le_rfl]
  rw [fillA, extractStridedSlice_apply ![0, 0] _ slices_S131072x9_S131072x8_0_0 (ix2 n j) (ix2 n ⟨j.val, by omega⟩) (fun a => by
    match a with
    | ⟨0, _⟩ => show n.val = 0 + n.val; omega
    | ⟨1, _⟩ => show j.val = 0 + j.val; omega)]
  rw [putA_apply _ _ _ (fun n k => placeOf (A.flags n) (2 * k + 1)) (fun n k => cands 8 (A.cnt n) (A.poly n) (A.line n) (rowAt P n) (2 * k + 1))
    (fun n k => placeB_apply A n k) (fun n k => lt_of_le_of_lt (placeOf_small (by omega)) (by norm_num)) (fun n k => cutA_apply A P n k),
    putA_apply _ _ _ (fun n k => placeOf (A.flags n) (2 * k)) (fun n k => cands 8 (A.cnt n) (A.poly n) (A.line n) (rowAt P n) (2 * k))
    (fun n k => placeA_apply A n k) (fun n k => lt_of_le_of_lt (placeOf_small (by omega)) (by norm_num)) (fun n k => cand_even A P n k)]
  rfl

/-- The clip's polygon at a row. -/
theorem out_apply (n : Fin 131072) (j : Fin 8) :
    A.outX (ix2 n j) = (clipN 8 8 (A.cnt n) (A.poly n) (A.line n)).x j.val ∧ A.outY (ix2 n j) = (clipN 8 8 (A.cnt n) (A.poly n) (A.line n)).y j.val :=
  ⟨(fillA_apply A A.X n j).trans (if_pos j.isLt).symm, (fillA_apply A A.Y n j).trans (if_pos j.isLt).symm⟩

end Cert.ReferenceIdeal.Rows

end
-- ==== Proof.RefClips.lean ====
/- The reference's four clips and the area that follows, as the clip and the area of RowOps.lean and ClipRows.lean. -/
module

public import proofs.«01_k».proof.Proof.ClipRows
public import Idealize.ShloMosaic.Lib.Tactic

@[expose] public section

noncomputable section

namespace Cert.ReferenceIdeal.Rows

open Idealize.ShloMosaic
open Idealize.ShloMosaic.ValueIdx Cert.ReferenceIdeal Cert.ReferenceIdeal.Gen Cert.ReferenceIdeal.Read Cert.Giou

variable (x0 x1 : (⟨S131072x7, .f32⟩ : BufTy).Contents (Elt Ideal))

/-- The shoelace areas of the rows' polygons. -/
def areaA (C : IVec S131072 32) (X Y : FVec Ideal S131072x8 .f32) : FVec Ideal S131072 .f32 :=
  mulf (broadcastInDim S131072 ![] bcast_S_S131072 (constant S_ .f32 0x3F000000#32))
    (Host.absf (Host.reduceAdd (select (validA C) (subf (mulf X (nextOf C Y)) (mulf Y (nextOf C X))) (all8 (constant S_ .f32 0x00000000#32)))
      (constant S_ .f32 0x00000000#32) reducesTo_S131072x8_S131072_d1 h_S_))

/-- The arguments of clip 0. -/
def clip0 : Args :=
  ⟨(val_main_v273 (F := Ideal)), (val_main_v271 (F := Ideal) x0), (val_main_v272 (F := Ideal) x0), (val_main_v275 (F := Ideal) x1), (val_main_v277 (F := Ideal) x1), (val_main_v279 (F := Ideal) x1), (val_main_v281 (F := Ideal) x1)⟩

theorem v432_eq : (val_main_v432 (F := Ideal) x0 x1) = (clip0 x0 x1).outC := by sl_kernel_rfl
theorem v430_eq : (val_main_v430 (F := Ideal) x0 x1) = (clip0 x0 x1).outX := by sl_kernel_rfl
theorem v431_eq : (val_main_v431 (F := Ideal) x0 x1) = (clip0 x0 x1).outY := by sl_kernel_rfl

/-- The arguments of clip 1. -/
def clip1 : Args :=
  ⟨(val_main_v432 (F := Ideal) x0 x1), (val_main_v430 (F := Ideal) x0 x1), (val_main_v431 (F := Ideal) x0 x1), (val_main_v434 (F := Ideal) x1), (val_main_v436 (F := Ideal) x1), (val_main_v438 (F := Ideal) x1), (val_main_v440 (F := Ideal) x1)⟩

theorem v591_eq : (val_main_v591 (F := Ideal) x0 x1) = (clip1 x0 x1).outC := by sl_kernel_rfl
theorem v589_eq : (val_main_v589 (F := Ideal) x0 x1) = (clip1 x0 x1).outX := by sl_kernel_rfl
theorem v590_eq : (val_main_v590 (F := Ideal) x0 x1) = (clip1 x0 x1).outY := by sl_kernel_rfl

/-- The arguments of clip 2. -/
def clip2 : Args :=
  ⟨(val_main_v591 (F := Ideal) x0 x1), (val_main_v589 (F := Ideal) x0 x1), (val_main_v590 (F := Ideal) x0 x1), (val_main_v593 (F := Ideal) x1), (val_main_v595 (F := Ideal) x1), (val_main_v597 (F := Ideal) x1), (val_main_v599 (F := Ideal) x1)⟩

theorem v750_eq : (val_main_v750 (F := Ideal) x0 x1) = (clip2 x0 x1).outC := by sl_kernel_rfl
theorem v748_eq : (val_main_v748 (F := Ideal) x0 x1) = (clip2 x0 x1).outX := by sl_kernel_rfl
theorem v749_eq : (val_main_v749 (F := Ideal) x0 x1) = (clip2 x0 x1).outY := by sl_kernel_rfl

/-- The arguments of clip 3. -/
def clip3 : Args :=
  ⟨(val_main_v750 (F := Ideal) x0 x1), (val_main_v748 (F := Ideal) x0 x1), (val_main_v749 (F := Ideal) x0 x1), (val_main_v752 (F := Ideal) x1), (val_main_v754 (F := Ideal) x1), (val_main_v756 (F := Ideal) x1), (val_main_v758 (F := Ideal) x1)⟩

theorem v909_eq : (val_main_v909 (F := Ideal) x0 x1) = (clip3 x0 x1).outC := by sl_kernel_rfl
theorem v907_eq : (val_main_v907 (F := Ideal) x0 x1) = (clip3 x0 x1).outX := by sl_kernel_rfl
theorem v908_eq : (val_main_v908 (F := Ideal) x0 x1) = (clip3 x0 x1).outY := by sl_kernel_rfl

theorem v949_eq : (val_main_v949 (F := Ideal) x0 x1) = areaA (val_main_v909 (F := Ideal) x0 x1) (val_main_v907 (F := Ideal) x0 x1) (val_main_v908 (F := Ideal) x0 x1) := by sl_kernel_rfl

theorem areaA_apply (C : IVec S131072 32) (X Y : FVec Ideal S131072x8 .f32) (n : Fin 131072) :
    areaA C X Y (ix1 n) = polyArea (C (ix1 n)) ⟨rowAt X n, rowAt Y n⟩ := by
  have h : (S131072x8 : Shape).Reduces [1] S131072 := by decide
  have hl : ∀ k : Fin 8, h.lift (ix1 n) k = ix2 n k := fun k => funext fun a => Fin.ext (by
    match a with
    | ⟨0, _⟩ => rfl
    | ⟨1, _⟩ => rfl)
  have ht : ∀ k : Fin 8, select (validA C) (subf (mulf X (nextOf C Y)) (mulf Y (nextOf C X))) (all8 (constant S_ .f32 0x00000000#32)) (ix2 n k)
      = sel (more (C (ix1 n)) k.val) (rowAt X n k.val * next 8 (C (ix1 n)) (rowAt Y n) k.val - rowAt Y n k.val * next 8 (C (ix1 n)) (rowAt X n) k.val) (word 0#32) := fun k => by
    show Scalar.select (validA C (ix2 n k)) (X (ix2 n k) * nextOf C Y (ix2 n k) - Y (ix2 n k) * nextOf C X (ix2 n k)) (all8 _ (ix2 n k)) = _
    rw [validA_apply, nextOf_apply, nextOf_apply, all8_apply, rowAt_of, rowAt_of]; rfl
  rw [polyArea, halfAbs]
  show word 0x3F000000#32 * max (Ideal.hostReduceAdd _ _ _ (ix1 n)) (-Ideal.hostReduceAdd _ _ _ (ix1 n)) = _
  rw [Ideal.hostReduceAdd_single _ h]
  have hs : (∑ k : Fin 8, select (validA C) (subf (mulf X (nextOf C Y)) (mulf Y (nextOf C X))) (all8 (constant S_ .f32 0x00000000#32)) (h.lift (ix1 n) k))
      = ∑ j ∈ Finset.range 8, sel (more (C (ix1 n)) j) (rowAt X n j * next 8 (C (ix1 n)) (rowAt Y n) j - rowAt Y n j * next 8 (C (ix1 n)) (rowAt X n) j) (word 0#32) := by
    rw [← Fin.sum_univ_eq_sum_range (fun j => sel (more (C (ix1 n)) j) (rowAt X n j * next 8 (C (ix1 n)) (rowAt Y n) j - rowAt Y n j * next 8 (C (ix1 n)) (rowAt X n) j) (word 0#32)) 8]
    exact Finset.sum_congr rfl fun k _ => (congrArg _ (hl k)).trans (ht k)
  have hz : ∀ S T : EReal, S = T → word 0#32 + S = T := fun S T h => by rw [word_zero, zero_add, h]
  exact congrArg (fun S => word 0x3F000000#32 * max S (-S)) (hz _ _ hs)

end Cert.ReferenceIdeal.Rows

end
-- ==== Proof.RefRow.lean ====
/- The reference's losses of the rows' pairs, read at a row: the corners of the boxes, the lines along the second box's edges,
   the four clips from the first box's corners, the hull of both and the loss. -/
module

public import proofs.«01_k».proof.Proof.RefHull
public import proofs.«01_k».proof.Proof.RefClips

@[expose] public section

noncomputable section

namespace Cert.ReferenceIdeal.Rows

open Idealize.ShloMosaic
open Idealize.ShloMosaic.ValueIdx Idealize.ShloMosaic.Routing Cert.ReferenceIdeal Cert.ReferenceIdeal.Gen Cert.ReferenceIdeal.Read Cert.Giou

variable {α : Type}

/-! ## Columns -/

theorem column7 (A : S131072x7.Idx → α) (k : Fin 7) (h : S131072x7.Slices ![0, k.val] S131072x1) (h' : S131072x1.ShapeCasts S131072)
    (n : Fin 131072) : shapeCast S131072 (extractStridedSlice S131072x1 ![0, k.val] A h) h' (ix1 n) = A (ix2 n k) := by
  rw [shapeCast_apply _ h' (ix1 n) (ix2 n 0) (by rw [Shape.rowMajor_val_one, Shape.rowMajor_val_two]; simp)]
  refine extractStridedSlice_apply _ _ h _ _ fun a => ?_
  match a with
  | ⟨0, _⟩ => simp
  | ⟨1, _⟩ => simp
theorem column4 (A : S131072x4.Idx → α) (k : Fin 4) (h : S131072x4.Slices ![0, k.val] S131072x1) (h' : S131072x1.ShapeCasts S131072)
    (n : Fin 131072) : shapeCast S131072 (extractStridedSlice S131072x1 ![0, k.val] A h) h' (ix1 n) = A (ix2 n k) := by
  rw [shapeCast_apply _ h' (ix1 n) (ix2 n 0) (by rw [Shape.rowMajor_val_one, Shape.rowMajor_val_two]; simp)]
  refine extractStridedSlice_apply _ _ h _ _ fun a => ?_
  match a with
  | ⟨0, _⟩ => simp
  | ⟨1, _⟩ => simp

variable (x0 x1 : (⟨S131072x7, .f32⟩ : BufTy).Contents (Elt Ideal))

/-- The box of row `n`. -/
def boxAt (A : S131072x7.Idx → EReal) (n : Fin 131072) : Box :=
  ⟨A (ix2 n 0), A (ix2 n 1), A (ix2 n 2), A (ix2 n 3), A (ix2 n 4), A (ix2 n 5), A (ix2 n 6)⟩

theorem p0_apply (n : Fin 131072) : val_main_v1 (F := Ideal) x0 (ix1 n) = x0 (ix2 n 0) := column7 x0 0 _ _ n
theorem t0_apply (n : Fin 131072) : val_main_v15 (F := Ideal) x1 (ix1 n) = x1 (ix2 n 0) := column7 x1 0 _ _ n
theorem p1_apply (n : Fin 131072) : val_main_v3 (F := Ideal) x0 (ix1 n) = x0 (ix2 n 1) := column7 x0 1 _ _ n
theorem t1_apply (n : Fin 131072) : val_main_v17 (F := Ideal) x1 (ix1 n) = x1 (ix2 n 1) := column7 x1 1 _ _ n
theorem p2_apply (n : Fin 131072) : val_main_v5 (F := Ideal) x0 (ix1 n) = x0 (ix2 n 2) := column7 x0 2 _ _ n
theorem t2_apply (n : Fin 131072) : val_main_v19 (F := Ideal) x1 (ix1 n) = x1 (ix2 n 2) := column7 x1 2 _ _ n
theorem p3_apply (n : Fin 131072) : val_main_v7 (F := Ideal) x0 (ix1 n) = x0 (ix2 n 3) := column7 x0 3 _ _ n
theorem t3_apply (n : Fin 131072) : val_main_v21 (F := Ideal) x1 (ix1 n) = x1 (ix2 n 3) := column7 x1 3 _ _ n
theorem p4_apply (n : Fin 131072) : val_main_v9 (F := Ideal) x0 (ix1 n) = x0 (ix2 n 4) := column7 x0 4 _ _ n
theorem t4_apply (n : Fin 131072) : val_main_v23 (F := Ideal) x1 (ix1 n) = x1 (ix2 n 4) := column7 x1 4 _ _ n
theorem p5_apply (n : Fin 131072) : val_main_v11 (F := Ideal) x0 (ix1 n) = x0 (ix2 n 5) := column7 x0 5 _ _ n
theorem t5_apply (n : Fin 131072) : val_main_v25 (F := Ideal) x1 (ix1 n) = x1 (ix2 n 5) := column7 x1 5 _ _ n
theorem p6_apply (n : Fin 131072) : val_main_v13 (F := Ideal) x0 (ix1 n) = x0 (ix2 n 6) := column7 x0 6 _ _ n
theorem t6_apply (n : Fin 131072) : val_main_v27 (F := Ideal) x1 (ix1 n) = x1 (ix2 n 6) := column7 x1 6 _ _ n

/-! ## Sines and cosines -/

theorem v31_apply (n : Fin 131072) : val_main_v31 (F := Ideal) x0 (ix1 n) = quarter (val_main_v13 (F := Ideal) x0 (ix1 n)) := by sl_kernel_rfl
theorem v38_apply (n : Fin 131072) : val_main_v38 (F := Ideal) x0 (ix1 n) = restR (val_main_v13 (F := Ideal) x0 (ix1 n)) := by sl_kernel_rfl
theorem v56_apply (n : Fin 131072) : val_main_v56 (F := Ideal) x0 (ix1 n) = sinSum (val_main_v38 (F := Ideal) x0 (ix1 n)) := by sl_kernel_rfl
theorem v78_apply (n : Fin 131072) : val_main_v78 (F := Ideal) x0 (ix1 n) = cosSum (val_main_v38 (F := Ideal) x0 (ix1 n)) := by sl_kernel_rfl
theorem v91_turned (n : Fin 131072) : val_main_v91 (F := Ideal) x0 (ix1 n) = byQuarter (val_main_v31 (F := Ideal) x0 (ix1 n)) (val_main_v56 (F := Ideal) x0 (ix1 n)) (val_main_v78 (F := Ideal) x0 (ix1 n)) (-val_main_v56 (F := Ideal) x0 (ix1 n)) (-val_main_v78 (F := Ideal) x0 (ix1 n)) := by sl_kernel_rfl
theorem v102_turned (n : Fin 131072) : val_main_v102 (F := Ideal) x0 (ix1 n) = byQuarter (val_main_v31 (F := Ideal) x0 (ix1 n)) (val_main_v78 (F := Ideal) x0 (ix1 n)) (-val_main_v56 (F := Ideal) x0 (ix1 n)) (-val_main_v78 (F := Ideal) x0 (ix1 n)) (val_main_v56 (F := Ideal) x0 (ix1 n)) := by sl_kernel_rfl
theorem v91_apply (n : Fin 131072) : val_main_v91 (F := Ideal) x0 (ix1 n) = sinR (val_main_v13 (F := Ideal) x0 (ix1 n)) := by
  rw [v91_turned, v56_apply, v78_apply, v31_apply, v38_apply]; rfl
theorem v102_apply (n : Fin 131072) : val_main_v102 (F := Ideal) x0 (ix1 n) = cosR (val_main_v13 (F := Ideal) x0 (ix1 n)) := by
  rw [v102_turned, v56_apply, v78_apply, v31_apply, v38_apply]; rfl
theorem v152_apply (n : Fin 131072) : val_main_v152 (F := Ideal) x1 (ix1 n) = quarter (val_main_v27 (F := Ideal) x1 (ix1 n)) := by sl_kernel_rfl
theorem v159_apply (n : Fin 131072) : val_main_v159 (F := Ideal) x1 (ix1 n) = restR (val_main_v27 (F := Ideal) x1 (ix1 n)) := by sl_kernel_rfl
theorem v177_apply (n : Fin 131072) : val_main_v177 (F := Ideal) x1 (ix1 n) = sinSum (val_main_v159 (F := Ideal) x1 (ix1 n)) := by sl_kernel_rfl
theorem v199_apply (n : Fin 131072) : val_main_v199 (F := Ideal) x1 (ix1 n) = cosSum (val_main_v159 (F := Ideal) x1 (ix1 n)) := by sl_kernel_rfl
theorem v212_turned (n : Fin 131072) : val_main_v212 (F := Ideal) x1 (ix1 n) = byQuarter (val_main_v152 (F := Ideal) x1 (ix1 n)) (val_main_v177 (F := Ideal) x1 (ix1 n)) (val_main_v199 (F := Ideal) x1 (ix1 n)) (-val_main_v177 (F := Ideal) x1 (ix1 n)) (-val_main_v199 (F := Ideal) x1 (ix1 n)) := by sl_kernel_rfl
theorem v223_turned (n : Fin 131072) : val_main_v223 (F := Ideal) x1 (ix1 n) = byQuarter (val_main_v152 (F := Ideal) x1 (ix1 n)) (val_main_v199 (F := Ideal) x1 (ix1 n)) (-val_main_v177 (F := Ideal) x1 (ix1 n)) (-val_main_v199 (F := Ideal) x1 (ix1 n)) (val_main_v177 (F := Ideal) x1 (ix1 n)) := by sl_kernel_rfl
theorem v212_apply (n : Fin 131072) : val_main_v212 (F := Ideal) x1 (ix1 n) = sinR (val_main_v27 (F := Ideal) x1 (ix1 n)) := by
  rw [v212_turned, v177_apply, v199_apply, v152_apply, v159_apply]; rfl
theorem v223_apply (n : Fin 131072) : val_main_v223 (F := Ideal) x1 (ix1 n) = cosR (val_main_v27 (F := Ideal) x1 (ix1 n)) := by
  rw [v223_turned, v177_apply, v199_apply, v152_apply, v159_apply]; rfl

/-! ## Corners -/

/-- One value for each row. -/
def row4 (c : S131072.Idx → α) : S131072x4.Idx → α :=
  broadcastInDim S131072x4 ![0, 1] bcast_S131072x1_S131072x4_0_1 (broadcastInDim S131072x1 ![0] bcast_S131072_S131072x1_0 c)
/-- One value for each corner. -/
def cols4 (c : S4.Idx → α) : S131072x4.Idx → α :=
  broadcastInDim S131072x4 ![0, 1] bcast_S1x4_S131072x4_0_1 (broadcastInDim S1x4 ![1] bcast_S4_S1x4_1 c)
theorem row4_apply (c : S131072.Idx → α) (n : Fin 131072) (j : Fin 4) : row4 c (ix2 n j) = c (ix1 n) := by
  refine congrArg c (funext fun a => ?_)
  obtain rfl : a = 0 := Subsingleton.elim _ _
  rfl
theorem cols4_apply (c : S4.Idx → α) (n : Fin 131072) (j : Fin 4) : cols4 c (ix2 n j) = c (ix1 j) := by
  refine congrArg c (funext fun a => ?_)
  obtain rfl : a = 0 := Subsingleton.elim _ _
  rfl

def halfA (w : FVec Ideal S131072 .f32) : FVec Ideal S131072 .f32 :=
  mulf w (broadcastInDim S131072 ![] bcast_S_S131072 (constant S_ .f32 0x3F000000#32))
def bitsX : IVec S4 1 :=
  ori (cmpi .eq (iotaInDim S4 32 0) (broadcastInDim S4 ![] bcast_S_S4 (constantI S_ 32 0#32)))
    (cmpi .eq (iotaInDim S4 32 0) (broadcastInDim S4 ![] bcast_S_S4 (constantI S_ 32 3#32)))
def bitsY : IVec S4 1 := cmpi .slt (iotaInDim S4 32 0) (broadcastInDim S4 ![] bcast_S_S4 (constantI S_ 32 2#32))
def signA (b : IVec S4 1) : FVec Ideal S4 .f32 :=
  select b (broadcastInDim S4 ![] bcast_S_S4 (constant S_ .f32 0x3F800000#32)) (broadcastInDim S4 ![] bcast_S_S4 (constant S_ .f32 0xBF800000#32))
def cornersX (x w l s c : FVec Ideal S131072 .f32) : FVec Ideal S131072x4 .f32 :=
  subf (addf (row4 x) (mulf (mulf (row4 (halfA w)) (cols4 (signA bitsX))) (row4 c))) (mulf (mulf (row4 (halfA l)) (cols4 (signA bitsY))) (row4 s))
def cornersY (y w l s c : FVec Ideal S131072 .f32) : FVec Ideal S131072x4 .f32 :=
  addf (addf (row4 y) (mulf (mulf (row4 (halfA w)) (cols4 (signA bitsX))) (row4 s))) (mulf (mulf (row4 (halfA l)) (cols4 (signA bitsY))) (row4 c))

theorem signX_apply (j : Fin 4) : signA bitsX (ix1 j) = signX j.val := by
  have h : ∀ j : Fin 4, IntOp.ori (IntOp.cmpi .eq (BitVec.ofNat 32 j.val) 0#32) (IntOp.cmpi .eq (BitVec.ofNat 32 j.val) 3#32) = if j.val = 0 ∨ j.val = 3 then 1#1 else 0#1 := by
    decide +kernel
  show sel (IntOp.ori (IntOp.cmpi .eq (BitVec.ofNat 32 j.val) 0#32) (IntOp.cmpi .eq (BitVec.ofNat 32 j.val) 3#32)) (word 0x3F800000#32) (word 0xBF800000#32) = _
  rw [h, signX]
  split
  · exact sel_one rfl _ _
  · exact sel_zero (c := 0#1) (by decide) _ _
theorem signY_apply (j : Fin 4) : signA bitsY (ix1 j) = signY j.val := by
  have h : ∀ j : Fin 4, IntOp.cmpi .slt (BitVec.ofNat 32 j.val) 2#32 = if j.val < 2 then 1#1 else 0#1 := by
    decide +kernel
  show sel (IntOp.cmpi .slt (BitVec.ofNat 32 j.val) 2#32) (word 0x3F800000#32) (word 0xBF800000#32) = _
  rw [h, signY]
  split
  · exact sel_one rfl _ _
  · exact sel_zero (c := 0#1) (by decide) _ _

theorem cornersX_apply (x w l s c : FVec Ideal S131072 .f32) (n : Fin 131072) (j : Fin 4) : cornersX x w l s c (ix2 n j)
    = x (ix1 n) + w (ix1 n) * word 0x3F000000#32 * signX j.val * c (ix1 n) - l (ix1 n) * word 0x3F000000#32 * signY j.val * s (ix1 n) := by
  show row4 x (ix2 n j) + row4 (halfA w) (ix2 n j) * cols4 (signA bitsX) (ix2 n j) * row4 c (ix2 n j)
    - row4 (halfA l) (ix2 n j) * cols4 (signA bitsY) (ix2 n j) * row4 s (ix2 n j) = _
  rw [row4_apply, row4_apply, row4_apply, row4_apply, row4_apply, cols4_apply, cols4_apply, signX_apply, signY_apply]
  rfl
theorem cornersY_apply (y w l s c : FVec Ideal S131072 .f32) (n : Fin 131072) (j : Fin 4) : cornersY y w l s c (ix2 n j)
    = y (ix1 n) + w (ix1 n) * word 0x3F000000#32 * signX j.val * s (ix1 n) + l (ix1 n) * word 0x3F000000#32 * signY j.val * c (ix1 n) := by
  show row4 y (ix2 n j) + row4 (halfA w) (ix2 n j) * cols4 (signA bitsX) (ix2 n j) * row4 s (ix2 n j)
    + row4 (halfA l) (ix2 n j) * cols4 (signA bitsY) (ix2 n j) * row4 c (ix2 n j) = _
  rw [row4_apply, row4_apply, row4_apply, row4_apply, row4_apply, cols4_apply, cols4_apply, signX_apply, signY_apply]
  rfl

theorem v138_eq : val_main_v138 (F := Ideal) x0 = cornersX (val_main_v1 (F := Ideal) x0) (val_main_v9 (F := Ideal) x0) (val_main_v11 (F := Ideal) x0) (val_main_v91 (F := Ideal) x0) (val_main_v102 (F := Ideal) x0) := by sl_kernel_rfl
theorem v138_apply (n : Fin 131072) (j : Fin 4) : val_main_v138 (F := Ideal) x0 (ix2 n j) = (boxAt x0 n).cornerX j.val := by
  rw [v138_eq, cornersX_apply, v91_apply, v102_apply, p0_apply, p4_apply, p5_apply, p6_apply]
  rfl
theorem v148_eq : val_main_v148 (F := Ideal) x0 = cornersY (val_main_v3 (F := Ideal) x0) (val_main_v9 (F := Ideal) x0) (val_main_v11 (F := Ideal) x0) (val_main_v91 (F := Ideal) x0) (val_main_v102 (F := Ideal) x0) := by sl_kernel_rfl
theorem v148_apply (n : Fin 131072) (j : Fin 4) : val_main_v148 (F := Ideal) x0 (ix2 n j) = (boxAt x0 n).cornerY j.val := by
  rw [v148_eq, cornersY_apply, v91_apply, v102_apply, p1_apply, p4_apply, p5_apply, p6_apply]
  rfl
theorem v259_eq : val_main_v259 (F := Ideal) x1 = cornersX (val_main_v15 (F := Ideal) x1) (val_main_v23 (F := Ideal) x1) (val_main_v25 (F := Ideal) x1) (val_main_v212 (F := Ideal) x1) (val_main_v223 (F := Ideal) x1) := by sl_kernel_rfl
theorem v259_apply (n : Fin 131072) (j : Fin 4) : val_main_v259 (F := Ideal) x1 (ix2 n j) = (boxAt x1 n).cornerX j.val := by
  rw [v259_eq, cornersX_apply, v212_apply, v223_apply, t0_apply, t4_apply, t5_apply, t6_apply]
  rfl
theorem v269_eq : val_main_v269 (F := Ideal) x1 = cornersY (val_main_v17 (F := Ideal) x1) (val_main_v23 (F := Ideal) x1) (val_main_v25 (F := Ideal) x1) (val_main_v212 (F := Ideal) x1) (val_main_v223 (F := Ideal) x1) := by sl_kernel_rfl
theorem v269_apply (n : Fin 131072) (j : Fin 4) : val_main_v269 (F := Ideal) x1 (ix2 n j) = (boxAt x1 n).cornerY j.val := by
  rw [v269_eq, cornersY_apply, v212_apply, v223_apply, t1_apply, t4_apply, t5_apply, t6_apply]
  rfl

/-! ## The polygons the clips and the hull start from -/

theorem pair_low (A B : FVec Ideal S131072x4 .f32) (h : Shape.Concatenates [S131072x4, S131072x4] S131072x8 1) (n : Fin 131072) (j : Fin 8)
    (k : Fin 4) (hk : k.val = j.val) : concatenate S131072x8 1 [⟨S131072x4, A⟩, ⟨S131072x4, B⟩] h (ix2 n j) = A (ix2 n k) :=
  concatenate_pair_apply_left (t := S131072x8) (s₁ := S131072x4) (s₂ := S131072x4) (1 : Fin 2) _ _ _ (ix2 n j) rfl (ix2 n k) (fun b => by
    match b with
    | ⟨0, _⟩ => rfl
    | ⟨1, _⟩ => exact hk)
theorem pair_high (A B : FVec Ideal S131072x4 .f32) (h : Shape.Concatenates [S131072x4, S131072x4] S131072x8 1) (n : Fin 131072) (j : Fin 8)
    (k : Fin 4) (hk : k.val + 4 = j.val) : concatenate S131072x8 1 [⟨S131072x4, A⟩, ⟨S131072x4, B⟩] h (ix2 n j) = B (ix2 n k) :=
  concatenate_pair_apply_right (t := S131072x8) (s₁ := S131072x4) (s₂ := S131072x4) (1 : Fin 2) _ _ _ (ix2 n j) rfl rfl (ix2 n k) (fun b hb => by
    match b with
    | ⟨0, _⟩ => rfl
    | ⟨1, _⟩ => exact absurd rfl hb) hk
theorem pair_apply (A B : FVec Ideal S131072x4 .f32) (h : Shape.Concatenates [S131072x4, S131072x4] S131072x8 1) (n : Fin 131072)
    (f g : ℕ → EReal) (hA : ∀ k : Fin 4, A (ix2 n k) = f k.val) (hB : ∀ k : Fin 4, B (ix2 n k) = g k.val) (j : ℕ) (hj : j < 8) :
    rowAt (concatenate S131072x8 1 [⟨S131072x4, A⟩, ⟨S131072x4, B⟩] h) n j = both f g j := by
  rw [rowAt, dif_pos hj, both]
  by_cases h4 : j < 4
  · rw [if_pos h4, pair_low A B h n _ ⟨j, h4⟩ rfl, hA]
  · rw [if_neg h4, pair_high A B h n _ ⟨j - 4, by omega⟩ (by show j - 4 + 4 = j; omega), hB]

theorem pad_same (n : Fin 131072) :
    Same ⟨rowAt (val_main_v271 (F := Ideal) x0) n, rowAt (val_main_v272 (F := Ideal) x0) n⟩ (pad (boxAt x0 n).corners) :=
  ⟨fun j hj => pair_apply _ _ _ n (boxAt x0 n).cornerX (fun _ => word 0#32) (v138_apply x0 n) (fun _ => rfl) j hj,
    fun j hj => pair_apply _ _ _ n (boxAt x0 n).cornerY (fun _ => word 0#32) (v148_apply x0 n) (fun _ => rfl) j hj⟩

theorem v977_apply (n : Fin 131072) (j : ℕ) (hj : j < 8) :
    rowAt (val_main_v977 (F := Ideal) x0 x1) n j = both (boxAt x0 n).cornerX (boxAt x1 n).cornerX j :=
  pair_apply _ _ _ n _ _ (v138_apply x0 n) (v259_apply x1 n) j hj
theorem v978_apply (n : Fin 131072) (j : ℕ) (hj : j < 8) :
    rowAt (val_main_v978 (F := Ideal) x0 x1) n j = both (boxAt x0 n).cornerY (boxAt x1 n).cornerY j :=
  pair_apply _ _ _ n _ _ (v148_apply x0 n) (v269_apply x1 n) j hj

/-! ## The chain of clips -/

theorem step (A : Args) (n : Fin 131072) {c : BitVec 32} {p : Poly} {L : Line} (hc : A.cnt n = c) (hp : Same (A.poly n) p) (hl : A.line n = L) :
    A.outC (ix1 n) = countN 8 c p L ∧ Same ⟨rowAt A.outX n, rowAt A.outY n⟩ (clipN 8 8 c p L) := by
  have hf : ∀ k < 16, flags 8 c (A.poly n) L k = flags 8 c p L k := fun k hk => flags_congr hp.1 hp.2 hk
  refine ⟨?_, fun j hj => ?_, fun j hj => ?_⟩
  · rw [countA_apply, hc, hl]
    exact count_congr hf
  · refine (rowAt_of A.outX n ⟨j, hj⟩).trans ((out_apply A n ⟨j, hj⟩).1.trans ?_)
    rw [hc, hl]
    show (if j < 8 then _ else _) = if j < 8 then _ else _
    rw [if_pos hj, if_pos hj]
    exact slot_congr j hf fun k hk => cands_congr hp.1 hp.2 hp.1 hk
  · refine (rowAt_of A.outY n ⟨j, hj⟩).trans ((out_apply A n ⟨j, hj⟩).2.trans ?_)
    rw [hc, hl]
    show (if j < 8 then _ else _) = if j < 8 then _ else _
    rw [if_pos hj, if_pos hj]
    exact slot_congr j hf fun k hk => cands_congr hp.1 hp.2 hp.2 hk

theorem line0 (n : Fin 131072) : (clip0 x0 x1).line n = edge (boxAt x1 n).corners 0 := by
  have h (k : Fin 4) := v259_apply x1 n k
  have h' (k : Fin 4) := v269_apply x1 n k
  have e0 : val_main_v275 (F := Ideal) x1 (ix1 n) = _ := (column4 (val_main_v259 (F := Ideal) x1) 0 _ _ n).trans (h 0)
  have e1 : val_main_v277 (F := Ideal) x1 (ix1 n) = _ := (column4 (val_main_v269 (F := Ideal) x1) 0 _ _ n).trans (h' 0)
  have e2 : val_main_v279 (F := Ideal) x1 (ix1 n) = _ := (column4 (val_main_v259 (F := Ideal) x1) 1 _ _ n).trans (h 1)
  have e3 : val_main_v281 (F := Ideal) x1 (ix1 n) = _ := (column4 (val_main_v269 (F := Ideal) x1) 1 _ _ n).trans (h' 1)
  show Line.mk (val_main_v275 (F := Ideal) x1 (ix1 n)) (val_main_v277 (F := Ideal) x1 (ix1 n)) (val_main_v279 (F := Ideal) x1 (ix1 n)) (val_main_v281 (F := Ideal) x1 (ix1 n)) = _
  rw [e0, e1, e2, e3]
  rfl
theorem line1 (n : Fin 131072) : (clip1 x0 x1).line n = edge (boxAt x1 n).corners 1 := by
  have h (k : Fin 4) := v259_apply x1 n k
  have h' (k : Fin 4) := v269_apply x1 n k
  have e0 : val_main_v434 (F := Ideal) x1 (ix1 n) = _ := (column4 (val_main_v259 (F := Ideal) x1) 1 _ _ n).trans (h 1)
  have e1 : val_main_v436 (F := Ideal) x1 (ix1 n) = _ := (column4 (val_main_v269 (F := Ideal) x1) 1 _ _ n).trans (h' 1)
  have e2 : val_main_v438 (F := Ideal) x1 (ix1 n) = _ := (column4 (val_main_v259 (F := Ideal) x1) 2 _ _ n).trans (h 2)
  have e3 : val_main_v440 (F := Ideal) x1 (ix1 n) = _ := (column4 (val_main_v269 (F := Ideal) x1) 2 _ _ n).trans (h' 2)
  show Line.mk (val_main_v434 (F := Ideal) x1 (ix1 n)) (val_main_v436 (F := Ideal) x1 (ix1 n)) (val_main_v438 (F := Ideal) x1 (ix1 n)) (val_main_v440 (F := Ideal) x1 (ix1 n)) = _
  rw [e0, e1, e2, e3]
  rfl
theorem line2 (n : Fin 131072) : (clip2 x0 x1).line n = edge (boxAt x1 n).corners 2 := by
  have h (k : Fin 4) := v259_apply x1 n k
  have h' (k : Fin 4) := v269_apply x1 n k
  have e0 : val_main_v593 (F := Ideal) x1 (ix1 n) = _ := (column4 (val_main_v259 (F := Ideal) x1) 2 _ _ n).trans (h 2)
  have e1 : val_main_v595 (F := Ideal) x1 (ix1 n) = _ := (column4 (val_main_v269 (F := Ideal) x1) 2 _ _ n).trans (h' 2)
  have e2 : val_main_v597 (F := Ideal) x1 (ix1 n) = _ := (column4 (val_main_v259 (F := Ideal) x1) 3 _ _ n).trans (h 3)
  have e3 : val_main_v599 (F := Ideal) x1 (ix1 n) = _ := (column4 (val_main_v269 (F := Ideal) x1) 3 _ _ n).trans (h' 3)
  show Line.mk (val_main_v593 (F := Ideal) x1 (ix1 n)) (val_main_v595 (F := Ideal) x1 (ix1 n)) (val_main_v597 (F := Ideal) x1 (ix1 n)) (val_main_v599 (F := Ideal) x1 (ix1 n)) = _
  rw [e0, e1, e2, e3]
  rfl
theorem line3 (n : Fin 131072) : (clip3 x0 x1).line n = edge (boxAt x1 n).corners 3 := by
  have h (k : Fin 4) := v259_apply x1 n k
  have h' (k : Fin 4) := v269_apply x1 n k
  have e0 : val_main_v752 (F := Ideal) x1 (ix1 n) = _ := (column4 (val_main_v259 (F := Ideal) x1) 3 _ _ n).trans (h 3)
  have e1 : val_main_v754 (F := Ideal) x1 (ix1 n) = _ := (column4 (val_main_v269 (F := Ideal) x1) 3 _ _ n).trans (h' 3)
  have e2 : val_main_v756 (F := Ideal) x1 (ix1 n) = _ := (column4 (val_main_v259 (F := Ideal) x1) 0 _ _ n).trans (h 0)
  have e3 : val_main_v758 (F := Ideal) x1 (ix1 n) = _ := (column4 (val_main_v269 (F := Ideal) x1) 0 _ _ n).trans (h' 0)
  show Line.mk (val_main_v752 (F := Ideal) x1 (ix1 n)) (val_main_v754 (F := Ideal) x1 (ix1 n)) (val_main_v756 (F := Ideal) x1 (ix1 n)) (val_main_v758 (F := Ideal) x1 (ix1 n)) = _
  rw [e0, e1, e2, e3]
  rfl

theorem cnt_mk (C : IVec S131072 32) (X Y : FVec Ideal S131072x8 .f32) (AX AY BX BY : FVec Ideal S131072 .f32) (n : Fin 131072) :
    (Args.mk C X Y AX AY BX BY).cnt n = C (ix1 n) := rfl
theorem poly_mk (C : IVec S131072 32) (X Y : FVec Ideal S131072x8 .f32) (AX AY BX BY : FVec Ideal S131072 .f32) (n : Fin 131072) :
    (Args.mk C X Y AX AY BX BY).poly n = ⟨rowAt X n, rowAt Y n⟩ := rfl

theorem v949_apply (n : Fin 131072) : val_main_v949 (F := Ideal) x0 x1 (ix1 n) = fullArea (boxAt x0 n).corners (boxAt x1 n).corners := by
  have s0 := step (clip0 x0 x1) n (c := 4#32) rfl (pad_same x0 n) (line0 x0 x1 n)
  rw [← v432_eq, ← v430_eq, ← v431_eq] at s0
  have s1 := step (clip1 x0 x1) n (by rw [clip1, cnt_mk, s0.1]) (by rw [clip1, poly_mk]; exact s0.2) (line1 x0 x1 n)
  rw [← v591_eq, ← v589_eq, ← v590_eq] at s1
  have s2 := step (clip2 x0 x1) n (by rw [clip2, cnt_mk, s1.1]) (by rw [clip2, poly_mk]; exact s1.2) (line2 x0 x1 n)
  rw [← v750_eq, ← v748_eq, ← v749_eq] at s2
  have s3 := step (clip3 x0 x1) n (by rw [clip3, cnt_mk, s2.1]) (by rw [clip3, poly_mk]; exact s2.2) (line3 x0 x1 n)
  rw [← v909_eq, ← v907_eq, ← v908_eq] at s3
  rw [v949_eq, areaA_apply, s3.1]
  exact polyArea_congr _ s3.2.1 s3.2.2

/-! ## The hull and the loss -/

theorem cross_same {X X' Y Y' : ℕ → EReal} (hX : ∀ j < 8, X j = X' j) (hY : ∀ j < 8, Y j = Y' j) {i j k : ℕ} (hi : i < 8) (hj : j < 8)
    (hk : k < 8) : cross X Y i j k = cross X' Y' i j k := by
  rw [cross, cross, hX _ hi, hX _ hj, hX _ hk, hY _ hi, hY _ hj, hY _ hk]
theorem fullHull_same {X X' Y Y' : ℕ → EReal} (hX : ∀ j < 8, X j = X' j) (hY : ∀ j < 8, Y j = Y' j) : fullHull X Y = fullHull X' Y' := by
  refine congrArg halfAbs (Finset.sum_congr rfl fun i hi => Finset.sum_congr rfl fun j hj => ?_)
  have hi := Finset.mem_range.1 hi
  have hj := Finset.mem_range.1 hj
  have hc : (i ≠ j ∧ ∀ k < 8, word 0xB727C5AC#32 ≤ cross X Y i j k) ↔ (i ≠ j ∧ ∀ k < 8, word 0xB727C5AC#32 ≤ cross X' Y' i j k) :=
    and_congr_right fun _ => forall₂_congr fun k hk => by rw [cross_same hX hY hi hj hk]
  rw [pairTerm, pairTerm, hX i hi, hX j hj, hY i hi, hY j hj]
  by_cases h : i ≠ j ∧ ∀ k < 8, word 0xB727C5AC#32 ≤ cross X Y i j k
  · rw [if_pos h, if_pos (hc.1 h)]
  · rw [if_neg h, if_neg (mt hc.2 h)]

theorem v1027_apply (n : Fin 131072) : val_main_v1027 (F := Ideal) x0 x1 (ix1 n)
    = fullHull (both (boxAt x0 n).corners.x (boxAt x1 n).corners.x) (both (boxAt x0 n).corners.y (boxAt x1 n).corners.y) := by
  rw [v1027_eq, hullA_apply]
  exact fullHull_same (v977_apply x0 x1 n) (v978_apply x0 x1 n)

theorem v1040_boxes (n : Fin 131072) : val_main_v1040 (F := Ideal) x0 x1 (ix1 n)
    = lossBy ⟨val_main_v1 (F := Ideal) x0 (ix1 n), val_main_v3 (F := Ideal) x0 (ix1 n), val_main_v5 (F := Ideal) x0 (ix1 n), val_main_v7 (F := Ideal) x0 (ix1 n),
        val_main_v9 (F := Ideal) x0 (ix1 n), val_main_v11 (F := Ideal) x0 (ix1 n), val_main_v13 (F := Ideal) x0 (ix1 n)⟩
      ⟨val_main_v15 (F := Ideal) x1 (ix1 n), val_main_v17 (F := Ideal) x1 (ix1 n), val_main_v19 (F := Ideal) x1 (ix1 n), val_main_v21 (F := Ideal) x1 (ix1 n),
        val_main_v23 (F := Ideal) x1 (ix1 n), val_main_v25 (F := Ideal) x1 (ix1 n), val_main_v27 (F := Ideal) x1 (ix1 n)⟩
      (val_main_v949 (F := Ideal) x0 x1 (ix1 n)) (val_main_v1027 (F := Ideal) x0 x1 (ix1 n)) := by sl_kernel_rfl

theorem v1040_apply (n : Fin 131072) : val_main_v1040 (F := Ideal) x0 x1 (ix1 n) = refLoss (boxAt x0 n) (boxAt x1 n) := by
  rw [v1040_boxes, v949_apply, v1027_apply, p0_apply, p1_apply, p2_apply, p3_apply, p4_apply, p5_apply, p6_apply,
    t0_apply, t1_apply, t2_apply, t3_apply, t4_apply, t5_apply, t6_apply]
  rfl

end Cert.ReferenceIdeal.Rows

end
-- ==== Proof.Pair.lean ====
/- The loss of a pair as the kernel computes it is the loss as the reference computes it, for boxes with finite coordinates whose
   sides' product is larger than twice the hull test's tolerance. -/
module

public import proofs.«01_k».proof.Proof.Hull
public import proofs.«01_k».proof.Proof.RefRow

@[expose] public section

noncomputable section

namespace Cert.Giou

open Idealize.ShloMosaic

/-- A box with a finite place, sides and yaw, whose area is larger than twice the tolerance. -/
def Solid (b : Box) : Prop := ∃ x y w l a : ℝ, b.x = x ∧ b.y = y ∧ b.w = w ∧ b.l = l ∧ b.a = a ∧ 2 * tol < w * l

/-- The corners of a box: finite, the same in the kernel and in the reference, a parallelogram larger than the tolerance. -/
structure Corners (b : Box) (u v : ℕ → ℝ) : Prop where
  refX : ∀ k < 4, b.corners.x k = (u k : EReal)
  refY : ∀ k < 4, b.corners.y k = (v k : EReal)
  kerX : ∀ k < 4, b.rect.x k = (u k : EReal)
  kerY : ∀ k < 4, b.rect.y k = (v k : EReal)
  hu : u 0 + u 2 = u 1 + u 3
  hv : v 0 + v 2 = v 1 + v 3
  ha : tol < quadArea u v

def signR (p : Prop) [Decidable p] : ℝ := if p then 1 else -1
theorem signX_coe (k : ℕ) : signX k = ((signR (k = 0 ∨ k = 3) : ℝ) : EReal) := by
  rw [signX, signR]; split
  · exact word_one
  · exact word_minus_one
theorem signY_coe (k : ℕ) : signY k = ((signR (k < 2) : ℝ) : EReal) := by
  rw [signY, signR]; split
  · exact word_one
  · exact word_minus_one

theorem Solid.has_corners {b : Box} (h : Solid b) : ∃ u v : ℕ → ℝ, Corners b u v := by
  obtain ⟨bx, b_y, bz, bh, bw, bl, ba⟩ := b
  obtain ⟨x, y, w, l, a, rfl, rfl, rfl, rfl, rfl, hs⟩ := h
  obtain ⟨s, c, h1, h2, h3, h4, hsq⟩ := angle a
  refine ⟨fun k => x + w * (1 / 2) * signR (k = 0 ∨ k = 3) * c - l * (1 / 2) * signR (k < 2) * s,
    fun k => y + w * (1 / 2) * signR (k = 0 ∨ k = 3) * s + l * (1 / 2) * signR (k < 2) * c, ?_, ?_, ?_, ?_, ?_, ?_, ?_⟩
  · intro k _
    show Box.cornerX _ k = _
    rw [Box.cornerX]
    simp only
    rw [h2, h4, signX_coe, signY_coe, word_half]
    simp only [← EReal.coe_mul, ← EReal.coe_sub, ← EReal.coe_add]
  · intro k _
    show Box.cornerY _ k = _
    rw [Box.cornerY]
    simp only
    rw [h2, h4, signX_coe, signY_coe, word_half]
    simp only [← EReal.coe_mul, ← EReal.coe_sub, ← EReal.coe_add]
  · intro k hk
    show cornerX x w l (sinOf a) (cosOf a) k = _
    rw [h1, h3]
    interval_cases k <;> simp only [cornerX, word_half, ← EReal.coe_mul, ← EReal.coe_sub, ← EReal.coe_add] <;> refine congrArg _ ?_ <;>
      norm_num [signR] <;> ring
  · intro k hk
    show cornerY y w l (sinOf a) (cosOf a) k = _
    rw [h1, h3]
    interval_cases k <;> simp only [cornerY, word_half, ← EReal.coe_mul, ← EReal.coe_sub, ← EReal.coe_add] <;> refine congrArg _ ?_ <;>
      norm_num [signR] <;> ring
  · norm_num [signR]; ring
  · norm_num [signR]; ring
  · have e : quadArea (fun k => x + w * (1 / 2) * signR (k = 0 ∨ k = 3) * c - l * (1 / 2) * signR (k < 2) * s)
        (fun k => y + w * (1 / 2) * signR (k = 0 ∨ k = 3) * s + l * (1 / 2) * signR (k < 2) * c) = w * l * (s * s + c * c) := by
      norm_num [signR, quadArea]; ring
    have h0 := tol_pos
    rw [e]
    nlinarith

/-! ## The area -/

theorem inside_iff (s : ℝ) : inside (s : EReal) = 1#1 ↔ 0 ≤ s := by
  show BitVec.ofBool (decide (word 0#32 ≤ (s : EReal))) = 1#1 ↔ _
  rw [word_nought]
  by_cases h : 0 ≤ s
  · simp [h]
  · simp [h]

theorem not_alternate {s0 s1 s2 s3 : ℝ} (h : s0 + s2 = s1 + s3) :
    ¬ (inside (s0 : EReal) = inside (s2 : EReal) ∧ inside (s1 : EReal) = inside (s3 : EReal) ∧ inside (s0 : EReal) ≠ inside (s1 : EReal)) := by
  rintro ⟨h1, h2, h3⟩
  by_cases e0 : inside (s0 : EReal) = 1#1
  · have e1 : ¬ inside (s1 : EReal) = 1#1 := fun e => h3 (e0.trans e.symm)
    have i0 := (inside_iff _).1 e0
    have i2 := (inside_iff _).1 (h1.symm.trans e0)
    have i1 := not_le.1 (mt (inside_iff s1).2 e1)
    have i3 := not_le.1 (mt (inside_iff s3).2 fun e => e1 (h2.trans e))
    linarith
  · have e1 : inside (s1 : EReal) = 1#1 := by
      by_contra e
      exact h3 ((bit_ne_one e0).trans (bit_ne_one e).symm)
    have i1 := (inside_iff _).1 e1
    have i3 := (inside_iff _).1 (h2.symm.trans e1)
    have i0 := not_le.1 (mt (inside_iff s0).2 e0)
    have i2 := not_le.1 (mt (inside_iff s2).2 fun e => e0 (h1.trans e))
    linarith

variable {p t : Box} {u v u' v' : ℕ → ℝ}

theorem Corners.pad_eq (P : Corners p u v) : pad p.rect = pad p.corners := by
  rw [pad, pad]
  congr 1
  · funext j
    by_cases hj : j < 4
    · rw [if_pos hj, if_pos hj, P.refX j hj, P.kerX j hj]
    · rw [if_neg hj, if_neg hj]
  · funext j
    by_cases hj : j < 4
    · rw [if_pos hj, if_pos hj, P.refY j hj, P.kerY j hj]
    · rw [if_neg hj, if_neg hj]
theorem Corners.edge_eq (T : Corners t u' v') {k : ℕ} (hk : k < 4) : edge t.rect k = edge t.corners k := by
  have h : (k + 1) % 4 < 4 := Nat.mod_lt _ (by omega)
  rw [edge, edge, T.refX k hk, T.refY k hk, T.kerX k hk, T.kerY k hk, T.refX _ h, T.refY _ h, T.kerX _ h, T.kerY _ h]

theorem Corners.area_eq (P : Corners p u v) (T : Corners t u' v') : kernelArea p.rect t.rect = fullArea p.corners t.corners := by
  have hs : ∀ k < 4, sides (edge t.rect 0) p.rect k = (((u' 1 - u' 0) * (v k - v' 0) - (v' 1 - v' 0) * (u k - u' 0) : ℝ) : EReal) := by
    intro k hk
    rw [sides, side, edge]
    simp only
    rw [show (0 + 1) % 4 = 1 from rfl, T.kerX 0 (by omega), T.kerY 0 (by omega), T.kerX 1 (by omega), T.kerY 1 (by omega), P.kerX k hk, P.kerY k hk]
    simp only [← EReal.coe_mul, ← EReal.coe_sub]
  rw [kernelArea_eq]
  · rw [fullArea, fullArea, P.pad_eq, T.edge_eq (k := 0) (by omega), T.edge_eq (k := 1) (by omega), T.edge_eq (k := 2) (by omega),
      T.edge_eq (k := 3) (by omega)]
  · rw [hs 0 (by omega), hs 1 (by omega), hs 2 (by omega), hs 3 (by omega)]
    refine not_alternate ?_
    have h3 : u 3 = u 0 + u 2 - u 1 := by linarith [P.hu]
    have g3 : v 3 = v 0 + v 2 - v 1 := by linarith [P.hv]
    rw [h3, g3]; ring

/-! ## The hull -/

theorem both_coe {f g : ℕ → EReal} {a b : ℕ → ℝ} (hf : ∀ k < 4, f k = (a k : EReal)) (hg : ∀ k < 4, g k = (b k : EReal)) :
    ∀ j < 8, both f g j = ((if j < 4 then a j else b (j - 4) : ℝ) : EReal) := by
  intro j hj
  rw [both]
  by_cases h : j < 4
  · rw [if_pos h, if_pos h, hf j h]
  · rw [if_neg h, if_neg h, hg _ (by omega)]

theorem Corners.eight (P : Corners p u v) (T : Corners t u' v') : Eight (both p.rect.x t.rect.x) (both p.rect.y t.rect.y)
    (fun j => if j < 4 then u j else u' (j - 4)) (fun j => if j < 4 then v j else v' (j - 4)) where
  hX := both_coe P.kerX T.kerX
  hY := both_coe P.kerY T.kerY
  hu := P.hu
  hv := P.hv
  ha := P.ha
  hu' := T.hu
  hv' := T.hv
  ha' := T.ha

theorem Corners.hull_eq (P : Corners p u v) (T : Corners t u' v') : hullOf (both p.rect.x t.rect.x) (both p.rect.y t.rect.y)
    = fullHull (both p.corners.x t.corners.x) (both p.corners.y t.corners.y) :=
  (P.eight T).hull_eq.trans (Cert.ReferenceIdeal.Rows.fullHull_same
    (fun j hj => (both_coe P.kerX T.kerX j hj).trans (both_coe P.refX T.refX j hj).symm)
    fun j hj => (both_coe P.kerY T.kerY j hj).trans (both_coe P.refY T.refY j hj).symm)

/-- The two losses of a pair. -/
theorem loss_eq (hp : Solid p) (ht : Solid t) : kernelLoss p t = refLoss p t := by
  obtain ⟨u, v, P⟩ := hp.has_corners
  obtain ⟨u', v', T⟩ := ht.has_corners
  rw [kernelLoss, refLoss, P.area_eq T, P.hull_eq T]

end Cert.Giou

end
-- ==== Proof.Precond.lean ====
/- What the precondition says of a row: both of its boxes are solid. -/
module

public import proofs.«01_k».proof.Proof.Pair
public import proofs.«01_k».proof.Proof.Gen.Pre_solid_boxes

@[expose] public section

noncomputable section

namespace Cert.Pre_solid_boxes.Rows

open Idealize.ShloMosaic
open Idealize.ShloMosaic.ValueIdx Cert.Giou Cert.Pre_solid_boxes Cert.Pre_solid_boxes.Gen

/-- Whether a value is finite. -/
def finiteBit (x : EReal) : BitVec 1 := Ideal.cmp .olt (max x (-x)) (word 0x7F800000#32)
/-- The test of a box. -/
def solidBit (x y w l a : EReal) : BitVec 1 :=
  IntOp.andi (IntOp.andi (IntOp.andi (IntOp.andi (IntOp.andi (finiteBit x) (finiteBit y)) (finiteBit w)) (finiteBit l)) (finiteBit a))
    (gt (w * l) (word 0x37A7C5AC#32))

theorem word_top : word 0x7F800000#32 = ⊤ := by simp [Ideal.ofBits, Ideal.ieee]

theorem finite_of_bit {x : EReal} (h : finiteBit x = 1#1) : ∃ r : ℝ, x = (r : EReal) := by
  have h : BitVec.ofBool (decide (max x (-x) < word 0x7F800000#32)) = 1#1 := h
  rw [word_top] at h
  have h : max x (-x) < ⊤ := by
    by_contra hn
    simp [hn] at h
  obtain ⟨h1, h2⟩ := max_lt_iff.1 h
  refine ⟨x.toReal, (EReal.coe_toReal h1.ne ?_).symm⟩
  rintro rfl
  exact absurd h2 (by simp)

theorem solid_of_bit {b : Box} (h : solidBit b.x b.y b.w b.l b.a = 1#1) : Solid b := by
  have ha : ∀ a b : BitVec 1, IntOp.andi a b = 1#1 ↔ a = 1#1 ∧ b = 1#1 := by decide
  obtain ⟨h, hg⟩ := (ha _ _).1 h
  obtain ⟨h, h5⟩ := (ha _ _).1 h
  obtain ⟨h, h4⟩ := (ha _ _).1 h
  obtain ⟨h, h3⟩ := (ha _ _).1 h
  obtain ⟨h1, h2⟩ := (ha _ _).1 h
  obtain ⟨x, hx⟩ := finite_of_bit h1
  obtain ⟨y, hy⟩ := finite_of_bit h2
  obtain ⟨w, hw⟩ := finite_of_bit h3
  obtain ⟨l, hl⟩ := finite_of_bit h4
  obtain ⟨a, ha⟩ := finite_of_bit h5
  refine ⟨x, y, w, l, a, hx, hy, hw, hl, ha, ?_⟩
  have hg : BitVec.ofBool (decide (word 0x37A7C5AC#32 < b.w * b.l)) = 1#1 := hg
  rw [hw, hl, word_two_tol, ← EReal.coe_mul] at hg
  by_contra hn
  have : ¬ ((2 * tol : ℝ) : EReal) < ((w * l : ℝ) : EReal) := by rwa [EReal.coe_lt_coe_iff]
  rw [decide_eq_false this] at hg
  exact absurd hg (by decide)

/-- Column `k` at row `n`. -/
abbrev col (A : FVec Ideal S131072x7 .f32) (k : ℕ) (h : S131072x7.Slices ![0, k] S131072x1) (n : Fin 131072) : EReal :=
  shapeCast S131072 (extractStridedSlice S131072x1 ![0, k] A h) shapeCasts_S131072x1_S131072 (ix1 n)

theorem fn_apply (X T : FVec Ideal S131072x7 .f32) (n : Fin 131072) : fn (F := Ideal) X T (ix1 n)
    = IntOp.andi
      (solidBit (col X 0 slices_S131072x7_S131072x1_0_0 n) (col X 1 slices_S131072x7_S131072x1_0_1 n) (col X 4 slices_S131072x7_S131072x1_0_4 n)
        (col X 5 slices_S131072x7_S131072x1_0_5 n) (col X 6 slices_S131072x7_S131072x1_0_6 n))
      (solidBit (col T 0 slices_S131072x7_S131072x1_0_0 n) (col T 1 slices_S131072x7_S131072x1_0_1 n) (col T 4 slices_S131072x7_S131072x1_0_4 n)
        (col T 5 slices_S131072x7_S131072x1_0_5 n) (col T 6 slices_S131072x7_S131072x1_0_6 n)) := rfl

open Cert.ReferenceIdeal.Rows in
theorem solid_rows {X T : FVec Ideal S131072x7 .f32} (h : fn (F := Ideal) X T = fun _ => 1#1) (n : Fin 131072) :
    Solid (boxAt X n) ∧ Solid (boxAt T n) := by
  have e := (fn_apply X T n).symm.trans (congrFun h (ix1 n))
  have ha : ∀ a b : BitVec 1, IntOp.andi a b = 1#1 ↔ a = 1#1 ∧ b = 1#1 := by decide
  have c : ∀ (A : FVec Ideal S131072x7 .f32) (k : Fin 7) (h : S131072x7.Slices ![0, k.val] S131072x1), col A k.val h n = A (ix2 n k) :=
    fun A k h => column7 A k h _ n
  have c0 : ∀ A : FVec Ideal S131072x7 .f32, col A 0 slices_S131072x7_S131072x1_0_0 n = A (ix2 n 0) := fun A => c A 0 _
  have c1 : ∀ A : FVec Ideal S131072x7 .f32, col A 1 slices_S131072x7_S131072x1_0_1 n = A (ix2 n 1) := fun A => c A 1 _
  have c4 : ∀ A : FVec Ideal S131072x7 .f32, col A 4 slices_S131072x7_S131072x1_0_4 n = A (ix2 n 4) := fun A => c A 4 _
  have c5 : ∀ A : FVec Ideal S131072x7 .f32, col A 5 slices_S131072x7_S131072x1_0_5 n = A (ix2 n 5) := fun A => c A 5 _
  have c6 : ∀ A : FVec Ideal S131072x7 .f32, col A 6 slices_S131072x7_S131072x1_0_6 n = A (ix2 n 6) := fun A => c A 6 _
  obtain ⟨e1, e2⟩ := (ha _ _).1 e
  refine ⟨solid_of_bit (Eq.trans ?_ e1), solid_of_bit (Eq.trans ?_ e2)⟩
  · rw [c0, c1, c4, c5, c6]; rfl
  · rw [c0, c1, c4, c5, c6]; rfl

end Cert.Pre_solid_boxes.Rows

end
-- ==== Proof.Stages.lean ====
/- The kernel's body as a composition of stages: the corners, the first three clips, the last clip's area with the
   heights, and the hull. Each stage is the chain of the body's own values, from those it takes to those that are
   taken from it. -/
module

public import proofs.«01_k».proof.Proof.Gen.KernelIdeal.Skeleton
public import proofs.«01_k».proof.Proof.Spec

@[expose] public section

noncomputable section

namespace Cert.KernelIdeal.Lanes

open Cert.KernelIdeal Cert.KernelIdeal.Gen Cert.Giou Idealize.ShloMosaic

/-- The first rectangle's corners. -/
structure quadPOut where
  v99 : FVec Ideal S32x128 .f32
  v101 : FVec Ideal S32x128 .f32
  v103 : FVec Ideal S32x128 .f32
  v105 : FVec Ideal S32x128 .f32
  v107 : FVec Ideal S32x128 .f32
  v109 : FVec Ideal S32x128 .f32
  v111 : FVec Ideal S32x128 .f32
  v113 : FVec Ideal S32x128 .f32
def quadP (v1 : FVec Ideal S32x128 .f32) (v3 : FVec Ideal S32x128 .f32) (v9 : FVec Ideal S32x128 .f32) (v11 : FVec Ideal S32x128 .f32) (v13 : FVec Ideal S32x128 .f32) : quadPOut :=
  let v31 : IVec S32x128 32 := k0_pay16 v13
  let v49 : FVec Ideal S32x128 .f32 := k0_pay19 v13
  let v63 : FVec Ideal S32x128 .f32 := k0_pay20 v13
  let v64 : IVec S32x128 32 := k0_pay21
  let v99 : FVec Ideal S32x128 .f32 := k0_pay29 v1 v9 v11 v31 v49 v63 v64
  let v101 : FVec Ideal S32x128 .f32 := k0_pay30 v1 v9 v11 v31 v49 v63 v64
  let v103 : FVec Ideal S32x128 .f32 := k0_pay31 v1 v9 v11 v31 v49 v63 v64
  let v105 : FVec Ideal S32x128 .f32 := k0_pay32 v1 v9 v11 v31 v49 v63 v64
  let v107 : FVec Ideal S32x128 .f32 := k0_pay33 v3 v9 v11 v31 v49 v63 v64
  let v109 : FVec Ideal S32x128 .f32 := k0_pay34 v3 v9 v11 v31 v49 v63 v64
  let v111 : FVec Ideal S32x128 .f32 := k0_pay35 v3 v9 v11 v31 v49 v63 v64
  let v97 : FVec Ideal S32x128 .f32 := k0_pay28 v11 v31 v49 v63 v64
  let v112 : FVec Ideal S32x128 .f32 := k0_pay36 v3 v9 v31 v49 v63 v64
  let v113 : FVec Ideal S32x128 .f32 := k0_pay37 v97 v112
  ⟨v99, v101, v103, v105, v107, v109, v111, v113⟩

/-- The second rectangle's angle: its quarter turns, the two polynomials. -/
structure angTOut where
  v117 : IVec S32x128 32
  v154 : FVec Ideal S32x128 .f32
  v155 : FVec Ideal S32x128 .f32
  v157 : IVec S32x128 32
def angT (v27 : FVec Ideal S32x128 .f32) : angTOut :=
  let v117 : IVec S32x128 32 := k0_pay38 v27
  let v154 : FVec Ideal S32x128 .f32 := k0_pay44 v27
  let v155 : FVec Ideal S32x128 .f32 := k0_pay45 v27
  let v157 : IVec S32x128 32 := k0_pay46 v27
  ⟨v117, v154, v155, v157⟩

/-- The second rectangle's corners. -/
structure quadTOut where
  v185 : FVec Ideal S32x128 .f32
  v187 : FVec Ideal S32x128 .f32
  v189 : FVec Ideal S32x128 .f32
  v191 : FVec Ideal S32x128 .f32
  v193 : FVec Ideal S32x128 .f32
  v195 : FVec Ideal S32x128 .f32
  v197 : FVec Ideal S32x128 .f32
  v199 : FVec Ideal S32x128 .f32
def quadT (v15 : FVec Ideal S32x128 .f32) (v17 : FVec Ideal S32x128 .f32) (v23 : FVec Ideal S32x128 .f32) (v25 : FVec Ideal S32x128 .f32) (v117 : IVec S32x128 32) (v154 : FVec Ideal S32x128 .f32) (v155 : FVec Ideal S32x128 .f32) (v157 : IVec S32x128 32) : quadTOut :=
  let v185 : FVec Ideal S32x128 .f32 := k0_pay53 v15 v23 v25 v117 v154 v155 v157 0#32
  let v187 : FVec Ideal S32x128 .f32 := k0_pay54 v15 v23 v25 v117 v154 v155 v157 0#32
  let v189 : FVec Ideal S32x128 .f32 := k0_pay55 v15 v23 v25 v117 v154 v155 v157 0#32
  let v191 : FVec Ideal S32x128 .f32 := k0_pay56 v15 v23 v25 v117 v154 v155 v157 0#32
  let v193 : FVec Ideal S32x128 .f32 := k0_pay57 v17 v23 v25 v117 v154 v155 v157 0#32
  let v195 : FVec Ideal S32x128 .f32 := k0_pay58 v17 v23 v25 v117 v154 v155 v157 0#32
  let v197 : FVec Ideal S32x128 .f32 := k0_pay59 v17 v23 v25 v117 v154 v155 v157 0#32
  let v199 : FVec Ideal S32x128 .f32 := k0_pay60 v17 v23 v25 v117 v154 v155 v157 0#32
  ⟨v185, v187, v189, v191, v193, v195, v197, v199⟩

/-- The first clip. -/
structure clipAOut where
  v330 : IVec S32x128 32
  v362 : FVec Ideal S32x128 .f32
  v363 : FVec Ideal S32x128 .f32
  v390 : FVec Ideal S32x128 .f32
  v391 : FVec Ideal S32x128 .f32
  v414 : FVec Ideal S32x128 .f32
  v415 : FVec Ideal S32x128 .f32
  v434 : FVec Ideal S32x128 .f32
  v435 : FVec Ideal S32x128 .f32
  v450 : FVec Ideal S32x128 .f32
  v451 : FVec Ideal S32x128 .f32
def clipA (v15 : FVec Ideal S32x128 .f32) (v17 : FVec Ideal S32x128 .f32) (v23 : FVec Ideal S32x128 .f32) (v25 : FVec Ideal S32x128 .f32) (v99 : FVec Ideal S32x128 .f32) (v101 : FVec Ideal S32x128 .f32) (v103 : FVec Ideal S32x128 .f32) (v105 : FVec Ideal S32x128 .f32) (v107 : FVec Ideal S32x128 .f32) (v109 : FVec Ideal S32x128 .f32) (v111 : FVec Ideal S32x128 .f32) (v113 : FVec Ideal S32x128 .f32) (v117 : IVec S32x128 32) (v154 : FVec Ideal S32x128 .f32) (v155 : FVec Ideal S32x128 .f32) (v157 : IVec S32x128 32) (v185 : FVec Ideal S32x128 .f32) (v193 : FVec Ideal S32x128 .f32) : clipAOut :=
  let v200 : FVec Ideal S32x128 .f32 := k0_pay61 v15 v23 v25 v117 v154 v155 v157 0#32
  let v201 : FVec Ideal S32x128 .f32 := k0_pay62 v17 v23 v25 v117 v154 v155 v157 0#32
  let v216 : FVec Ideal S32x128 .f32 := k0_pay66 v103 v111 v185 v193 v200 v201
  let v221 : FVec Ideal S32x128 .f32 := k0_pay67 v105 v113 v185 v193 v200 v201
  let v206 : FVec Ideal S32x128 .f32 := k0_pay63 v15 v17 v23 v25 v99 v107 v117 v154 v155 v157 0#32
  let v208 : FVec Ideal S32x128 .f32 := k0_pay64 v15 v17 v23 v25 v109 v117 v154 v155 v157 0#32
  let v249 : IVec S32x128 32 := k0_pay77 v101 v185 v201 v206 v208
  let v255 : IVec S32x128 32 := k0_pay80 v101 v185 v201 v208
  let v256 : IVec S32x128 32 := k0_pay81 v101 v103 v111 v185 v193 v200 v201 v208
  let v303 : IVec S32x128 32 := k0_pay98 v216 v221 v249 v255 v256
  let v305 : IVec S32x128 1 := k0_pay99 v221
  let v307 : IVec S32x128 1 := k0_pay100 v206
  let v330 : IVec S32x128 32 := k0_pay108 v303 v305 v307
  let v320 : FVec Ideal S32x128 .f32 := k0_pay104 v99 v105 v206 v221
  let v325 : IVec S32x128 32 := k0_pay106 v303 v305
  let v328 : IVec S32x128 32 := k0_pay107 v303 v305 v307
  let v239 : FVec Ideal S32x128 .f32 := k0_pay73 v99 v101 v185 v201 v206 v208
  let v244 : IVec S32x128 32 := k0_pay75 v206
  let v247 : IVec S32x128 32 := k0_pay76 v101 v185 v201 v206 v208
  let v211 : FVec Ideal S32x128 .f32 := k0_pay65 v101 v185 v201 v208
  let v257 : FVec Ideal S32x128 .f32 := k0_pay82 v101 v103 v111 v185 v193 v200 v201 v208
  let v258 : FVec Ideal S32x128 .f32 := k0_pay83 v101 v103 v111 v185 v193 v200 v201 v208
  let v266 : FVec Ideal S32x128 .f32 := k0_pay85 v101 v103 v211 v257 v258 (word 0x2B8CBCCC#32)
  let v251 : IVec S32x128 1 := k0_pay78 v101 v185 v201 v208
  let v271 : IVec S32x128 32 := k0_pay87 v249 v251
  let v254 : IVec S32x128 1 := k0_pay79 v101 v103 v111 v185 v193 v200 v201 v208
  let v274 : IVec S32x128 32 := k0_pay88 v249 v254 v255
  let v293 : FVec Ideal S32x128 .f32 := k0_pay94 v103 v105 v216 v221
  let v298 : IVec S32x128 32 := k0_pay96 v216 v249 v255 v256
  let v301 : IVec S32x128 32 := k0_pay97 v216 v221 v249 v255 v256
  let v354 : FVec Ideal S32x128 .f32 := k0_pay116 v99 v101 v103 v239 v244 v247 v266 v271 v274 v293 v298 v301
  let v362 : FVec Ideal S32x128 .f32 := k0_pay120 v105 v320 v325 v328 v354 0#32
  let v323 : FVec Ideal S32x128 .f32 := k0_pay105 v107 v113 v206 v221
  let v242 : FVec Ideal S32x128 .f32 := k0_pay74 v101 v107 v109 v185 v201 v206 v208
  let v269 : FVec Ideal S32x128 .f32 := k0_pay86 v109 v111 v211 v257 v258 (word 0x2B8CBCCC#32)
  let v296 : FVec Ideal S32x128 .f32 := k0_pay95 v111 v113 v216 v221
  let v355 : FVec Ideal S32x128 .f32 := k0_pay117 v107 v109 v111 v242 v244 v247 v269 v271 v274 v296 v298 v301
  let v363 : FVec Ideal S32x128 .f32 := k0_pay121 v113 v323 v325 v328 v355 0#32
  let v331 : FVec Ideal S32x128 .f32 := k0_pay109 (F := Ideal)
  let v390 : FVec Ideal S32x128 .f32 := k0_pay129 v101 v103 v105 v239 v247 v266 v271 v274 v293 v298 v301 v320 v325 v328 v331
  let v391 : FVec Ideal S32x128 .f32 := k0_pay130 v109 v111 v113 v242 v247 v269 v271 v274 v296 v298 v301 v323 v325 v328 v331
  let v402 : FVec Ideal S32x128 .f32 := k0_pay134 v101 v103 v266 v271 v274 v298 v331
  let v414 : FVec Ideal S32x128 .f32 := k0_pay139 v105 v293 v301 v320 v325 v328 v402 2#32
  let v403 : FVec Ideal S32x128 .f32 := k0_pay135 v109 v111 v269 v271 v274 v298 v331
  let v415 : FVec Ideal S32x128 .f32 := k0_pay140 v113 v296 v301 v323 v325 v328 v403 2#32
  let v434 : FVec Ideal S32x128 .f32 := k0_pay146 v103 v105 v266 v274 v293 v298 v301 v320 v325 v328 v331
  let v435 : FVec Ideal S32x128 .f32 := k0_pay147 v111 v113 v269 v274 v296 v298 v301 v323 v325 v328 v331
  let v450 : FVec Ideal S32x128 .f32 := k0_pay152 v103 v105 v293 v298 v301 v320 v325 v328 v331
  let v451 : FVec Ideal S32x128 .f32 := k0_pay153 v111 v113 v296 v298 v301 v323 v325 v328 v331
  ⟨v330, v362, v363, v390, v391, v414, v415, v434, v435, v450, v451⟩

/-- The second clip. -/
structure clipBOut where
  v646 : IVec S32x128 32
  v686 : FVec Ideal S32x128 .f32
  v687 : FVec Ideal S32x128 .f32
  v722 : FVec Ideal S32x128 .f32
  v723 : FVec Ideal S32x128 .f32
  v754 : FVec Ideal S32x128 .f32
  v755 : FVec Ideal S32x128 .f32
  v782 : FVec Ideal S32x128 .f32
  v783 : FVec Ideal S32x128 .f32
  v806 : FVec Ideal S32x128 .f32
  v807 : FVec Ideal S32x128 .f32
  v826 : FVec Ideal S32x128 .f32
  v827 : FVec Ideal S32x128 .f32
  v842 : FVec Ideal S32x128 .f32
  v843 : FVec Ideal S32x128 .f32
def clipB (v187 : FVec Ideal S32x128 .f32) (v189 : FVec Ideal S32x128 .f32) (v195 : FVec Ideal S32x128 .f32) (v197 : FVec Ideal S32x128 .f32) (v330 : IVec S32x128 32) (v362 : FVec Ideal S32x128 .f32) (v363 : FVec Ideal S32x128 .f32) (v390 : FVec Ideal S32x128 .f32) (v391 : FVec Ideal S32x128 .f32) (v414 : FVec Ideal S32x128 .f32) (v415 : FVec Ideal S32x128 .f32) (v434 : FVec Ideal S32x128 .f32) (v435 : FVec Ideal S32x128 .f32) (v450 : FVec Ideal S32x128 .f32) (v451 : FVec Ideal S32x128 .f32) : clipBOut :=
  let v452 : FVec Ideal S32x128 .f32 := k0_pay154 v187 v189
  let v458 : FVec Ideal S32x128 .f32 := k0_pay156 v187 v195 v197 v362 v363 v452
  let v478 : FVec Ideal S32x128 .f32 := k0_pay160 v187 v195 v197 v450 v451 v452
  let v488 : IVec S32x128 1 := k0_pay165 v330
  let v468 : FVec Ideal S32x128 .f32 := k0_pay158 v187 v195 v197 v414 v415 v452
  let v484 : IVec S32x128 1 := k0_pay163 v330
  let v497 : FVec Ideal S32x128 .f32 := k0_pay174 v187 v195 v197 v330 v362 v363 v434 v435 v452
  let v480 : IVec S32x128 1 := k0_pay161 v330
  let v491 : FVec Ideal S32x128 .f32 := k0_pay168 v187 v195 v197 v330 v362 v363 v390 v391 v452
  let v501 : IVec S32x128 32 := k0_pay178
  let v503 : IVec S32x128 1 := k0_pay179 v187 v195 v197 v362 v363 v452
  let v504 : FVec Ideal S32x128 .f32 := k0_pay180 (F := Ideal)
  let v530 : IVec S32x128 32 := k0_pay189 v480 v491 v501 v503 v504
  let v463 : FVec Ideal S32x128 .f32 := k0_pay157 v187 v195 v197 v390 v391 v452
  let v482 : IVec S32x128 1 := k0_pay162 v330
  let v538 : IVec S32x128 32 := k0_pay193 v463 v482
  let v494 : FVec Ideal S32x128 .f32 := k0_pay171 v187 v195 v197 v330 v362 v363 v414 v415 v452
  let v539 : IVec S32x128 32 := k0_pay194 v463 v482 v494
  let v588 : IVec S32x128 32 := k0_pay211 v468 v484 v497 v530 v538 v539
  let v473 : FVec Ideal S32x128 .f32 := k0_pay159 v187 v195 v197 v434 v435 v452
  let v486 : IVec S32x128 1 := k0_pay164 v330
  let v596 : IVec S32x128 32 := k0_pay215 v473 v486
  let v500 : FVec Ideal S32x128 .f32 := k0_pay177 v187 v195 v197 v330 v362 v363 v450 v451 v452
  let v597 : IVec S32x128 32 := k0_pay216 v473 v486 v500
  let v646 : IVec S32x128 32 := k0_pay232 v458 v478 v488 v588 v596 v597
  let v489 : FVec Ideal S32x128 .f32 := k0_pay166 v330 v362 v390
  let v520 : FVec Ideal S32x128 .f32 := k0_pay185 v362 v458 v489 v491
  let v492 : FVec Ideal S32x128 .f32 := k0_pay169 v330 v362 v414
  let v549 : FVec Ideal S32x128 .f32 := k0_pay196 v390 v463 v492 v494
  let v554 : IVec S32x128 32 := k0_pay198 v463 v480 v482 v491 v501 v503 v504
  let v537 : IVec S32x128 1 := k0_pay192 v463 v482 v494
  let v555 : IVec S32x128 32 := k0_pay199 v463 v480 v482 v491 v501 v503 v504
  let v557 : IVec S32x128 32 := k0_pay200 v537 v555
  let v495 : FVec Ideal S32x128 .f32 := k0_pay172 v330 v362 v434
  let v578 : FVec Ideal S32x128 .f32 := k0_pay207 v414 v468 v495 v497
  let v583 : IVec S32x128 32 := k0_pay209 v468 v484 v530 v538 v539
  let v586 : IVec S32x128 32 := k0_pay210 v468 v484 v497 v530 v538 v539
  let v498 : FVec Ideal S32x128 .f32 := k0_pay175 v330 v362 v450
  let v604 : FVec Ideal S32x128 .f32 := k0_pay217 v473 v500
  let v607 : FVec Ideal S32x128 .f32 := k0_pay218 v434 v498 v604
  let v593 : IVec S32x128 1 := k0_pay213 v473 v486
  let v612 : IVec S32x128 32 := k0_pay220 v588 v593
  let v595 : IVec S32x128 1 := k0_pay214 v473 v486 v500
  let v615 : IVec S32x128 32 := k0_pay221 v588 v595 v596
  let v636 : FVec Ideal S32x128 .f32 := k0_pay228 v362 v450 v458 v478
  let v641 : IVec S32x128 32 := k0_pay230 v478 v488 v588 v596 v597
  let v644 : IVec S32x128 32 := k0_pay231 v458 v478 v488 v588 v596 v597
  let v525 : IVec S32x128 32 := k0_pay187 v480 v501 v503
  let v650 : FVec Ideal S32x128 .f32 := k0_pay235 v362 v525
  let v528 : IVec S32x128 32 := k0_pay188 v480 v491 v501 v503 v504
  let v653 : IVec S32x128 1 := k0_pay237 v528
  let v686 : FVec Ideal S32x128 .f32 := k0_pay246 v390 v414 v434 v450 v520 v549 v554 v557 v578 v583 v586 v607 v612 v615 v636 v641 v644 v650 v653
  let v490 : FVec Ideal S32x128 .f32 := k0_pay167 v330 v363 v391
  let v523 : FVec Ideal S32x128 .f32 := k0_pay186 v363 v458 v490 v491
  let v493 : FVec Ideal S32x128 .f32 := k0_pay170 v330 v363 v415
  let v552 : FVec Ideal S32x128 .f32 := k0_pay197 v391 v463 v493 v494
  let v496 : FVec Ideal S32x128 .f32 := k0_pay173 v330 v363 v435
  let v581 : FVec Ideal S32x128 .f32 := k0_pay208 v415 v468 v496 v497
  let v499 : FVec Ideal S32x128 .f32 := k0_pay176 v330 v363 v451
  let v610 : FVec Ideal S32x128 .f32 := k0_pay219 v435 v499 v604
  let v639 : FVec Ideal S32x128 .f32 := k0_pay229 v363 v451 v458 v478
  let v651 : FVec Ideal S32x128 .f32 := k0_pay236 v363 v525
  let v687 : FVec Ideal S32x128 .f32 := k0_pay247 v391 v415 v435 v451 v523 v552 v554 v557 v581 v583 v586 v610 v612 v615 v639 v641 v644 v651 v653
  let v647 : FVec Ideal S32x128 .f32 := k0_pay233 (F := Ideal)
  let v698 : FVec Ideal S32x128 .f32 := k0_pay251 v390 v520 v528 v549 v554 v557 v647
  let v701 : IVec S32x128 1 := k0_pay253 v583
  let v722 : FVec Ideal S32x128 .f32 := k0_pay259 v414 v434 v450 v578 v586 v607 v612 v615 v636 v641 v644 v698 v701
  let v699 : FVec Ideal S32x128 .f32 := k0_pay252 v391 v523 v528 v552 v554 v557 v647
  let v723 : FVec Ideal S32x128 .f32 := k0_pay260 v415 v435 v451 v581 v586 v610 v612 v615 v639 v641 v644 v699 v701
  let v746 : FVec Ideal S32x128 .f32 := k0_pay267 v390 v414 v434 v549 v554 v557 v578 v583 v586 v607 v612 v615 v647
  let v749 : IVec S32x128 1 := k0_pay269 v641
  let v754 : FVec Ideal S32x128 .f32 := k0_pay271 v450 v636 v644 v746 v749
  let v747 : FVec Ideal S32x128 .f32 := k0_pay268 v391 v415 v435 v552 v554 v557 v581 v583 v586 v610 v612 v615 v647
  let v755 : FVec Ideal S32x128 .f32 := k0_pay272 v451 v639 v644 v747 v749
  let v782 : FVec Ideal S32x128 .f32 := k0_pay280 v414 v434 v450 v549 v557 v578 v583 v586 v607 v612 v615 v636 v641 v644 v647
  let v783 : FVec Ideal S32x128 .f32 := k0_pay281 v415 v435 v451 v552 v557 v581 v583 v586 v610 v612 v615 v639 v641 v644 v647
  let v794 : FVec Ideal S32x128 .f32 := k0_pay285 v414 v434 v578 v583 v586 v612 v647
  let v797 : IVec S32x128 1 := k0_pay287 v615
  let v806 : FVec Ideal S32x128 .f32 := k0_pay290 v450 v607 v636 v641 v644 v794 v797
  let v795 : FVec Ideal S32x128 .f32 := k0_pay286 v415 v435 v581 v583 v586 v612 v647
  let v807 : FVec Ideal S32x128 .f32 := k0_pay291 v451 v610 v639 v641 v644 v795 v797
  let v826 : FVec Ideal S32x128 .f32 := k0_pay297 v434 v450 v578 v586 v607 v612 v615 v636 v641 v644 v647
  let v827 : FVec Ideal S32x128 .f32 := k0_pay298 v435 v451 v581 v586 v610 v612 v615 v639 v641 v644 v647
  let v842 : FVec Ideal S32x128 .f32 := k0_pay303 v434 v450 v607 v612 v615 v636 v641 v644 v647
  let v843 : FVec Ideal S32x128 .f32 := k0_pay304 v435 v451 v610 v612 v615 v639 v641 v644 v647
  ⟨v646, v686, v687, v722, v723, v754, v755, v782, v783, v806, v807, v826, v827, v842, v843⟩

/-- The third clip. -/
structure clipCOut where
  v1116 : IVec S32x128 32
  v1172 : FVec Ideal S32x128 .f32
  v1173 : FVec Ideal S32x128 .f32
  v1224 : FVec Ideal S32x128 .f32
  v1225 : FVec Ideal S32x128 .f32
  v1272 : FVec Ideal S32x128 .f32
  v1273 : FVec Ideal S32x128 .f32
  v1316 : FVec Ideal S32x128 .f32
  v1317 : FVec Ideal S32x128 .f32
  v1356 : FVec Ideal S32x128 .f32
  v1357 : FVec Ideal S32x128 .f32
  v1392 : FVec Ideal S32x128 .f32
  v1393 : FVec Ideal S32x128 .f32
  v1424 : FVec Ideal S32x128 .f32
  v1425 : FVec Ideal S32x128 .f32
  v1051 : FVec Ideal S32x128 .f32
  v1080 : FVec Ideal S32x128 .f32
  v1082 : IVec S32x128 32
  v1085 : IVec S32x128 32
  v1109 : FVec Ideal S32x128 .f32
  v1111 : IVec S32x128 32
  v1114 : IVec S32x128 32
  v1433 : FVec Ideal S32x128 .f32
  v1435 : IVec S32x128 1
  v1048 : FVec Ideal S32x128 .f32
  v1077 : FVec Ideal S32x128 .f32
  v1106 : FVec Ideal S32x128 .f32
  v1432 : FVec Ideal S32x128 .f32
def clipC (v189 : FVec Ideal S32x128 .f32) (v191 : FVec Ideal S32x128 .f32) (v197 : FVec Ideal S32x128 .f32) (v199 : FVec Ideal S32x128 .f32) (v646 : IVec S32x128 32) (v686 : FVec Ideal S32x128 .f32) (v687 : FVec Ideal S32x128 .f32) (v722 : FVec Ideal S32x128 .f32) (v723 : FVec Ideal S32x128 .f32) (v754 : FVec Ideal S32x128 .f32) (v755 : FVec Ideal S32x128 .f32) (v782 : FVec Ideal S32x128 .f32) (v783 : FVec Ideal S32x128 .f32) (v806 : FVec Ideal S32x128 .f32) (v807 : FVec Ideal S32x128 .f32) (v826 : FVec Ideal S32x128 .f32) (v827 : FVec Ideal S32x128 .f32) (v842 : FVec Ideal S32x128 .f32) (v843 : FVec Ideal S32x128 .f32) : clipCOut :=
  let v844 : FVec Ideal S32x128 .f32 := k0_pay305 v189 v191
  let v845 : FVec Ideal S32x128 .f32 := k0_pay306 v197 v199
  let v875 : FVec Ideal S32x128 .f32 := k0_pay313 v189 v197 v826 v827 v844 v845
  let v892 : IVec S32x128 1 := k0_pay320 v646
  let v846 : FVec Ideal S32x128 .f32 := k0_pay307 v197 v687
  let v850 : FVec Ideal S32x128 .f32 := k0_pay308 v189 v686 v844 v845 v846
  let v880 : FVec Ideal S32x128 .f32 := k0_pay314 v189 v197 v842 v843 v844 v845
  let v894 : IVec S32x128 1 := k0_pay321 v646
  let v912 : FVec Ideal S32x128 .f32 := k0_pay339 v850 v880 v894
  let v865 : FVec Ideal S32x128 .f32 := k0_pay311 v189 v197 v782 v783 v844 v845
  let v888 : IVec S32x128 1 := k0_pay318 v646
  let v870 : FVec Ideal S32x128 .f32 := k0_pay312 v189 v197 v806 v807 v844 v845
  let v890 : IVec S32x128 1 := k0_pay319 v646
  let v906 : FVec Ideal S32x128 .f32 := k0_pay333 v850 v870 v890
  let v860 : FVec Ideal S32x128 .f32 := k0_pay310 v189 v197 v754 v755 v844 v845
  let v886 : IVec S32x128 1 := k0_pay317 v646
  let v903 : FVec Ideal S32x128 .f32 := k0_pay330 v850 v865 v888
  let v882 : IVec S32x128 1 := k0_pay315 v646
  let v897 : FVec Ideal S32x128 .f32 := k0_pay324 v189 v197 v646 v686 v722 v723 v844 v845 v846
  let v942 : IVec S32x128 32 := k0_pay350 v850 v882 v897
  let v855 : FVec Ideal S32x128 .f32 := k0_pay309 v189 v197 v722 v723 v844 v845
  let v884 : IVec S32x128 1 := k0_pay316 v646
  let v949 : IVec S32x128 1 := k0_pay353 v850 v855 v860 v884 v886
  let v950 : IVec S32x128 32 := k0_pay354 v855 v884
  let v1000 : IVec S32x128 32 := k0_pay370 v860 v886 v903 v942 v949 v950
  let v1029 : IVec S32x128 32 := k0_pay380 v865 v888 v906 v1000
  let v1037 : IVec S32x128 32 := k0_pay384 v870 v890
  let v909 : FVec Ideal S32x128 .f32 := k0_pay336 v850 v875 v892
  let v1038 : IVec S32x128 32 := k0_pay385 v870 v890 v909
  let v1087 : IVec S32x128 32 := k0_pay402 v875 v892 v912 v1029 v1037 v1038
  let v1095 : IVec S32x128 32 := k0_pay406 v880 v894
  let v1096 : IVec S32x128 32 := k0_pay407 v850 v880 v894
  let v1116 : IVec S32x128 32 := k0_pay416 v1087 v1095 v1096
  let v904 : FVec Ideal S32x128 .f32 := k0_pay331 v686 v806 v890
  let v1019 : FVec Ideal S32x128 .f32 := k0_pay376 v782 v865 v904 v906
  let v907 : FVec Ideal S32x128 .f32 := k0_pay334 v686 v826 v892
  let v1048 : FVec Ideal S32x128 .f32 := k0_pay387 v806 v870 v907 v909
  let v1034 : IVec S32x128 1 := k0_pay382 v870 v890
  let v1053 : IVec S32x128 32 := k0_pay390 v1029 v1034
  let v1036 : IVec S32x128 1 := k0_pay383 v870 v890 v909
  let v1056 : IVec S32x128 32 := k0_pay391 v1029 v1036 v1037
  let v910 : FVec Ideal S32x128 .f32 := k0_pay337 v686 v842 v894
  let v1077 : FVec Ideal S32x128 .f32 := k0_pay398 v826 v875 v910 v912
  let v1082 : IVec S32x128 32 := k0_pay400 v875 v892 v1029 v1037 v1038
  let v1085 : IVec S32x128 32 := k0_pay401 v875 v892 v912 v1029 v1037 v1038
  let v1097 : FVec Ideal S32x128 .f32 := k0_pay408 v850 v880
  let v1098 : FVec Ideal S32x128 .f32 := k0_pay409 v850 v880
  let v1099 : FVec Ideal S32x128 .f32 := k0_pay410 (F := Ideal)
  let v1106 : FVec Ideal S32x128 .f32 := k0_pay412 v686 v842 v880 v1097 v1098 v1099
  let v1092 : IVec S32x128 1 := k0_pay404 v880 v894
  let v1111 : IVec S32x128 32 := k0_pay414 v1087 v1092
  let v1094 : IVec S32x128 1 := k0_pay405 v850 v880 v894
  let v1114 : IVec S32x128 32 := k0_pay415 v1087 v1094 v1095
  let v895 : FVec Ideal S32x128 .f32 := k0_pay322 v646 v686 v722
  let v932 : FVec Ideal S32x128 .f32 := k0_pay346 v686 v850 v895 v897
  let v937 : IVec S32x128 32 := k0_pay348 v850 v882
  let v940 : IVec S32x128 32 := k0_pay349 v850 v882 v897
  let v898 : FVec Ideal S32x128 .f32 := k0_pay325 v646 v686 v754
  let v900 : FVec Ideal S32x128 .f32 := k0_pay327 v850 v860 v886
  let v961 : FVec Ideal S32x128 .f32 := k0_pay356 v722 v855 v898 v900
  let v947 : IVec S32x128 1 := k0_pay352 v855 v884
  let v966 : IVec S32x128 32 := k0_pay358 v942 v947
  let v969 : IVec S32x128 32 := k0_pay359 v942 v949 v950
  let v901 : FVec Ideal S32x128 .f32 := k0_pay328 v686 v782 v888
  let v990 : FVec Ideal S32x128 .f32 := k0_pay366 v754 v860 v901 v903
  let v995 : IVec S32x128 32 := k0_pay368 v860 v886 v942 v949 v950
  let v998 : IVec S32x128 32 := k0_pay369 v860 v886 v903 v942 v949 v950
  let v1024 : IVec S32x128 32 := k0_pay378 v865 v888 v1000
  let v1144 : FVec Ideal S32x128 .f32 := k0_pay425 v686 v722 v754 v782 v932 v937 v940 v961 v966 v969 v990 v995 v998 v1024
  let v1027 : IVec S32x128 32 := k0_pay379 v865 v888 v906 v1000
  let v1147 : IVec S32x128 1 := k0_pay427 v1027
  let v1172 : FVec Ideal S32x128 .f32 := k0_pay434 v806 v826 v842 v1019 v1048 v1053 v1056 v1077 v1082 v1085 v1106 v1111 v1114 v1144 v1147
  let v905 : FVec Ideal S32x128 .f32 := k0_pay332 v687 v807 v890
  let v1022 : FVec Ideal S32x128 .f32 := k0_pay377 v783 v865 v905 v906
  let v908 : FVec Ideal S32x128 .f32 := k0_pay335 v687 v827 v892
  let v1050 : FVec Ideal S32x128 .f32 := k0_pay388 v807 v870 v908 v909
  let v1051 : FVec Ideal S32x128 .f32 := k0_pay389 v807 v1050
  let v911 : FVec Ideal S32x128 .f32 := k0_pay338 v687 v843 v894
  let v1080 : FVec Ideal S32x128 .f32 := k0_pay399 v827 v875 v911 v912
  let v1109 : FVec Ideal S32x128 .f32 := k0_pay413 v687 v843 v880 v1097 v1098 v1099
  let v896 : FVec Ideal S32x128 .f32 := k0_pay323 v646 v687 v723
  let v935 : FVec Ideal S32x128 .f32 := k0_pay347 v687 v850 v896 v897
  let v899 : FVec Ideal S32x128 .f32 := k0_pay326 v646 v687 v755
  let v964 : FVec Ideal S32x128 .f32 := k0_pay357 v723 v855 v899 v900
  let v902 : FVec Ideal S32x128 .f32 := k0_pay329 v687 v783 v888
  let v993 : FVec Ideal S32x128 .f32 := k0_pay367 v755 v860 v902 v903
  let v1145 : FVec Ideal S32x128 .f32 := k0_pay426 v687 v723 v755 v783 v935 v937 v940 v964 v966 v969 v993 v995 v998 v1024
  let v1173 : FVec Ideal S32x128 .f32 := k0_pay435 v807 v827 v843 v1022 v1051 v1053 v1056 v1080 v1082 v1085 v1109 v1111 v1114 v1145 v1147
  let v1117 : FVec Ideal S32x128 .f32 := k0_pay417 (F := Ideal)
  let v1192 : FVec Ideal S32x128 .f32 := k0_pay441 v722 v754 v932 v940 v961 v966 v969 v990 v995 v998 v1117
  let v1195 : IVec S32x128 1 := k0_pay443 v1024
  let v1224 : FVec Ideal S32x128 .f32 := k0_pay451 v782 v806 v826 v842 v1019 v1027 v1048 v1053 v1056 v1077 v1082 v1085 v1106 v1111 v1114 v1192 v1195
  let v1193 : FVec Ideal S32x128 .f32 := k0_pay442 v723 v755 v935 v940 v964 v966 v969 v993 v995 v998 v1117
  let v1225 : FVec Ideal S32x128 .f32 := k0_pay452 v783 v807 v827 v843 v1022 v1027 v1051 v1053 v1056 v1080 v1082 v1085 v1109 v1111 v1114 v1193 v1195
  let v1240 : FVec Ideal S32x128 .f32 := k0_pay457 v722 v754 v961 v966 v969 v990 v995 v998 v1117
  let v1243 : IVec S32x128 1 := k0_pay459 v1024
  let v1272 : FVec Ideal S32x128 .f32 := k0_pay467 v782 v806 v826 v842 v1019 v1027 v1048 v1053 v1056 v1077 v1082 v1085 v1106 v1111 v1114 v1240 v1243
  let v1241 : FVec Ideal S32x128 .f32 := k0_pay458 v723 v755 v964 v966 v969 v993 v995 v998 v1117
  let v1273 : FVec Ideal S32x128 .f32 := k0_pay468 v783 v807 v827 v843 v1022 v1027 v1051 v1053 v1056 v1080 v1082 v1085 v1109 v1111 v1114 v1241 v1243
  let v1288 : FVec Ideal S32x128 .f32 := k0_pay473 v754 v782 v961 v969 v990 v995 v998 v1024 v1117
  let v1291 : IVec S32x128 1 := k0_pay475 v1027
  let v1316 : FVec Ideal S32x128 .f32 := k0_pay482 v806 v826 v842 v1019 v1048 v1053 v1056 v1077 v1082 v1085 v1106 v1111 v1114 v1288 v1291
  let v1289 : FVec Ideal S32x128 .f32 := k0_pay474 v755 v783 v964 v969 v993 v995 v998 v1024 v1117
  let v1317 : FVec Ideal S32x128 .f32 := k0_pay483 v807 v827 v843 v1022 v1051 v1053 v1056 v1080 v1082 v1085 v1109 v1111 v1114 v1289 v1291
  let v1336 : FVec Ideal S32x128 .f32 := k0_pay489 v754 v782 v806 v990 v995 v998 v1019 v1024 v1027 v1053 v1117
  let v1339 : IVec S32x128 1 := k0_pay491 v1056
  let v1356 : FVec Ideal S32x128 .f32 := k0_pay496 v826 v842 v1048 v1077 v1082 v1085 v1106 v1111 v1114 v1336 v1339
  let v1337 : FVec Ideal S32x128 .f32 := k0_pay490 v755 v783 v807 v993 v995 v998 v1022 v1024 v1027 v1053 v1117
  let v1357 : FVec Ideal S32x128 .f32 := k0_pay497 v827 v843 v1051 v1080 v1082 v1085 v1109 v1111 v1114 v1337 v1339
  let v1384 : FVec Ideal S32x128 .f32 := k0_pay505 v782 v806 v826 v990 v998 v1019 v1024 v1027 v1048 v1053 v1056 v1077 v1082 v1085 v1117
  let v1387 : IVec S32x128 1 := k0_pay507 v1111
  let v1392 : FVec Ideal S32x128 .f32 := k0_pay509 v842 v1106 v1114 v1384 v1387
  let v1385 : FVec Ideal S32x128 .f32 := k0_pay506 v783 v807 v827 v993 v998 v1022 v1024 v1027 v1051 v1053 v1056 v1080 v1082 v1085 v1117
  let v1393 : FVec Ideal S32x128 .f32 := k0_pay510 v843 v1109 v1114 v1385 v1387
  let v1424 : FVec Ideal S32x128 .f32 := k0_pay519 v782 v806 v826 v842 v1019 v1024 v1027 v1048 v1053 v1056 v1077 v1082 v1085 v1106 v1111 v1114 v1117
  let v1425 : FVec Ideal S32x128 .f32 := k0_pay520 v783 v807 v827 v843 v1022 v1024 v1027 v1051 v1053 v1056 v1080 v1082 v1085 v1109 v1111 v1114 v1117
  let v1433 : FVec Ideal S32x128 .f32 := k0_pay524 v807 v1022 v1027 v1053 v1117
  let v1435 : IVec S32x128 1 := k0_pay525 v1056
  let v1432 : FVec Ideal S32x128 .f32 := k0_pay523 v806 v1019 v1027 v1053 v1117
  ⟨v1116, v1172, v1173, v1224, v1225, v1272, v1273, v1316, v1317, v1356, v1357, v1392, v1393, v1424, v1425, v1051, v1080, v1082, v1085, v1109, v1111, v1114, v1433, v1435, v1048, v1077, v1106, v1432⟩

/-- The last clip's area and the first of the two quotients. -/
structure heightsOut where
  v1986 : FVec Ideal S32x128 .f32
  v1989 : FVec Ideal S32x128 .f32
  v1992 : FVec Ideal S32x128 .f32
  v1995 : FVec Ideal S32x128 .f32
  v2007 : FVec Ideal S32x128 .f32
  v2010 : FVec Ideal S32x128 .f32
def heights (v5 : FVec Ideal S32x128 .f32) (v7 : FVec Ideal S32x128 .f32) (v9 : FVec Ideal S32x128 .f32) (v11 : FVec Ideal S32x128 .f32) (v19 : FVec Ideal S32x128 .f32) (v21 : FVec Ideal S32x128 .f32) (v23 : FVec Ideal S32x128 .f32) (v25 : FVec Ideal S32x128 .f32) (v185 : FVec Ideal S32x128 .f32) (v191 : FVec Ideal S32x128 .f32) (v193 : FVec Ideal S32x128 .f32) (v199 : FVec Ideal S32x128 .f32) (v826 : FVec Ideal S32x128 .f32) (v827 : FVec Ideal S32x128 .f32) (v842 : FVec Ideal S32x128 .f32) (v843 : FVec Ideal S32x128 .f32) (v1048 : FVec Ideal S32x128 .f32) (v1051 : FVec Ideal S32x128 .f32) (v1077 : FVec Ideal S32x128 .f32) (v1080 : FVec Ideal S32x128 .f32) (v1082 : IVec S32x128 32) (v1085 : IVec S32x128 32) (v1106 : FVec Ideal S32x128 .f32) (v1109 : FVec Ideal S32x128 .f32) (v1111 : IVec S32x128 32) (v1114 : IVec S32x128 32) (v1116 : IVec S32x128 32) (v1172 : FVec Ideal S32x128 .f32) (v1173 : FVec Ideal S32x128 .f32) (v1224 : FVec Ideal S32x128 .f32) (v1225 : FVec Ideal S32x128 .f32) (v1272 : FVec Ideal S32x128 .f32) (v1273 : FVec Ideal S32x128 .f32) (v1316 : FVec Ideal S32x128 .f32) (v1317 : FVec Ideal S32x128 .f32) (v1356 : FVec Ideal S32x128 .f32) (v1357 : FVec Ideal S32x128 .f32) (v1392 : FVec Ideal S32x128 .f32) (v1393 : FVec Ideal S32x128 .f32) (v1424 : FVec Ideal S32x128 .f32) (v1425 : FVec Ideal S32x128 .f32) (v1432 : FVec Ideal S32x128 .f32) (v1433 : FVec Ideal S32x128 .f32) (v1435 : IVec S32x128 1) : heightsOut :=
  let v1986 : FVec Ideal S32x128 .f32 := k0_pay716 v5 v7
  let v1989 : FVec Ideal S32x128 .f32 := k0_pay717 v5 v7
  let v1992 : FVec Ideal S32x128 .f32 := k0_pay718 v19 v21
  let v1995 : FVec Ideal S32x128 .f32 := k0_pay719 v19 v21
  let v1497 : IVec S32x128 1 := k0_pay543 v1116
  let v1538 : IVec S32x128 32 := k0_pay576
  let v1460 : FVec Ideal S32x128 .f32 := k0_pay534 v185 v191 v193 v199 v1172 v1173
  let v1540 : IVec S32x128 1 := k0_pay577 v1460
  let v1557 : IVec S32x128 1 := k0_pay582 v1497 v1538 v1540
  let v1514 : FVec Ideal S32x128 .f32 := k0_pay552 v1116 v1172 v1224
  let v1465 : FVec Ideal S32x128 .f32 := k0_pay535 v185 v191 v193 v199 v1224 v1225
  let v1516 : FVec Ideal S32x128 .f32 := k0_pay554 v1116 v1460 v1465
  let v1560 : FVec Ideal S32x128 .f32 := k0_pay583 v1172 v1460 v1514 v1516
  let v1515 : FVec Ideal S32x128 .f32 := k0_pay553 v1116 v1173 v1225
  let v1563 : FVec Ideal S32x128 .f32 := k0_pay584 v1173 v1460 v1515 v1516
  let v1567 : IVec S32x128 1 := k0_pay585 v1497 v1516 v1538 v1540
  let v1452 : FVec Ideal S32x128 .f32 := k0_pay530 v826 v842 v1048 v1077 v1082 v1085 v1106 v1111 v1114 v1432 v1435
  let v1454 : FVec Ideal S32x128 .f32 := k0_pay532 v185 v191
  let v1455 : FVec Ideal S32x128 .f32 := k0_pay533 v193 v199
  let v1491 : FVec Ideal S32x128 .f32 := k0_pay541 v199 v827 v843 v1051 v1080 v1082 v1085 v1109 v1111 v1114 v1433 v1435
  let v1495 : FVec Ideal S32x128 .f32 := k0_pay542 v191 v1452 v1454 v1455 v1491
  let v1535 : FVec Ideal S32x128 .f32 := k0_pay573 v1116 v1172 v1452
  let v1537 : FVec Ideal S32x128 .f32 := k0_pay575 v191 v1116 v1452 v1454 v1455 v1460 v1491
  let v1777 : FVec Ideal S32x128 .f32 := k0_pay659 v1452 v1495 v1535 v1537
  let v1453 : FVec Ideal S32x128 .f32 := k0_pay531 v827 v843 v1051 v1080 v1082 v1085 v1109 v1111 v1114 v1433 v1435
  let v1536 : FVec Ideal S32x128 .f32 := k0_pay574 v1116 v1173 v1453
  let v1780 : FVec Ideal S32x128 .f32 := k0_pay660 v1453 v1495 v1536 v1537
  let v1511 : IVec S32x128 1 := k0_pay550 v1116
  let v1485 : FVec Ideal S32x128 .f32 := k0_pay539 v185 v191 v193 v199 v1392 v1393
  let v1507 : IVec S32x128 1 := k0_pay548 v1116
  let v1490 : FVec Ideal S32x128 .f32 := k0_pay540 v185 v191 v193 v199 v1424 v1425
  let v1531 : FVec Ideal S32x128 .f32 := k0_pay569 v1116 v1460 v1490
  let v1470 : FVec Ideal S32x128 .f32 := k0_pay536 v185 v191 v193 v199 v1272 v1273
  let v1501 : IVec S32x128 1 := k0_pay545 v1116
  let v1475 : FVec Ideal S32x128 .f32 := k0_pay537 v185 v191 v193 v199 v1316 v1317
  let v1522 : FVec Ideal S32x128 .f32 := k0_pay560 v1116 v1460 v1475
  let v1569 : IVec S32x128 32 := k0_pay586 v1497 v1516 v1538 v1540
  let v1499 : IVec S32x128 1 := k0_pay544 v1116
  let v1577 : IVec S32x128 32 := k0_pay590 v1465 v1499
  let v1519 : FVec Ideal S32x128 .f32 := k0_pay557 v1116 v1460 v1470
  let v1578 : IVec S32x128 32 := k0_pay591 v1465 v1499 v1519
  let v1631 : IVec S32x128 32 := k0_pay608 v1470 v1501 v1522 v1569 v1577 v1578
  let v1503 : IVec S32x128 1 := k0_pay546 v1116
  let v1639 : IVec S32x128 32 := k0_pay612 v1475 v1503
  let v1480 : FVec Ideal S32x128 .f32 := k0_pay538 v185 v191 v193 v199 v1356 v1357
  let v1525 : FVec Ideal S32x128 .f32 := k0_pay563 v1116 v1460 v1480
  let v1640 : IVec S32x128 32 := k0_pay613 v1475 v1503 v1525
  let v1662 : IVec S32x128 32 := k0_pay620 v1631 v1639 v1640
  let v1505 : IVec S32x128 1 := k0_pay547 v1116
  let v1670 : IVec S32x128 32 := k0_pay624 v1480 v1505
  let v1528 : FVec Ideal S32x128 .f32 := k0_pay566 v1116 v1460 v1485
  let v1671 : IVec S32x128 32 := k0_pay625 v1480 v1505 v1528
  let v1724 : IVec S32x128 32 := k0_pay641 v1485 v1507 v1531 v1662 v1670 v1671
  let v1509 : IVec S32x128 1 := k0_pay549 v1116
  let v1732 : IVec S32x128 32 := k0_pay645 v1490 v1509
  let v1534 : FVec Ideal S32x128 .f32 := k0_pay572 v191 v1116 v1452 v1454 v1455 v1460 v1491
  let v1733 : IVec S32x128 32 := k0_pay646 v1490 v1509 v1534
  let v1784 : IVec S32x128 1 := k0_pay661 v1495 v1511 v1537 v1724 v1732 v1733
  let v1786 : IVec S32x128 32 := k0_pay662 v1495 v1511 v1537 v1724 v1732 v1733
  let v1588 : IVec S32x128 1 := k0_pay593 v1465 v1497 v1499 v1516 v1538 v1540
  let v1517 : FVec Ideal S32x128 .f32 := k0_pay555 v1116 v1172 v1272
  let v1590 : FVec Ideal S32x128 .f32 := k0_pay594 v1224 v1465 v1517 v1519
  let v1591 : FVec Ideal S32x128 .f32 := k0_pay595 v1224 v1590
  let v1576 : IVec S32x128 1 := k0_pay589 v1465 v1499 v1519
  let v1598 : IVec S32x128 1 := k0_pay597 v1569 v1576 v1577
  let v1619 : IVec S32x128 1 := k0_pay604 v1470 v1501 v1569 v1577 v1578
  let v1520 : FVec Ideal S32x128 .f32 := k0_pay558 v1116 v1172 v1316
  let v1622 : FVec Ideal S32x128 .f32 := k0_pay605 v1272 v1470 v1520 v1522
  let v1629 : IVec S32x128 1 := k0_pay607 v1470 v1501 v1522 v1569 v1577 v1578
  let v1636 : IVec S32x128 1 := k0_pay610 v1475 v1503
  let v1650 : IVec S32x128 1 := k0_pay616 v1631 v1636
  let v1523 : FVec Ideal S32x128 .f32 := k0_pay561 v1116 v1172 v1356
  let v1641 : FVec Ideal S32x128 .f32 := k0_pay614 v1475 v1525
  let v1653 : FVec Ideal S32x128 .f32 := k0_pay617 v1316 v1475 v1523 v1641
  let v1638 : IVec S32x128 1 := k0_pay611 v1475 v1503 v1525
  let v1660 : IVec S32x128 1 := k0_pay619 v1631 v1638 v1639
  let v1681 : IVec S32x128 1 := k0_pay627 v1480 v1505 v1631 v1639 v1640
  let v1526 : FVec Ideal S32x128 .f32 := k0_pay564 v1116 v1172 v1392
  let v1684 : FVec Ideal S32x128 .f32 := k0_pay628 v1356 v1480 v1526 v1528
  let v1691 : IVec S32x128 1 := k0_pay630 v1480 v1505 v1528 v1631 v1639 v1640
  let v1712 : IVec S32x128 1 := k0_pay637 v1485 v1507 v1662 v1670 v1671
  let v1529 : FVec Ideal S32x128 .f32 := k0_pay567 v1116 v1172 v1424
  let v1715 : FVec Ideal S32x128 .f32 := k0_pay638 v1392 v1485 v1529 v1531
  let v1722 : IVec S32x128 1 := k0_pay640 v1485 v1507 v1531 v1662 v1670 v1671
  let v1729 : IVec S32x128 1 := k0_pay643 v1490 v1509
  let v1743 : IVec S32x128 1 := k0_pay648 v1724 v1729 8#32
  let v1532 : FVec Ideal S32x128 .f32 := k0_pay570 v1116 v1172 v1452
  let v1731 : IVec S32x128 1 := k0_pay644 v1490 v1509 v1534
  let v1740 : FVec Ideal S32x128 .f32 := k0_pay647 v1490 v1534
  let v1792 : FVec Ideal S32x128 .f32 := k0_pay665 v1424 v1452 v1495 v1511 v1532 v1535 v1537 v1724 v1731 v1732 v1733 v1740
  let v1818 : FVec Ideal S32x128 .f32 := k0_pay666 v1172 v1224 v1272 v1316 v1356 v1392 v1424 v1557 v1560 v1567 v1588 v1591 v1598 v1619 v1622 v1629 v1650 v1653 v1660 v1681 v1684 v1691 v1712 v1715 v1722 v1743 v1792
  let v1518 : FVec Ideal S32x128 .f32 := k0_pay556 v1116 v1173 v1273
  let v1585 : FVec Ideal S32x128 .f32 := k0_pay592 v1465 v1519
  let v1594 : FVec Ideal S32x128 .f32 := k0_pay596 v1225 v1518 v1585
  let v1521 : FVec Ideal S32x128 .f32 := k0_pay559 v1116 v1173 v1317
  let v1625 : FVec Ideal S32x128 .f32 := k0_pay606 v1273 v1470 v1521 v1522
  let v1524 : FVec Ideal S32x128 .f32 := k0_pay562 v1116 v1173 v1357
  let v1656 : FVec Ideal S32x128 .f32 := k0_pay618 v1317 v1475 v1524 v1641
  let v1527 : FVec Ideal S32x128 .f32 := k0_pay565 v1116 v1173 v1393
  let v1687 : FVec Ideal S32x128 .f32 := k0_pay629 v1357 v1480 v1527 v1528
  let v1530 : FVec Ideal S32x128 .f32 := k0_pay568 v1116 v1173 v1425
  let v1718 : FVec Ideal S32x128 .f32 := k0_pay639 v1393 v1485 v1530 v1531
  let v1533 : FVec Ideal S32x128 .f32 := k0_pay571 v1116 v1173 v1453
  let v1749 : FVec Ideal S32x128 .f32 := k0_pay650 v1425 v1533 v1740
  let v1753 : IVec S32x128 1 := k0_pay651 v1724 v1731 v1732
  let v1791 : FVec Ideal S32x128 .f32 := k0_pay664 v1453 v1495 v1511 v1536 v1537 v1724 v1732 v1733
  let v1819 : FVec Ideal S32x128 .f32 := k0_pay667 v1173 v1225 v1273 v1317 v1357 v1393 v1425 v1557 v1563 v1567 v1588 v1594 v1598 v1619 v1625 v1629 v1650 v1656 v1660 v1681 v1687 v1691 v1712 v1718 v1722 v1743 v1749 v1753 v1791
  let v1746 : FVec Ideal S32x128 .f32 := k0_pay649 v1424 v1532 v1740
  let v1774 : IVec S32x128 1 := k0_pay658 v1495 v1511 v1724 v1732 v1733
  let v1787 : FVec Ideal S32x128 .f32 := k0_pay663 (F := Ideal)
  let v1850 : FVec Ideal S32x128 .f32 := k0_pay668 v1172 v1224 v1272 v1316 v1356 v1392 v1424 v1452 v1557 v1560 v1567 v1588 v1591 v1598 v1619 v1622 v1629 v1650 v1653 v1660 v1681 v1684 v1691 v1712 v1715 v1722 v1743 v1746 v1753 v1774 v1777 v1784 v1787
  let v1851 : FVec Ideal S32x128 .f32 := k0_pay669 v1173 v1225 v1273 v1317 v1357 v1393 v1425 v1453 v1557 v1563 v1567 v1588 v1594 v1598 v1619 v1625 v1629 v1650 v1656 v1660 v1681 v1687 v1691 v1712 v1718 v1722 v1743 v1749 v1753 v1774 v1780 v1784 v1787
  let v1860 : FVec Ideal S32x128 .f32 := k0_pay673 v1777 v1780 v1784 v1786 v1818 v1819 v1850 v1851 8#32
  let v1867 : FVec Ideal S32x128 .f32 := k0_pay676 v1452 v1453 v1774 v1777 v1780 v1784 v1786 v1818 v1819 v1850 v1851 8#32
  let v1874 : FVec Ideal S32x128 .f32 := k0_pay679 v1452 v1453 v1746 v1749 v1753 v1774 v1777 v1780 v1784 v1786 v1818 v1819 v1850 v1851 8#32
  let v1881 : FVec Ideal S32x128 .f32 := k0_pay682 v1424 v1425 v1452 v1453 v1743 v1746 v1749 v1753 v1774 v1777 v1780 v1784 v1786 v1818 v1819 v1850 v1851 8#32
  let v1888 : FVec Ideal S32x128 .f32 := k0_pay685 v1424 v1425 v1452 v1453 v1715 v1718 v1722 v1743 v1746 v1749 v1753 v1774 v1777 v1780 v1784 v1786 v1818 v1819 v1850 v1851 8#32
  let v1895 : FVec Ideal S32x128 .f32 := k0_pay688 v1392 v1393 v1424 v1425 v1452 v1453 v1712 v1715 v1718 v1722 v1743 v1746 v1749 v1753 v1774 v1777 v1780 v1784 v1786 v1818 v1819 v1850 v1851 8#32
  let v1902 : FVec Ideal S32x128 .f32 := k0_pay691 v1392 v1393 v1424 v1425 v1452 v1453 v1684 v1687 v1691 v1712 v1715 v1718 v1722 v1743 v1746 v1749 v1753 v1774 v1777 v1780 v1784 v1786 v1818 v1819 v1850 v1851 8#32
  let v1903 : FVec Ideal S32x128 .f32 := k0_pay692 v1392 v1424 v1452 v1684 v1691 v1712 v1715 v1722 v1743 v1746 v1753 v1774 v1777 v1784 v1786 v1818 v1850 8#32
  let v1904 : FVec Ideal S32x128 .f32 := k0_pay693 v1393 v1425 v1453 v1687 v1691 v1712 v1718 v1722 v1743 v1749 v1753 v1774 v1780 v1784 v1786 v1819 v1851 8#32
  let v1909 : FVec Ideal S32x128 .f32 := k0_pay694 v1356 v1357 v1681 v1903 v1904
  let v1916 : FVec Ideal S32x128 .f32 := k0_pay697 v1356 v1357 v1653 v1656 v1660 v1681 v1903 v1904
  let v1923 : FVec Ideal S32x128 .f32 := k0_pay700 v1316 v1317 v1356 v1357 v1650 v1653 v1656 v1660 v1681 v1903 v1904
  let v1930 : FVec Ideal S32x128 .f32 := k0_pay703 v1316 v1317 v1356 v1357 v1622 v1625 v1629 v1650 v1653 v1656 v1660 v1681 v1903 v1904
  let v1937 : FVec Ideal S32x128 .f32 := k0_pay706 v1272 v1273 v1316 v1317 v1356 v1357 v1619 v1622 v1625 v1629 v1650 v1653 v1656 v1660 v1681 v1903 v1904
  let v1944 : FVec Ideal S32x128 .f32 := k0_pay709 v1272 v1273 v1316 v1317 v1356 v1357 v1591 v1594 v1598 v1619 v1622 v1625 v1629 v1650 v1653 v1656 v1660 v1681 v1903 v1904
  let v1951 : FVec Ideal S32x128 .f32 := k0_pay712 v1224 v1225 v1272 v1273 v1316 v1317 v1356 v1357 v1588 v1591 v1594 v1598 v1619 v1622 v1625 v1629 v1650 v1653 v1656 v1660 v1681 v1903 v1904
  let v1952 : FVec Ideal S32x128 .f32 := k0_pay713 v1224 v1272 v1316 v1356 v1588 v1591 v1598 v1619 v1622 v1629 v1650 v1653 v1660 v1681 v1903
  let v1953 : FVec Ideal S32x128 .f32 := k0_pay714 v1225 v1273 v1317 v1357 v1588 v1594 v1598 v1619 v1625 v1629 v1650 v1656 v1660 v1681 v1904
  let v1956 : FVec Ideal S32x128 .f32 := k0_pay715 v1224 v1225 v1272 v1273 v1316 v1317 v1356 v1357 v1560 v1563 v1588 v1591 v1594 v1598 v1619 v1622 v1625 v1629 v1650 v1653 v1656 v1660 v1681 v1903 v1904
  let v2007 : FVec Ideal S32x128 .f32 := k0_pay721 v5 v7 v9 v11 v19 v21 v23 v25 v1172 v1173 v1557 v1560 v1563 v1567 v1860 v1867 v1874 v1881 v1888 v1895 v1902 v1909 v1916 v1923 v1930 v1937 v1944 v1951 v1952 v1953 v1956 (word 0x00000000#32)
  let v2001 : FVec Ideal S32x128 .f32 := k0_pay720 v5 v7 v19 v21 v1172 v1173 v1557 v1560 v1563 v1567 v1860 v1867 v1874 v1881 v1888 v1895 v1902 v1909 v1916 v1923 v1930 v1937 v1944 v1951 v1952 v1953 v1956 (word 0x00000000#32)
  let v2008 : FVec Ideal S32x128 .f32 := k0_pay722 (F := Ideal)
  let v2010 : FVec Ideal S32x128 .f32 := k0_pay723 v2001 v2007 v2008
  ⟨v1986, v1989, v1992, v1995, v2007, v2010⟩

/-- The hull's area. -/
structure hullOut where
  v3208 : FVec Ideal S32x128 .f32
  v3209 : FVec Ideal S32x128 .f32
def hull (v99 : FVec Ideal S32x128 .f32) (v101 : FVec Ideal S32x128 .f32) (v103 : FVec Ideal S32x128 .f32) (v105 : FVec Ideal S32x128 .f32) (v107 : FVec Ideal S32x128 .f32) (v109 : FVec Ideal S32x128 .f32) (v111 : FVec Ideal S32x128 .f32) (v113 : FVec Ideal S32x128 .f32) (v185 : FVec Ideal S32x128 .f32) (v187 : FVec Ideal S32x128 .f32) (v189 : FVec Ideal S32x128 .f32) (v191 : FVec Ideal S32x128 .f32) (v193 : FVec Ideal S32x128 .f32) (v195 : FVec Ideal S32x128 .f32) (v197 : FVec Ideal S32x128 .f32) (v199 : FVec Ideal S32x128 .f32) (v1989 : FVec Ideal S32x128 .f32) (v1995 : FVec Ideal S32x128 .f32) : hullOut :=
  let v2612 : FVec Ideal S32x128 .f32 := k0_pay862 v105 v113 v191 v199
  let v3070 : FVec Ideal S32x128 .f32 := k0_pay966 v105 v191
  let v3071 : FVec Ideal S32x128 .f32 := k0_pay967 v113 v199
  let v3076 : FVec Ideal S32x128 .f32 := k0_pay969 v185 v191
  let v3077 : FVec Ideal S32x128 .f32 := k0_pay970 v193 v199
  let v3080 : FVec Ideal S32x128 .f32 := k0_pay971 v99 v107 v185 v191 v193 v199
  let v3082 : FVec Ideal S32x128 .f32 := k0_pay972 v187 v191
  let v3083 : FVec Ideal S32x128 .f32 := k0_pay973 v195 v199
  let v3088 : FVec Ideal S32x128 .f32 := k0_pay974 v189 v191
  let v3089 : FVec Ideal S32x128 .f32 := k0_pay975 v197 v199
  let v3060 : FVec Ideal S32x128 .f32 := k0_pay961 v109 v199
  let v3111 : FVec Ideal S32x128 .f32 := k0_pay980 v101 v191 v193 v199
  let v3113 : FVec Ideal S32x128 .f32 := k0_pay981 v3060 v3076 v3111
  let v3064 : FVec Ideal S32x128 .f32 := k0_pay963 v103 v191
  let v3065 : FVec Ideal S32x128 .f32 := k0_pay964 v111 v199
  let v3137 : FVec Ideal S32x128 .f32 := k0_pay982 v3064 v3065 v3070 v3071
  let v3141 : FVec Ideal S32x128 .f32 := k0_pay983 v3064 v3065 v3076 v3077
  let v2308 : FVec Ideal S32x128 .f32 := k0_pay789 v101 v109 v191 v199
  let v2459 : FVec Ideal S32x128 .f32 := k0_pay827 v103 v111 v191 v199
  let v3059 : FVec Ideal S32x128 .f32 := k0_pay960 v101 v191
  let v3068 : FVec Ideal S32x128 .f32 := k0_pay965 v99 v103 v107 v111 v191 v199
  let v2157 : FVec Ideal S32x128 .f32 := k0_pay756 v99 v107 v191 v199
  let v2585 : FVec Ideal S32x128 .f32 := k0_pay857 v105 v113 v189 v197
  let v2923 : FVec Ideal S32x128 .f32 := k0_pay935 v105 v189
  let v2924 : FVec Ideal S32x128 .f32 := k0_pay936 v113 v197
  let v2927 : FVec Ideal S32x128 .f32 := k0_pay937 v99 v105 v107 v113 v189 v197
  let v2929 : FVec Ideal S32x128 .f32 := k0_pay938 v185 v189
  let v2930 : FVec Ideal S32x128 .f32 := k0_pay939 v193 v197
  let v2935 : FVec Ideal S32x128 .f32 := k0_pay940 v187 v189
  let v2936 : FVec Ideal S32x128 .f32 := k0_pay941 v195 v197
  let v2941 : FVec Ideal S32x128 .f32 := k0_pay942 v189 v191
  let v2942 : FVec Ideal S32x128 .f32 := k0_pay943 v197 v199
  let v2912 : FVec Ideal S32x128 .f32 := k0_pay929 v101 v189
  let v2913 : FVec Ideal S32x128 .f32 := k0_pay930 v109 v197
  let v2962 : FVec Ideal S32x128 .f32 := k0_pay948 v2912 v2913 v2923 v2924
  let v2281 : FVec Ideal S32x128 .f32 := k0_pay788 v101 v109 v189 v197
  let v2917 : FVec Ideal S32x128 .f32 := k0_pay932 v103 v189
  let v2918 : FVec Ideal S32x128 .f32 := k0_pay933 v111 v197
  let v2130 : FVec Ideal S32x128 .f32 := k0_pay755 v99 v107 v189 v197
  let v2404 : FVec Ideal S32x128 .f32 := k0_pay822 v103 v111 v187 v195
  let v2557 : FVec Ideal S32x128 .f32 := k0_pay855 v105 v113 v187 v195
  let v2776 : FVec Ideal S32x128 .f32 := k0_pay904 v105 v187
  let v2777 : FVec Ideal S32x128 .f32 := k0_pay905 v113 v195
  let v2780 : FVec Ideal S32x128 .f32 := k0_pay906 v99 v105 v107 v113 v187 v195
  let v2782 : FVec Ideal S32x128 .f32 := k0_pay907 v185 v187
  let v2783 : FVec Ideal S32x128 .f32 := k0_pay908 v193 v195
  let v2788 : FVec Ideal S32x128 .f32 := k0_pay909 v187 v189
  let v2789 : FVec Ideal S32x128 .f32 := k0_pay910 v195 v197
  let v2794 : FVec Ideal S32x128 .f32 := k0_pay912 v187 v191
  let v2795 : FVec Ideal S32x128 .f32 := k0_pay913 v195 v199
  let v2765 : FVec Ideal S32x128 .f32 := k0_pay898 v101 v187
  let v2766 : FVec Ideal S32x128 .f32 := k0_pay899 v109 v195
  let v2815 : FVec Ideal S32x128 .f32 := k0_pay916 v2765 v2766 v2776 v2777
  let v2102 : FVec Ideal S32x128 .f32 := k0_pay751 v99 v107 v187 v195
  let v2253 : FVec Ideal S32x128 .f32 := k0_pay784 v101 v109 v187 v195
  let v2624 : FVec Ideal S32x128 .f32 := k0_pay870 v111 v193
  let v2635 : FVec Ideal S32x128 .f32 := k0_pay875 v185 v187
  let v2623 : FVec Ideal S32x128 .f32 := k0_pay869 v103 v185
  let v2636 : FVec Ideal S32x128 .f32 := k0_pay876 v193 v195
  let v2698 : FVec Ideal S32x128 .f32 := k0_pay889 v2623 v2636
  let v2700 : FVec Ideal S32x128 .f32 := k0_pay890 v2624 v2635 v2698
  let v2629 : FVec Ideal S32x128 .f32 := k0_pay872 v105 v185
  let v2630 : FVec Ideal S32x128 .f32 := k0_pay873 v113 v193
  let v2727 : FVec Ideal S32x128 .f32 := k0_pay891 v2629 v2630 v2635 v2636
  let v2375 : FVec Ideal S32x128 .f32 := k0_pay815 v103 v111 v185 v193
  let v2528 : FVec Ideal S32x128 .f32 := k0_pay851 v105 v113 v185 v193
  let v2633 : FVec Ideal S32x128 .f32 := k0_pay874 v99 v105 v107 v113 v185 v193
  let v2641 : FVec Ideal S32x128 .f32 := k0_pay878 v185 v189
  let v2642 : FVec Ideal S32x128 .f32 := k0_pay879 v193 v197
  let v2647 : FVec Ideal S32x128 .f32 := k0_pay881 v185 v191
  let v2648 : FVec Ideal S32x128 .f32 := k0_pay882 v193 v199
  let v2618 : FVec Ideal S32x128 .f32 := k0_pay866 v101 v185
  let v2619 : FVec Ideal S32x128 .f32 := k0_pay867 v109 v193
  let v2668 : FVec Ideal S32x128 .f32 := k0_pay884 v2618 v2619 v2629 v2630
  let v2073 : FVec Ideal S32x128 .f32 := k0_pay748 v99 v107 v185 v193
  let v2224 : FVec Ideal S32x128 .f32 := k0_pay781 v101 v109 v185 v193
  let v2482 : FVec Ideal S32x128 .f32 := k0_pay840 v105 v191
  let v2483 : FVec Ideal S32x128 .f32 := k0_pay841 v113 v199
  let v2506 : FVec Ideal S32x128 .f32 := k0_pay846 v103 v105
  let v2507 : FVec Ideal S32x128 .f32 := k0_pay847 v111 v113
  let v2465 : FVec Ideal S32x128 .f32 := k0_pay831 v105 v185
  let v2466 : FVec Ideal S32x128 .f32 := k0_pay832 v113 v193
  let v2522 : FVec Ideal S32x128 .f32 := k0_pay850 v2465 v2466 v2482 v2483
  let v2470 : FVec Ideal S32x128 .f32 := k0_pay834 v105 v187
  let v2471 : FVec Ideal S32x128 .f32 := k0_pay835 v113 v195
  let v2551 : FVec Ideal S32x128 .f32 := k0_pay854 v2470 v2471 v2482 v2483
  let v2476 : FVec Ideal S32x128 .f32 := k0_pay837 v105 v189
  let v2477 : FVec Ideal S32x128 .f32 := k0_pay838 v113 v197
  let v2579 : FVec Ideal S32x128 .f32 := k0_pay856 v2476 v2477 v2482 v2483
  let v2480 : FVec Ideal S32x128 .f32 := k0_pay839 v99 v105 v107 v113 v189 v197
  let v2500 : FVec Ideal S32x128 .f32 := k0_pay844 v101 v105
  let v2501 : FVec Ideal S32x128 .f32 := k0_pay845 v109 v113
  let v2514 : FVec Ideal S32x128 .f32 := k0_pay848 v2465 v2466 v2470 v2471
  let v2518 : FVec Ideal S32x128 .f32 := k0_pay849 v2465 v2466 v2476 v2477
  let v2331 : FVec Ideal S32x128 .f32 := k0_pay805 v103 v191
  let v2332 : FVec Ideal S32x128 .f32 := k0_pay806 v111 v199
  let v2312 : FVec Ideal S32x128 .f32 := k0_pay791 v103 v105
  let v2313 : FVec Ideal S32x128 .f32 := k0_pay792 v111 v113
  let v2335 : FVec Ideal S32x128 .f32 := k0_pay807 v103 v111 v191 v199 v2312 v2313
  let v2345 : FVec Ideal S32x128 .f32 := k0_pay808 v99 v103
  let v2346 : FVec Ideal S32x128 .f32 := k0_pay809 v107 v111
  let v2350 : FVec Ideal S32x128 .f32 := k0_pay810 v101 v103
  let v2351 : FVec Ideal S32x128 .f32 := k0_pay811 v109 v111
  let v2314 : FVec Ideal S32x128 .f32 := k0_pay793 v103 v185
  let v2315 : FVec Ideal S32x128 .f32 := k0_pay794 v111 v193
  let v2369 : FVec Ideal S32x128 .f32 := k0_pay814 v103 v111 v191 v199 v2314 v2315
  let v2319 : FVec Ideal S32x128 .f32 := k0_pay796 v103 v187
  let v2320 : FVec Ideal S32x128 .f32 := k0_pay797 v111 v195
  let v2398 : FVec Ideal S32x128 .f32 := k0_pay821 v2319 v2320 v2331 v2332
  let v2323 : FVec Ideal S32x128 .f32 := k0_pay798 v103 v105 v111 v113 v187 v195
  let v2325 : FVec Ideal S32x128 .f32 := k0_pay800 v103 v189
  let v2326 : FVec Ideal S32x128 .f32 := k0_pay801 v111 v197
  let v2361 : FVec Ideal S32x128 .f32 := k0_pay812 v2314 v2315 v2319 v2320
  let v2180 : FVec Ideal S32x128 .f32 := k0_pay769 v101 v191
  let v2181 : FVec Ideal S32x128 .f32 := k0_pay770 v109 v199
  let v2161 : FVec Ideal S32x128 .f32 := k0_pay758 v101 v103
  let v2162 : FVec Ideal S32x128 .f32 := k0_pay759 v109 v111
  let v2184 : FVec Ideal S32x128 .f32 := k0_pay771 v101 v109 v191 v199 v2161 v2162
  let v2194 : FVec Ideal S32x128 .f32 := k0_pay773 v99 v101
  let v2195 : FVec Ideal S32x128 .f32 := k0_pay774 v107 v109
  let v2202 : FVec Ideal S32x128 .f32 := k0_pay775 v101 v105
  let v2203 : FVec Ideal S32x128 .f32 := k0_pay776 v109 v113
  let v2163 : FVec Ideal S32x128 .f32 := k0_pay760 v101 v185
  let v2164 : FVec Ideal S32x128 .f32 := k0_pay761 v109 v193
  let v2218 : FVec Ideal S32x128 .f32 := k0_pay779 v101 v109 v191 v199 v2163 v2164
  let v2168 : FVec Ideal S32x128 .f32 := k0_pay763 v101 v187
  let v2169 : FVec Ideal S32x128 .f32 := k0_pay764 v109 v195
  let v2247 : FVec Ideal S32x128 .f32 := k0_pay783 v2168 v2169 v2180 v2181
  let v2172 : FVec Ideal S32x128 .f32 := k0_pay765 v109 v195 v2161 v2162 v2168
  let v2174 : FVec Ideal S32x128 .f32 := k0_pay766 v101 v189
  let v2175 : FVec Ideal S32x128 .f32 := k0_pay767 v109 v197
  let v2024 : FVec Ideal S32x128 .f32 := k0_pay732 v99 v189
  let v2025 : FVec Ideal S32x128 .f32 := k0_pay733 v107 v197
  let v2030 : FVec Ideal S32x128 .f32 := k0_pay735 v99 v191
  let v2031 : FVec Ideal S32x128 .f32 := k0_pay736 v107 v199
  let v2034 : FVec Ideal S32x128 .f32 := k0_pay737 v99 v101 v107 v109 v191 v199
  let v2045 : FVec Ideal S32x128 .f32 := k0_pay739 v99 v103
  let v2046 : FVec Ideal S32x128 .f32 := k0_pay740 v107 v111
  let v2051 : FVec Ideal S32x128 .f32 := k0_pay741 v99 v105
  let v2052 : FVec Ideal S32x128 .f32 := k0_pay742 v107 v113
  let v2014 : FVec Ideal S32x128 .f32 := k0_pay727 v107 v193
  let v2065 : FVec Ideal S32x128 .f32 := k0_pay746 v99 v107 v185 v199
  let v2067 : FVec Ideal S32x128 .f32 := k0_pay747 v2014 v2030 v2065
  let v2018 : FVec Ideal S32x128 .f32 := k0_pay729 v99 v187
  let v2019 : FVec Ideal S32x128 .f32 := k0_pay730 v107 v195
  let v2092 : FVec Ideal S32x128 .f32 := k0_pay749 v2018 v2019 v2024 v2025
  let v2096 : FVec Ideal S32x128 .f32 := k0_pay750 v2018 v2019 v2030 v2031
  let v2022 : FVec Ideal S32x128 .f32 := k0_pay731 v99 v101 v107 v109 v187 v195
  let v2042 : FVec Ideal S32x128 .f32 := k0_pay738 v99 v101 v107 v109 v185 v187 v189 v191 v193 v195 v197 v199
  let v2059 : FVec Ideal S32x128 .f32 := k0_pay743 v99 v107 v185 v187 v193 v195
  let v2064 : FVec Ideal S32x128 .f32 := k0_pay745 v99 v101 v103 v105 v107 v109 v111 v113 v185 v187 v189 v193 v195 v197
  let v2105 : FVec Ideal S32x128 .f32 := k0_pay752 v99 v107 v185 v187 v193 v195 v2014 v2018 v2019 v2022 v2024 v2025 v2030 v2031 v2042 v2045 v2046 v2051 v2052 v2059 v2064 v2065
  let v2028 : FVec Ideal S32x128 .f32 := k0_pay734 v99 v101 v107 v109 v189 v197
  let v2115 : FVec Ideal S32x128 .f32 := k0_pay753 v2024 v2025 v2028 v2045 v2046 v2051 v2052
  let v2063 : FVec Ideal S32x128 .f32 := k0_pay744 v99 v107 v185 v189 v193 v197
  let v2117 : FVec Ideal S32x128 .f32 := k0_pay754 v2063
  let v2160 : FVec Ideal S32x128 .f32 := k0_pay757 v99 v107 v189 v191 v197 v199 v2024 v2025 v2030 v2031 v2034 v2045 v2046 v2051 v2052 v2067 v2092 v2096 v2105 v2115 v2117
  let v2167 : FVec Ideal S32x128 .f32 := k0_pay762 v101 v103 v109 v111 v185 v193
  let v2193 : FVec Ideal S32x128 .f32 := k0_pay772 v101 v103 v109 v111 v189 v191 v195 v197 v199 v2160 v2161 v2162 v2167 v2168
  let v2210 : FVec Ideal S32x128 .f32 := k0_pay777 v109 v195 v2163 v2164 v2168
  let v2221 : IVec S32x128 1 := k0_pay780 v99 v101 v105 v107 v109 v113 v189 v191 v195 v197 v199 v2163 v2164 v2167 v2168
  let v2256 : FVec Ideal S32x128 .f32 := k0_pay785 v101 v109 v187 v195 v2168 v2169 v2172 v2174 v2175 v2180 v2181 v2193 v2194 v2195 v2202 v2203 v2210 v2221 v2224
  let v2275 : FVec Ideal S32x128 .f32 := k0_pay786 v2174 v2175 v2180 v2181
  let v2178 : FVec Ideal S32x128 .f32 := k0_pay768 v101 v109 v189 v197 v2161 v2162
  let v2214 : FVec Ideal S32x128 .f32 := k0_pay778 v101 v109 v189 v197 v2163 v2164
  let v2276 : FVec Ideal S32x128 .f32 := k0_pay787 v2168 v2169 v2174 v2175 v2178 v2180 v2181 v2194 v2195 v2202 v2203 v2214
  let v2311 : FVec Ideal S32x128 .f32 := k0_pay790 v101 v109 v189 v191 v197 v199 v2180 v2181 v2184 v2194 v2195 v2202 v2203 v2218 v2247 v2256 v2275 v2276
  let v2318 : FVec Ideal S32x128 .f32 := k0_pay795 v103 v105 v111 v113 v185 v193
  let v2324 : FVec Ideal S32x128 .f32 := k0_pay799 v103 v105 v111 v113 v185 v187 v193 v195
  let v2327 : FVec Ideal S32x128 .f32 := k0_pay802 v103 v105 v111 v197
  let v2328 : FVec Ideal S32x128 .f32 := k0_pay803 v103 v111 v113 v189
  let v2378 : FVec Ideal S32x128 .f32 := k0_pay816 v99 v101 v103 v105 v107 v109 v111 v113 v185 v191 v193 v199 v2311 v2312 v2313 v2314 v2315 v2318 v2319 v2320 v2324 v2325 v2326 v2327 v2328
  let v2381 : FVec Ideal S32x128 .f32 := k0_pay817 v99 v103 v107 v111 v2319 v2320
  let v2382 : FVec Ideal S32x128 .f32 := k0_pay818 v109 v111 v2319
  let v2383 : FVec Ideal S32x128 .f32 := k0_pay819 v101 v103 v2320
  let v2407 : FVec Ideal S32x128 .f32 := k0_pay823 v103 v111 v187 v195 v2319 v2320 v2323 v2325 v2326 v2331 v2332 v2361 v2378 v2381 v2382 v2383
  let v2426 : FVec Ideal S32x128 .f32 := k0_pay824 v2325 v2326 v2331 v2332
  let v2329 : FVec Ideal S32x128 .f32 := k0_pay804 v2327 v2328
  let v2365 : FVec Ideal S32x128 .f32 := k0_pay813 v2314 v2315 v2325 v2326
  let v2434 : FVec Ideal S32x128 .f32 := k0_pay826 v103 v111 v189 v197 v2319 v2320 v2325 v2326 v2329 v2331 v2332 v2345 v2346 v2350 v2351 v2365
  let v2462 : FVec Ideal S32x128 .f32 := k0_pay828 v103 v111 v191 v199 v2331 v2332 v2335 v2345 v2346 v2350 v2351 v2369 v2398 v2407 v2426 v2434
  let v2469 : FVec Ideal S32x128 .f32 := k0_pay833 v99 v105 v107 v113 v185 v193
  let v2487 : FVec Ideal S32x128 .f32 := k0_pay843 v99 v105 v107 v113 v185 v187 v189 v191 v193 v195 v197 v199
  let v2531 : FVec Ideal S32x128 .f32 := k0_pay852 v99 v101 v103 v105 v107 v109 v111 v113 v185 v193 v2462 v2465 v2466 v2469 v2470 v2471 v2476 v2477 v2482 v2483 v2487 (word 0xB727C5AC#32)
  let v2474 : FVec Ideal S32x128 .f32 := k0_pay836 v99 v105 v107 v113 v187 v195
  let v2541 : FVec Ideal S32x128 .f32 := k0_pay853 v101 v103 v105 v109 v111 v113 v2470 v2471 v2474
  let v2588 : FVec Ideal S32x128 .f32 := k0_pay858 v105 v113 v187 v189 v195 v197 v2470 v2471 v2476 v2477 v2480 v2482 v2483 v2500 v2501 v2506 v2507 v2514 v2518 v2531 v2541
  let v2486 : FVec Ideal S32x128 .f32 := k0_pay842 v99 v105 v107 v113 v191 v199
  let v2590 : FVec Ideal S32x128 .f32 := k0_pay859 v2486
  let v2591 : FVec Ideal S32x128 .f32 := k0_pay860 v2482 v2501
  let v2592 : FVec Ideal S32x128 .f32 := k0_pay861 v2483 v2500
  let v2615 : FVec Ideal S32x128 .f32 := k0_pay863 v105 v113 v191 v199 v2482 v2483 v2506 v2507 v2522 v2551 v2579 v2588 v2590 v2591 v2592
  let v2616 : FVec Ideal S32x128 .f32 := k0_pay864 v99 v185
  let v2617 : FVec Ideal S32x128 .f32 := k0_pay865 v107 v193
  let v2622 : FVec Ideal S32x128 .f32 := k0_pay868 v99 v101 v107 v109 v185 v193
  let v2646 : FVec Ideal S32x128 .f32 := k0_pay880 v99 v101 v103 v105 v107 v109 v111 v113 v185 v187 v189 v193 v195 v197
  let v2688 : FVec Ideal S32x128 .f32 := k0_pay886 v193 v199 v2073 v2224 v2615 v2616 v2617 v2618 v2619 v2622 v2623 v2624 v2629 v2630 v2635 v2636 v2641 v2642 v2646 v2647
  let v2696 : FVec Ideal S32x128 .f32 := k0_pay887 v2623 v2624 v2629 v2630
  let v2627 : FVec Ideal S32x128 .f32 := k0_pay871 v99 v103 v107 v111 v185 v193
  let v2697 : FVec Ideal S32x128 .f32 := k0_pay888 v2618 v2619 v2623 v2624 v2627 v2629 v2630
  let v2743 : FVec Ideal S32x128 .f32 := k0_pay892 v2375 v2528 v2623 v2624 v2629 v2630 v2633 v2635 v2636 v2641 v2642 v2647 v2648 v2668 v2688 v2696 v2697 v2698
  let v2639 : FVec Ideal S32x128 .f32 := k0_pay877 v99 v107 v185 v187 v193 v195
  let v2745 : FVec Ideal S32x128 .f32 := k0_pay893 v2639
  let v2672 : FVec Ideal S32x128 .f32 := k0_pay885 v2618 v2619 v2635 v2636
  let v2747 : FVec Ideal S32x128 .f32 := k0_pay894 v2672
  let v2762 : FVec Ideal S32x128 .f32 := k0_pay895 v185 v187 v193 v195 v2700 v2727 v2743 v2745 v2747
  let v2769 : FVec Ideal S32x128 .f32 := k0_pay900 v99 v101 v107 v109 v187 v195
  let v2770 : FVec Ideal S32x128 .f32 := k0_pay901 v103 v187
  let v2771 : FVec Ideal S32x128 .f32 := k0_pay902 v111 v195
  let v2801 : IVec S32x128 1 := k0_pay914 v99 v101 v103 v105 v107 v109 v111 v113 v185 v187 v189 v191 v193 v195 v197 v199
  let v2835 : FVec Ideal S32x128 .f32 := k0_pay918 v2102 v2253 v2762 v2765 v2766 v2769 v2770 v2771 v2776 v2777 v2782 v2783 v2788 v2789 v2794 v2795 v2801 (word 0x00000000#32)
  let v2843 : FVec Ideal S32x128 .f32 := k0_pay919 v2770 v2771 v2776 v2777
  let v2774 : FVec Ideal S32x128 .f32 := k0_pay903 v99 v103 v107 v111 v187 v195
  let v2852 : FVec Ideal S32x128 .f32 := k0_pay921 v2765 v2766 v2770 v2771 v2774 v2776 v2777 v2782 v2783 v2788 v2789
  let v2853 : FVec Ideal S32x128 .f32 := k0_pay922 v2770 v2795
  let v2854 : FVec Ideal S32x128 .f32 := k0_pay923 v2771 v2794
  let v2890 : FVec Ideal S32x128 .f32 := k0_pay925 v2404 v2557 v2776 v2777 v2780 v2782 v2783 v2788 v2789 v2794 v2795 v2815 v2835 v2843 v2852 v2853 v2854
  let v2792 : FVec Ideal S32x128 .f32 := k0_pay911 v99 v107 v187 v189 v195 v197
  let v2823 : FVec Ideal S32x128 .f32 := k0_pay917 v2765 v2766 v2788 v2789
  let v2851 : FVec Ideal S32x128 .f32 := k0_pay920 v2770 v2771 v2788 v2789
  let v2901 : FVec Ideal S32x128 .f32 := k0_pay926 v2776 v2777 v2788 v2789 v2792 v2823 v2851
  let v2953 : FVec Ideal S32x128 .f32 := k0_pay945 v99 v101 v103 v105 v107 v109 v111 v113 v185 v187 v189 v191 v193 v195 v197 v199 v2130 v2890 v2901
  let v2955 : FVec Ideal S32x128 .f32 := k0_pay946 v99 v101 v107 v109 v189 v197
  let v2982 : FVec Ideal S32x128 .f32 := k0_pay950 v2281 v2912 v2913 v2917 v2918 v2923 v2924 v2929 v2930 v2935 v2936 v2941 v2942 v2953 v2955
  let v2990 : FVec Ideal S32x128 .f32 := k0_pay951 v2917 v2918 v2923 v2924
  let v2921 : FVec Ideal S32x128 .f32 := k0_pay934 v99 v103 v107 v111 v189 v197
  let v3005 : IVec S32x128 1 := k0_pay953 v2912 v2913 v2917 v2918 v2921 v2923 v2924 v2929 v2930 v2935 v2936 v2941 v2942
  let v2432 : FVec Ideal S32x128 .f32 := k0_pay825 v103 v111 v189 v197
  let v3007 : FVec Ideal S32x128 .f32 := k0_pay954 v2432
  let v3037 : FVec Ideal S32x128 .f32 := k0_pay956 v2585 v2923 v2924 v2927 v2929 v2930 v2935 v2936 v2941 v2942 v2962 v2982 v2990 v3005 v3007 (word 0x00000000#32)
  let v2945 : FVec Ideal S32x128 .f32 := k0_pay944 v99 v107 v189 v191 v197 v199
  let v2974 : FVec Ideal S32x128 .f32 := k0_pay949 v2912 v2913 v2941 v2942
  let v3002 : FVec Ideal S32x128 .f32 := k0_pay952 v2917 v2918 v2941 v2942
  let v3055 : FVec Ideal S32x128 .f32 := k0_pay957 v189 v191 v197 v199 v2923 v2924 v2941 v2942 v2945 v2974 v3002
  let v3100 : FVec Ideal S32x128 .f32 := k0_pay976 v99 v101 v103 v105 v107 v109 v111 v113 v185 v187 v189 v191 v193 v195 v197 v199 v2157 v3037 v3055
  let v3105 : FVec Ideal S32x128 .f32 := k0_pay977 v101 v103 v109 v111 v191 v199
  let v3110 : FVec Ideal S32x128 .f32 := k0_pay979 v99 v101 v103 v105 v107 v109 v111 v113 v191 v199
  let v3157 : FVec Ideal S32x128 .f32 := k0_pay984 v2308 v2459 v3059 v3060 v3064 v3065 v3068 v3070 v3071 v3076 v3077 v3082 v3083 v3088 v3089 v3100 v3105 v3110 v3111
  let v3074 : FVec Ideal S32x128 .f32 := k0_pay968 v99 v105 v107 v113 v191 v199
  let v3159 : FVec Ideal S32x128 .f32 := k0_pay985 v3074
  let v3109 : FVec Ideal S32x128 .f32 := k0_pay978 v101 v105 v109 v113 v191 v199
  let v3161 : FVec Ideal S32x128 .f32 := k0_pay986 v3109
  let v3208 : FVec Ideal S32x128 .f32 := k0_pay987 v185 v191 v193 v199 v2612 v3070 v3071 v3076 v3077 v3080 v3082 v3083 v3088 v3089 v3113 v3137 v3141 v3157 v3159 v3161
  let v3209 : FVec Ideal S32x128 .f32 := k0_pay988 v1989 v1995
  ⟨v3208, v3209⟩

/-- What the kernel stores, from the fourteen rows it loads. -/
def stored (v0 : Vec Ideal S1x32x128 .f32) (v2 : Vec Ideal S1x32x128 .f32) (v4 : Vec Ideal S1x32x128 .f32) (v6 : Vec Ideal S1x32x128 .f32) (v8 : Vec Ideal S1x32x128 .f32) (v10 : Vec Ideal S1x32x128 .f32) (v12 : Vec Ideal S1x32x128 .f32) (v14 : Vec Ideal S1x32x128 .f32) (v16 : Vec Ideal S1x32x128 .f32) (v18 : Vec Ideal S1x32x128 .f32) (v20 : Vec Ideal S1x32x128 .f32) (v22 : Vec Ideal S1x32x128 .f32) (v24 : Vec Ideal S1x32x128 .f32) (v26 : Vec Ideal S1x32x128 .f32) : FVec Ideal S1x1x128 .f32 :=
  let v1 := k0_pay2 v0
  let v3 := k0_pay3 v2
  let v5 := k0_pay4 v4
  let v7 := k0_pay5 v6
  let v9 := k0_pay6 v8
  let v11 := k0_pay7 v10
  let v13 := k0_pay8 v12
  let v15 := k0_pay9 v14
  let v17 := k0_pay10 v16
  let v19 := k0_pay11 v18
  let v21 := k0_pay12 v20
  let v23 := k0_pay13 v22
  let v25 := k0_pay14 v24
  let v27 := k0_pay15 v26
  let r0 := quadP v1 v3 v9 v11 v13
  let r1 := angT v27
  let r2 := quadT v15 v17 v23 v25 r1.v117 r1.v154 r1.v155 r1.v157
  let r3 := clipA v15 v17 v23 v25 r0.v99 r0.v101 r0.v103 r0.v105 r0.v107 r0.v109 r0.v111 r0.v113 r1.v117 r1.v154 r1.v155 r1.v157 r2.v185 r2.v193
  let r4 := clipB r2.v187 r2.v189 r2.v195 r2.v197 r3.v330 r3.v362 r3.v363 r3.v390 r3.v391 r3.v414 r3.v415 r3.v434 r3.v435 r3.v450 r3.v451
  let r5 := clipC r2.v189 r2.v191 r2.v197 r2.v199 r4.v646 r4.v686 r4.v687 r4.v722 r4.v723 r4.v754 r4.v755 r4.v782 r4.v783 r4.v806 r4.v807 r4.v826 r4.v827 r4.v842 r4.v843
  let r6 := heights v5 v7 v9 v11 v19 v21 v23 v25 r2.v185 r2.v191 r2.v193 r2.v199 r4.v826 r4.v827 r4.v842 r4.v843 r5.v1048 r5.v1051 r5.v1077 r5.v1080 r5.v1082 r5.v1085 r5.v1106 r5.v1109 r5.v1111 r5.v1114 r5.v1116 r5.v1172 r5.v1173 r5.v1224 r5.v1225 r5.v1272 r5.v1273 r5.v1316 r5.v1317 r5.v1356 r5.v1357 r5.v1392 r5.v1393 r5.v1424 r5.v1425 r5.v1432 r5.v1433 r5.v1435
  let r7 := hull r0.v99 r0.v101 r0.v103 r0.v105 r0.v107 r0.v109 r0.v111 r0.v113 r2.v185 r2.v187 r2.v189 r2.v191 r2.v193 r2.v195 r2.v197 r2.v199 r6.v1989 r6.v1995
  k0_pay1 r6.v1986 r6.v1992 r6.v2007 r6.v2010 r7.v3208 r7.v3209

end Cert.KernelIdeal.Lanes

end
-- ==== Proof.Lanes.lean ====
/- What each stage of the kernel's body computes at a lane: the functions of `Spec`. The right sides unfold to the
   stages' own operations, read at the lane. -/
module

public import proofs.«01_k».proof.Proof.Stages
public import Idealize.ShloMosaic.Lib.Tactic

@[expose] public section

noncomputable section

namespace Cert.KernelIdeal.Lanes

open Cert.KernelIdeal Cert.KernelIdeal.Gen Cert.Giou Idealize.ShloMosaic Idealize.ShloMosaic.Tactic

/-- Eight slots as a function. -/
def slots (a0 a1 a2 a3 a4 a5 a6 a7 : EReal) : ℕ → EReal
  | 0 => a0 | 1 => a1 | 2 => a2 | 3 => a3 | 4 => a4 | 5 => a5 | 6 => a6 | _ => a7

theorem quadP_eq (v1 v3 v9 v11 v13 : FVec Ideal S32x128 .f32) :
    quadP v1 v3 v9 v11 v13 = ⟨(fun i => (rect (v1 i) (v3 i) (v9 i) (v11 i) (v13 i)).x 0),
      (fun i => (rect (v1 i) (v3 i) (v9 i) (v11 i) (v13 i)).x 1),
      (fun i => (rect (v1 i) (v3 i) (v9 i) (v11 i) (v13 i)).x 2),
      (fun i => (rect (v1 i) (v3 i) (v9 i) (v11 i) (v13 i)).x 3),
      (fun i => (rect (v1 i) (v3 i) (v9 i) (v11 i) (v13 i)).y 0),
      (fun i => (rect (v1 i) (v3 i) (v9 i) (v11 i) (v13 i)).y 1),
      (fun i => (rect (v1 i) (v3 i) (v9 i) (v11 i) (v13 i)).y 2),
      (fun i => (rect (v1 i) (v3 i) (v9 i) (v11 i) (v13 i)).y 3)⟩ := by sl_kernel_rfl

theorem quadT_eq (v15 v17 v23 v25 v27 : FVec Ideal S32x128 .f32) :
    quadT v15 v17 v23 v25 (angT v27).v117 (angT v27).v154 (angT v27).v155 (angT v27).v157 = ⟨(fun i => (rect (v15 i) (v17 i) (v23 i) (v25 i) (v27 i)).x 0),
      (fun i => (rect (v15 i) (v17 i) (v23 i) (v25 i) (v27 i)).x 1),
      (fun i => (rect (v15 i) (v17 i) (v23 i) (v25 i) (v27 i)).x 2),
      (fun i => (rect (v15 i) (v17 i) (v23 i) (v25 i) (v27 i)).x 3),
      (fun i => (rect (v15 i) (v17 i) (v23 i) (v25 i) (v27 i)).y 0),
      (fun i => (rect (v15 i) (v17 i) (v23 i) (v25 i) (v27 i)).y 1),
      (fun i => (rect (v15 i) (v17 i) (v23 i) (v25 i) (v27 i)).y 2),
      (fun i => (rect (v15 i) (v17 i) (v23 i) (v25 i) (v27 i)).y 3)⟩ := by sl_kernel_rfl

theorem clipA_eq (P : S32x128.Idx → Poly) (v15 v17 v23 v25 v27 : FVec Ideal S32x128 .f32) :
    clipA v15 v17 v23 v25 (fun i => (P i).x 0) (fun i => (P i).x 1) (fun i => (P i).x 2) (fun i => (P i).x 3) (fun i => (P i).y 0) (fun i => (P i).y 1) (fun i => (P i).y 2) (fun i => (P i).y 3) (angT v27).v117 (angT v27).v154 (angT v27).v155 (angT v27).v157 (fun i => (rect (v15 i) (v17 i) (v23 i) (v25 i) (v27 i)).x 0) (fun i => (rect (v15 i) (v17 i) (v23 i) (v25 i) (v27 i)).y 0) = ⟨(fun i => count4 (P i) (edge (rect (v15 i) (v17 i) (v23 i) (v25 i) (v27 i)) 0)),
      (fun i => (clip4 (P i) (edge (rect (v15 i) (v17 i) (v23 i) (v25 i) (v27 i)) 0)).x 0),
      (fun i => (clip4 (P i) (edge (rect (v15 i) (v17 i) (v23 i) (v25 i) (v27 i)) 0)).y 0),
      (fun i => (clip4 (P i) (edge (rect (v15 i) (v17 i) (v23 i) (v25 i) (v27 i)) 0)).x 1),
      (fun i => (clip4 (P i) (edge (rect (v15 i) (v17 i) (v23 i) (v25 i) (v27 i)) 0)).y 1),
      (fun i => (clip4 (P i) (edge (rect (v15 i) (v17 i) (v23 i) (v25 i) (v27 i)) 0)).x 2),
      (fun i => (clip4 (P i) (edge (rect (v15 i) (v17 i) (v23 i) (v25 i) (v27 i)) 0)).y 2),
      (fun i => (clip4 (P i) (edge (rect (v15 i) (v17 i) (v23 i) (v25 i) (v27 i)) 0)).x 3),
      (fun i => (clip4 (P i) (edge (rect (v15 i) (v17 i) (v23 i) (v25 i) (v27 i)) 0)).y 3),
      (fun i => (clip4 (P i) (edge (rect (v15 i) (v17 i) (v23 i) (v25 i) (v27 i)) 0)).x 4),
      (fun i => (clip4 (P i) (edge (rect (v15 i) (v17 i) (v23 i) (v25 i) (v27 i)) 0)).y 4)⟩ := by sl_kernel_rfl

theorem clipB_eq (c : IVec S32x128 32) (P Q : S32x128.Idx → Poly) :
    clipB (fun i => (Q i).x 1) (fun i => (Q i).x 2) (fun i => (Q i).y 1) (fun i => (Q i).y 2) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) = ⟨(fun i => countN 5 (c i) (P i) (edge (Q i) 1)),
      (fun i => (clipN 5 7 (c i) (P i) (edge (Q i) 1)).x 0),
      (fun i => (clipN 5 7 (c i) (P i) (edge (Q i) 1)).y 0),
      (fun i => (clipN 5 7 (c i) (P i) (edge (Q i) 1)).x 1),
      (fun i => (clipN 5 7 (c i) (P i) (edge (Q i) 1)).y 1),
      (fun i => (clipN 5 7 (c i) (P i) (edge (Q i) 1)).x 2),
      (fun i => (clipN 5 7 (c i) (P i) (edge (Q i) 1)).y 2),
      (fun i => (clipN 5 7 (c i) (P i) (edge (Q i) 1)).x 3),
      (fun i => (clipN 5 7 (c i) (P i) (edge (Q i) 1)).y 3),
      (fun i => (clipN 5 7 (c i) (P i) (edge (Q i) 1)).x 4),
      (fun i => (clipN 5 7 (c i) (P i) (edge (Q i) 1)).y 4),
      (fun i => (clipN 5 7 (c i) (P i) (edge (Q i) 1)).x 5),
      (fun i => (clipN 5 7 (c i) (P i) (edge (Q i) 1)).y 5),
      (fun i => (clipN 5 7 (c i) (P i) (edge (Q i) 1)).x 6),
      (fun i => (clipN 5 7 (c i) (P i) (edge (Q i) 1)).y 6)⟩ := by sl_kernel_rfl

theorem clipC_v1116 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1116 = (fun i => countN 7 (c i) (P i) (edge (Q i) 2)) := by sl_kernel_rfl

theorem clipC_v1172 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1172 = (fun i => (clipN 7 8 (c i) (P i) (edge (Q i) 2)).x 0) := by sl_kernel_rfl

theorem clipC_v1173 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1173 = (fun i => (clipN 7 8 (c i) (P i) (edge (Q i) 2)).y 0) := by sl_kernel_rfl

theorem clipC_v1224 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1224 = (fun i => (clipN 7 8 (c i) (P i) (edge (Q i) 2)).x 1) := by sl_kernel_rfl

theorem clipC_v1225 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1225 = (fun i => (clipN 7 8 (c i) (P i) (edge (Q i) 2)).y 1) := by sl_kernel_rfl

theorem clipC_v1272 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1272 = (fun i => (clipN 7 8 (c i) (P i) (edge (Q i) 2)).x 2) := by sl_kernel_rfl

theorem clipC_v1273 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1273 = (fun i => (clipN 7 8 (c i) (P i) (edge (Q i) 2)).y 2) := by sl_kernel_rfl

theorem clipC_v1316 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1316 = (fun i => (clipN 7 8 (c i) (P i) (edge (Q i) 2)).x 3) := by sl_kernel_rfl

theorem clipC_v1317 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1317 = (fun i => (clipN 7 8 (c i) (P i) (edge (Q i) 2)).y 3) := by sl_kernel_rfl

theorem clipC_v1356 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1356 = (fun i => (clipN 7 8 (c i) (P i) (edge (Q i) 2)).x 4) := by sl_kernel_rfl

theorem clipC_v1357 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1357 = (fun i => (clipN 7 8 (c i) (P i) (edge (Q i) 2)).y 4) := by sl_kernel_rfl

theorem clipC_v1392 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1392 = (fun i => (clipN 7 8 (c i) (P i) (edge (Q i) 2)).x 5) := by sl_kernel_rfl

theorem clipC_v1393 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1393 = (fun i => (clipN 7 8 (c i) (P i) (edge (Q i) 2)).y 5) := by sl_kernel_rfl

theorem clipC_v1424 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1424 = (fun i => (clipN 7 8 (c i) (P i) (edge (Q i) 2)).x 6) := by sl_kernel_rfl

theorem clipC_v1425 (c : IVec S32x128 32) (P Q : S32x128.Idx → Poly) :
    (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1425 = (fun i => (clipN 7 8 (c i) (P i) (edge (Q i) 2)).y 6) := by sl_kernel_rfl

theorem clipC_x7 (c : IVec S32x128 32) (P Q : S32x128.Idx → Poly) :
    k0_pay530 (fun i => (P i).x 5) (fun i => (P i).x 6) (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1048 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1077 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1082 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1085 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1106 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1111 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1114 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1432 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1435 = (fun i => (clipN 7 8 (c i) (P i) (edge (Q i) 2)).x 7) := by sl_kernel_rfl

theorem clipC_y7 (c : IVec S32x128 32) (P Q : S32x128.Idx → Poly) :
    k0_pay531 (fun i => (P i).y 5) (fun i => (P i).y 6) (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1051 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1080 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1082 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1085 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1109 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1111 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1114 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1433 (clipC (fun i => (Q i).x 2) (fun i => (Q i).x 3) (fun i => (Q i).y 2) (fun i => (Q i).y 3) c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6)).v1435 = (fun i => (clipN 7 8 (c i) (P i) (edge (Q i) 2)).y 7) := by sl_kernel_rfl

theorem heights_eq (v5 v7 v9 v11 v19 v21 v23 v25 v826 v827 v842 v843 v1048 v1051 v1077 v1080 v1106 v1109 v1432 v1433 : FVec Ideal S32x128 .f32) (v1082 : IVec S32x128 32) (v1085 : IVec S32x128 32) (v1111 : IVec S32x128 32) (v1114 : IVec S32x128 32) (v1435 : IVec S32x128 1) (c : IVec S32x128 32) (P Q : S32x128.Idx → Poly) :
    heights v5 v7 v9 v11 v19 v21 v23 v25 (fun i => (Q i).x 0) (fun i => (Q i).x 3) (fun i => (Q i).y 0) (fun i => (Q i).y 3) v826 v827 v842 v843 v1048 v1051 v1077 v1080 v1082 v1085 v1106 v1109 v1111 v1114 c (fun i => (P i).x 0) (fun i => (P i).y 0) (fun i => (P i).x 1) (fun i => (P i).y 1) (fun i => (P i).x 2) (fun i => (P i).y 2) (fun i => (P i).x 3) (fun i => (P i).y 3) (fun i => (P i).x 4) (fun i => (P i).y 4) (fun i => (P i).x 5) (fun i => (P i).y 5) (fun i => (P i).x 6) (fun i => (P i).y 6) v1432 v1433 v1435 = ⟨(fun i => v5 i - v7 i * word 0x3F000000#32),
      (fun i => v5 i + v7 i * word 0x3F000000#32),
      (fun i => v19 i - v21 i * word 0x3F000000#32),
      (fun i => v19 i + v21 i * word 0x3F000000#32),
      (fun i => (v7 i * v9 i * v11 i + v21 i * v23 i * v25 i) - overlap (v5 i) (v7 i) (v19 i) (v21 i) * (areaN (c i) ⟨slots ((P i).x 0) ((P i).x 1) ((P i).x 2) ((P i).x 3) ((P i).x 4) ((P i).x 5) ((P i).x 6) ((k0_pay530 v826 v842 v1048 v1077 v1082 v1085 v1106 v1111 v1114 v1432 v1435) i), slots ((P i).y 0) ((P i).y 1) ((P i).y 2) ((P i).y 3) ((P i).y 4) ((P i).y 5) ((P i).y 6) ((k0_pay531 v827 v843 v1051 v1080 v1082 v1085 v1109 v1111 v1114 v1433 v1435) i)⟩ (edge (Q i) 3))),
      (fun i => Ideal.div (overlap (v5 i) (v7 i) (v19 i) (v21 i) * (areaN (c i) ⟨slots ((P i).x 0) ((P i).x 1) ((P i).x 2) ((P i).x 3) ((P i).x 4) ((P i).x 5) ((P i).x 6) ((k0_pay530 v826 v842 v1048 v1077 v1082 v1085 v1106 v1111 v1114 v1432 v1435) i), slots ((P i).y 0) ((P i).y 1) ((P i).y 2) ((P i).y 3) ((P i).y 4) ((P i).y 5) ((P i).y 6) ((k0_pay531 v827 v843 v1051 v1080 v1082 v1085 v1109 v1111 v1114 v1433 v1435) i)⟩ (edge (Q i) 3))) ((v7 i * v9 i * v11 i + v21 i * v23 i * v25 i) - overlap (v5 i) (v7 i) (v19 i) (v21 i) * (areaN (c i) ⟨slots ((P i).x 0) ((P i).x 1) ((P i).x 2) ((P i).x 3) ((P i).x 4) ((P i).x 5) ((P i).x 6) ((k0_pay530 v826 v842 v1048 v1077 v1082 v1085 v1106 v1111 v1114 v1432 v1435) i), slots ((P i).y 0) ((P i).y 1) ((P i).y 2) ((P i).y 3) ((P i).y 4) ((P i).y 5) ((P i).y 6) ((k0_pay531 v827 v843 v1051 v1080 v1082 v1085 v1109 v1111 v1114 v1433 v1435) i)⟩ (edge (Q i) 3)) + word 0x24E69595#32))⟩ := by sl_kernel_rfl

theorem hull_eq (v1989 v1995 : FVec Ideal S32x128 .f32) (P Q : S32x128.Idx → Poly) :
    hull (fun i => (P i).x 0) (fun i => (P i).x 1) (fun i => (P i).x 2) (fun i => (P i).x 3) (fun i => (P i).y 0) (fun i => (P i).y 1) (fun i => (P i).y 2) (fun i => (P i).y 3) (fun i => (Q i).x 0) (fun i => (Q i).x 1) (fun i => (Q i).x 2) (fun i => (Q i).x 3) (fun i => (Q i).y 0) (fun i => (Q i).y 1) (fun i => (Q i).y 2) (fun i => (Q i).y 3) v1989 v1995 = ⟨(fun i => hullOf (both (P i).x (Q i).x) (both (P i).y (Q i).y)),
      (fun i => max (v1989 i) (v1995 i))⟩ := by sl_kernel_rfl

end Cert.KernelIdeal.Lanes

end
-- ==== Proof.KernelValue.lean ====
/- The value that the kernel's body stores, as the sum over the sublanes of the pairs' losses. -/
module

public import proofs.«01_k».proof.Proof.Lanes
public import proofs.«01_k».proof.Proof.Congr
public import Idealize.ShloMosaic.PureOps.Ideal.Laws
public import Idealize.ShloMosaic.Lib.ValueLayout
public import Mathlib.Tactic.IntervalCases

@[expose] public section

noncomputable section

namespace Cert.KernelIdeal.Lanes

open Cert.KernelIdeal Cert.KernelIdeal.Gen Cert.Giou Idealize.ShloMosaic Idealize.ShloMosaic.Tactic

theorem slots_eq (f : ℕ → EReal) {j : ℕ} (hj : j < 8) :
    slots (f 0) (f 1) (f 2) (f 3) (f 4) (f 5) (f 6) (f 7) j = f j := by
  interval_cases j <;> rfl

/-- A polygon's eight slots are all that the last clip's area looks at. -/
theorem areaN_slots (c : BitVec 32) (P : Poly) (L : Line) :
    areaN c ⟨slots (P.x 0) (P.x 1) (P.x 2) (P.x 3) (P.x 4) (P.x 5) (P.x 6) (P.x 7),
      slots (P.y 0) (P.y 1) (P.y 2) (P.y 3) (P.y 4) (P.y 5) (P.y 6) (P.y 7)⟩ L = areaN c P L :=
  areaN_congr c L (fun _ h => slots_eq P.x h) (fun _ h => slots_eq P.y h)

/-- The box at a lane, from the seven rows. -/
def boxAt (r0 r1 r2 r3 r4 r5 r6 : FVec Ideal S32x128 .f32) (i : S32x128.Idx) : Box :=
  ⟨r0 i, r1 i, r2 i, r3 i, r4 i, r5 i, r6 i⟩

/-- The sum over the sublanes, laid out as the kernel's output block. -/
def summed (f : FVec Ideal S32x128 .f32) : FVec Ideal S1x1x128 .f32 :=
  shapeCast S1x1x128 (shapeCast S1x128 (multiReduction .add [0] S128 f 0x00000000#32 reduces_S32x128_S128 (.inl rfl) rfl)
    shapeCasts_S128_S1x128) shapeCasts_S1x128_S1x1x128

open ValueIdx in
theorem summed_apply (f : FVec Ideal S32x128 .f32) (l : Fin 128) : summed f (ix3 0 0 l) = ∑ r : Fin 32, f (ix2 r l) := by
  unfold summed
  rw [shapeCast_ab_1ab_apply, shapeCast_a_1a_apply]
  exact (Ideal.multiReduction_add_single (s := S32x128) (a := 0) f _ reduces_S32x128_S128 (.inl rfl) rfl (ix1 l)).trans
    (Finset.sum_congr rfl fun r _ => congrArg f (funext fun a => by fin_cases a <;> rfl))

theorem stored_eq (v0 v2 v4 v6 v8 v10 v12 v14 v16 v18 v20 v22 v24 v26 : Vec Ideal S1x32x128 .f32) :
    stored v0 v2 v4 v6 v8 v10 v12 v14 v16 v18 v20 v22 v24 v26 = summed fun i => kernelLoss
      (boxAt (k0_pay2 v0) (k0_pay3 v2) (k0_pay4 v4) (k0_pay5 v6) (k0_pay6 v8) (k0_pay7 v10) (k0_pay8 v12) i)
      (boxAt (k0_pay9 v14) (k0_pay10 v16) (k0_pay11 v18) (k0_pay12 v20) (k0_pay13 v22) (k0_pay14 v24) (k0_pay15 v26) i) := by
  unfold stored
  extract_lets v1 v3 v5 v7 v9 v11 v13 v15 v17 v19 v21 v23 v25 v27 r0 r1 r2 r3 r4 r5 r6 r7
  have e0 := quadP_eq v1 v3 v9 v11 v13
  have e2 := quadT_eq v15 v17 v23 v25 v27
  let P : S32x128.Idx → Poly := fun i => rect (v1 i) (v3 i) (v9 i) (v11 i) (v13 i)
  let Q : S32x128.Idx → Poly := fun i => rect (v15 i) (v17 i) (v23 i) (v25 i) (v27 i)
  let c3 := fun i => count4 (P i) (edge (Q i) 0)
  let P3 := fun i => clip4 (P i) (edge (Q i) 0)
  let c4 := fun i => countN 5 (c3 i) (P3 i) (edge (Q i) 1)
  let P4 := fun i => clipN 5 7 (c3 i) (P3 i) (edge (Q i) 1)
  let c5 := fun i => countN 7 (c4 i) (P4 i) (edge (Q i) 2)
  let P5 := fun i => clipN 7 8 (c4 i) (P4 i) (edge (Q i) 2)
  change r0 = _ at e0
  change r2 = _ at e2
  have e3 : r3 = ⟨c3, fun i => (P3 i).x 0, fun i => (P3 i).y 0, fun i => (P3 i).x 1, fun i => (P3 i).y 1, fun i => (P3 i).x 2,
      fun i => (P3 i).y 2, fun i => (P3 i).x 3, fun i => (P3 i).y 3, fun i => (P3 i).x 4, fun i => (P3 i).y 4⟩ := by
    simp only [r3, e0, e2]
    exact clipA_eq P v15 v17 v23 v25 v27
  have e4 : r4 = ⟨c4, fun i => (P4 i).x 0, fun i => (P4 i).y 0, fun i => (P4 i).x 1, fun i => (P4 i).y 1, fun i => (P4 i).x 2, fun i => (P4 i).y 2, fun i => (P4 i).x 3, fun i => (P4 i).y 3, fun i => (P4 i).x 4, fun i => (P4 i).y 4, fun i => (P4 i).x 5, fun i => (P4 i).y 5, fun i => (P4 i).x 6, fun i => (P4 i).y 6⟩ := by
    simp only [r4, e3, e2]
    exact clipB_eq c3 P3 Q
  have e5x : ∀ v826 v842 v1048 v1077 v1082 v1085 v1106 v1111 v1114 v1432 v1435, v826 = r4.v826 → v842 = r4.v842 → v1048 = r5.v1048 → v1077 = r5.v1077 → v1082 = r5.v1082 → v1085 = r5.v1085 → v1106 = r5.v1106 → v1111 = r5.v1111 → v1114 = r5.v1114 → v1432 = r5.v1432 → v1435 = r5.v1435 →
     k0_pay530 v826 v842 v1048 v1077 v1082 v1085 v1106 v1111 v1114 v1432 v1435 = fun i => (P5 i).x 7 := by
    intro _ _ _ _ _ _ _ _ _ _ _ h1 h2 h3 h4 h5 h6 h7 h8 h9 h10 h11
    subst h1 h2 h3 h4 h5 h6 h7 h8 h9 h10 h11
    simp only [r5, e4, e2]
    exact clipC_x7 c4 P4 Q
  have e5y : ∀ v827 v843 v1051 v1080 v1082 v1085 v1109 v1111 v1114 v1433 v1435, v827 = r4.v827 → v843 = r4.v843 → v1051 = r5.v1051 → v1080 = r5.v1080 → v1082 = r5.v1082 → v1085 = r5.v1085 → v1109 = r5.v1109 → v1111 = r5.v1111 → v1114 = r5.v1114 → v1433 = r5.v1433 → v1435 = r5.v1435 →
     k0_pay531 v827 v843 v1051 v1080 v1082 v1085 v1109 v1111 v1114 v1433 v1435 = fun i => (P5 i).y 7 := by
    intro _ _ _ _ _ _ _ _ _ _ _ h1 h2 h3 h4 h5 h6 h7 h8 h9 h10 h11
    subst h1 h2 h3 h4 h5 h6 h7 h8 h9 h10 h11
    simp only [r5, e4, e2]
    exact clipC_y7 c4 P4 Q
  have e5_0 : r5.v1116 = c5 := by
    simp only [r5, e4, e2]
    exact clipC_v1116 c4 P4 Q
  have e5_1 : r5.v1172 = fun i => (P5 i).x 0 := by
    simp only [r5, e4, e2]
    exact clipC_v1172 c4 P4 Q
  have e5_2 : r5.v1173 = fun i => (P5 i).y 0 := by
    simp only [r5, e4, e2]
    exact clipC_v1173 c4 P4 Q
  have e5_3 : r5.v1224 = fun i => (P5 i).x 1 := by
    simp only [r5, e4, e2]
    exact clipC_v1224 c4 P4 Q
  have e5_4 : r5.v1225 = fun i => (P5 i).y 1 := by
    simp only [r5, e4, e2]
    exact clipC_v1225 c4 P4 Q
  have e5_5 : r5.v1272 = fun i => (P5 i).x 2 := by
    simp only [r5, e4, e2]
    exact clipC_v1272 c4 P4 Q
  have e5_6 : r5.v1273 = fun i => (P5 i).y 2 := by
    simp only [r5, e4, e2]
    exact clipC_v1273 c4 P4 Q
  have e5_7 : r5.v1316 = fun i => (P5 i).x 3 := by
    simp only [r5, e4, e2]
    exact clipC_v1316 c4 P4 Q
  have e5_8 : r5.v1317 = fun i => (P5 i).y 3 := by
    simp only [r5, e4, e2]
    exact clipC_v1317 c4 P4 Q
  have e5_9 : r5.v1356 = fun i => (P5 i).x 4 := by
    simp only [r5, e4, e2]
    exact clipC_v1356 c4 P4 Q
  have e5_10 : r5.v1357 = fun i => (P5 i).y 4 := by
    simp only [r5, e4, e2]
    exact clipC_v1357 c4 P4 Q
  have e5_11 : r5.v1392 = fun i => (P5 i).x 5 := by
    simp only [r5, e4, e2]
    exact clipC_v1392 c4 P4 Q
  have e5_12 : r5.v1393 = fun i => (P5 i).y 5 := by
    simp only [r5, e4, e2]
    exact clipC_v1393 c4 P4 Q
  have e5_13 : r5.v1424 = fun i => (P5 i).x 6 := by
    simp only [r5, e4, e2]
    exact clipC_v1424 c4 P4 Q
  have e5_14 : r5.v1425 = fun i => (P5 i).y 6 := by
    simp only [r5, e4, e2]
    exact clipC_v1425 c4 P4 Q
  have e6 : r6 = ⟨fun i => v5 i - v7 i * word 0x3F000000#32,
      fun i => v5 i + v7 i * word 0x3F000000#32,
      fun i => v19 i - v21 i * word 0x3F000000#32,
      fun i => v19 i + v21 i * word 0x3F000000#32,
      fun i => (v7 i * v9 i * v11 i + v21 i * v23 i * v25 i) - overlap (v5 i) (v7 i) (v19 i) (v21 i) * areaN (c5 i) (P5 i) (edge (Q i) 3),
      fun i => Ideal.div (overlap (v5 i) (v7 i) (v19 i) (v21 i) * areaN (c5 i) (P5 i) (edge (Q i) 3)) ((v7 i * v9 i * v11 i + v21 i * v23 i * v25 i) - overlap (v5 i) (v7 i) (v19 i) (v21 i) * areaN (c5 i) (P5 i) (edge (Q i) 3) + word 0x24E69595#32)⟩ := by
    simp only [r6, e5_0, e5_1, e5_2, e5_3, e5_4, e5_5, e5_6, e5_7, e5_8, e5_9, e5_10, e5_11, e5_12, e5_13, e5_14, e2]
    refine (heights_eq v5 v7 v9 v11 v19 v21 v23 v25 r4.v826 r4.v827 r4.v842 r4.v843 r5.v1048 r5.v1051 r5.v1077 r5.v1080 r5.v1106 r5.v1109 r5.v1432 r5.v1433 r5.v1082 r5.v1085 r5.v1111 r5.v1114 r5.v1435 c5 P5 Q).trans ?_
    rw [e5x _ _ _ _ _ _ _ _ _ _ _ rfl rfl rfl rfl rfl rfl rfl rfl rfl rfl rfl, e5y _ _ _ _ _ _ _ _ _ _ _ rfl rfl rfl rfl rfl rfl rfl rfl rfl rfl rfl]
    simp only [areaN_slots]
  have e7 : r7 = ⟨fun i => hullOf (both (P i).x (Q i).x) (both (P i).y (Q i).y), fun i => max (r6.v1989 i) (r6.v1995 i)⟩ := by
    simp only [r7, e0, e2]
    exact hull_eq r6.v1989 r6.v1995 P Q
  rw [e7, e6]
  rfl

end Cert.KernelIdeal.Lanes

end
-- ==== Proof.KernelBlock.lean ====
/- What the kernel's launch leaves in its array of lane sums: at (g, 0, lane) the sum over the block's 32 sublanes of
   the losses of the pairs in rows (32 g + r) · 128 + lane. -/
module

public import proofs.«01_k».proof.Proof.KernelValue
public import proofs.«01_k».proof.Proof.Gen.KernelIdeal.Run
public import Idealize.ShloMosaic.Lib.VecWindow
public import Idealize.ShloMosaic.Lib.Pipeline.ValueKit

@[expose] public section

noncomputable section

namespace Cert.KernelIdeal.Lanes

open Cert.KernelIdeal Cert.KernelIdeal.Gen Cert.Giou
open Idealize.ShloMosaic hiding ix1 ix2 ix3
open Idealize.ShloMosaic.Tactic Idealize.ShloMosaic.TcCoe Idealize.ShloMosaic.ValueIdx
open Idealize.ShloMosaic.Pipeline (Dat Cfg Window)

/-- Row `n` of an argument as a box. -/
def boxOf (X : S131072x7.Idx → EReal) (n : Fin 131072) : Box :=
  ⟨X (ix2 n 0), X (ix2 n 1), X (ix2 n 2), X (ix2 n 3), X (ix2 n 4), X (ix2 n 5), X (ix2 n 6)⟩

/-- The row of block `g`, sublane `r`, lane `l`. -/
def rowOf (g : Fin 32) (r : Fin 32) (l : Fin 128) : Fin 131072 := ⟨(g.val * 32 + r.val) * 128 + l.val, by omega⟩

/-- The load of plane `k` of an input block. -/
abbrev plane (arg : Memref sig .tc .vmem S7x32x128 .f32) (harg : arg.IsWhole) (x : Vec Ideal S7x32x128 .f32) (k : ℕ)
    (h : ∀ a, (![k, 0, 0] : Fin 3 → ℕ) a + S1x32x128.size a ≤ S7x32x128.size a) : Vec Ideal S1x32x128 .f32 :=
  arg.view.readAt (Elt Ideal) (Rect.unit (s := S7x32x128) ![k, 0, 0] S1x32x128.size h).toLoadRect (harg.unread x)

theorem plane_apply (arg : Memref sig .tc .vmem S7x32x128 .f32) (harg : arg.IsWhole) (x : Vec Ideal S7x32x128 .f32) (k : ℕ)
    (h : ∀ a, (![k, 0, 0] : Fin 3 → ℕ) a + S1x32x128.size a ≤ S7x32x128.size a) (r : Fin 32) (l : Fin 128) :
    plane arg harg x k h (ix3 0 r l) = x (ix3 (⟨k, by have := h 0; change k + 1 ≤ 7 at this; omega⟩ : Fin 7) r l) := by
  unfold plane
  rw [View.readAt_apply, harg.read_unread]
  refine congrArg x (funext fun a => Fin.ext ?_)
  show _ = _
  rw [Rect.idx_unit_val]
  fin_cases a
  · show k + 0 = k; omega
  · show 0 + r.val = r.val; omega
  · show 0 + l.val = l.val; omega

theorem witness_eq (c : Dev nD) (i : grid0.Coords) (arg1 : Memref sig .tc .vmem S7x32x128 .f32) (harg1 : arg1.IsWhole)
    (arg2 : Memref sig .tc .vmem S7x32x128 .f32) (harg2 : arg2.IsWhole) (arg3 : Memref sig .tc .vmem S1x1x128 .f32)
    (harg3 : arg3.IsWhole) (arg4 : Memref sig .tc .smem S1 .i32) (harg4 : arg4.IsWhole) (x0 x1 : Vec Ideal S7x32x128 .f32) :
    (kernelRun0_A (F := Ideal) c i arg1 harg1 arg2 harg2 arg3 harg3 arg4 harg4 x0 x1).1
      = [⟨Rect.unit (s := S1x1x128) ![0, 0, 0] S1x1x128.size inb_S1x1x128_S1x1x128_0_0_0,
          stored (plane arg1 harg1 x0 0 inb_S7x32x128_S1x32x128_0_0_0) (plane arg1 harg1 x0 1 inb_S7x32x128_S1x32x128_1_0_0)
            (plane arg1 harg1 x0 2 inb_S7x32x128_S1x32x128_2_0_0) (plane arg1 harg1 x0 3 inb_S7x32x128_S1x32x128_3_0_0)
            (plane arg1 harg1 x0 4 inb_S7x32x128_S1x32x128_4_0_0) (plane arg1 harg1 x0 5 inb_S7x32x128_S1x32x128_5_0_0)
            (plane arg1 harg1 x0 6 inb_S7x32x128_S1x32x128_6_0_0)
            (plane arg2 harg2 x1 0 inb_S7x32x128_S1x32x128_0_0_0) (plane arg2 harg2 x1 1 inb_S7x32x128_S1x32x128_1_0_0)
            (plane arg2 harg2 x1 2 inb_S7x32x128_S1x32x128_2_0_0) (plane arg2 harg2 x1 3 inb_S7x32x128_S1x32x128_3_0_0)
            (plane arg2 harg2 x1 4 inb_S7x32x128_S1x32x128_4_0_0) (plane arg2 harg2 x1 5 inb_S7x32x128_S1x32x128_5_0_0)
            (plane arg2 harg2 x1 6 inb_S7x32x128_S1x32x128_6_0_0)⟩] := by
  sl_kernel_rfl

/-- Seven planes at a lane as a box. -/
def boxIn (x : Vec Ideal S7x32x128 .f32) (r : Fin 32) (l : Fin 128) : Box :=
  ⟨x (ix3 0 r l), x (ix3 1 r l), x (ix3 2 r l), x (ix3 3 r l), x (ix3 4 r l), x (ix3 5 r l), x (ix3 6 r l)⟩

theorem cast_plane (v : Vec Ideal S1x32x128 .f32) (r : Fin 32) (l : Fin 128) :
    shapeCast S32x128 v shapeCasts_S1x32x128_S32x128 (ix2 r l) = v (ix3 0 r l) := shapeCast_1ab_ab_apply _ _ _ _

theorem plane_in (arg : Memref sig .tc .vmem S7x32x128 .f32) (harg : arg.IsWhole) (x : Vec Ideal S7x32x128 .f32) (k : ℕ)
    (h : ∀ a, (![k, 0, 0] : Fin 3 → ℕ) a + S1x32x128.size a ≤ S7x32x128.size a) (r : Fin 32) (l : Fin 128) :
    shapeCast S32x128 (plane arg harg x k h) shapeCasts_S1x32x128_S32x128 (ix2 r l)
      = x (ix3 (⟨k, by have := h 0; change k + 1 ≤ 7 at this; omega⟩ : Fin 7) r l) :=
  (cast_plane _ r l).trans (plane_apply arg harg x k h r l)

theorem box_ext {a0 a1 a2 a3 a4 a5 a6 b0 b1 b2 b3 b4 b5 b6 : EReal} (h0 : a0 = b0) (h1 : a1 = b1) (h2 : a2 = b2) (h3 : a3 = b3)
    (h4 : a4 = b4) (h5 : a5 = b5) (h6 : a6 = b6) : (⟨a0, a1, a2, a3, a4, a5, a6⟩ : Box) = ⟨b0, b1, b2, b3, b4, b5, b6⟩ := by
  rw [h0, h1, h2, h3, h4, h5, h6]

theorem out_apply (c : Dev nD) (i : grid0.Coords) (arg1 : Memref sig .tc .vmem S7x32x128 .f32) (harg1 : arg1.IsWhole)
    (arg2 : Memref sig .tc .vmem S7x32x128 .f32) (harg2 : arg2.IsWhole) (arg3 : Memref sig .tc .vmem S1x1x128 .f32)
    (harg3 : arg3.IsWhole) (arg4 : Memref sig .tc .smem S1 .i32) (harg4 : arg4.IsWhole) (x0 x1 : Vec Ideal S7x32x128 .f32)
    (l : Fin 128) :
    out0_A_2 (F := Ideal) c i arg1 harg1 arg2 harg2 arg3 harg3 arg4 harg4 x0 x1 (ix3 0 0 l)
      = ∑ r : Fin 32, kernelLoss (boxIn x0 r l) (boxIn x1 r l) := by
  unfold out0_A_2
  rw [witness_eq]
  have h := View.read_writes_cons_emb (v := VO0_2) (f := VO0_2.junk) (Val := Elt Ideal)
    (Rect.unit (s := S1x1x128) ![0, 0, 0] S1x1x128.size inb_S1x1x128_S1x1x128_0_0_0)
    (stored (plane arg1 harg1 x0 0 inb_S7x32x128_S1x32x128_0_0_0) (plane arg1 harg1 x0 1 inb_S7x32x128_S1x32x128_1_0_0)
            (plane arg1 harg1 x0 2 inb_S7x32x128_S1x32x128_2_0_0) (plane arg1 harg1 x0 3 inb_S7x32x128_S1x32x128_3_0_0)
            (plane arg1 harg1 x0 4 inb_S7x32x128_S1x32x128_4_0_0) (plane arg1 harg1 x0 5 inb_S7x32x128_S1x32x128_5_0_0)
            (plane arg1 harg1 x0 6 inb_S7x32x128_S1x32x128_6_0_0)
            (plane arg2 harg2 x1 0 inb_S7x32x128_S1x32x128_0_0_0) (plane arg2 harg2 x1 1 inb_S7x32x128_S1x32x128_1_0_0)
            (plane arg2 harg2 x1 2 inb_S7x32x128_S1x32x128_2_0_0) (plane arg2 harg2 x1 3 inb_S7x32x128_S1x32x128_3_0_0)
            (plane arg2 harg2 x1 4 inb_S7x32x128_S1x32x128_4_0_0) (plane arg2 harg2 x1 5 inb_S7x32x128_S1x32x128_5_0_0)
            (plane arg2 harg2 x1 6 inb_S7x32x128_S1x32x128_6_0_0)) [] (ix3 0 0 l)
  rw [Rect.emb_unit_full] at h
  refine h.trans ?_
  rw [stored_eq, summed_apply]
  refine Finset.sum_congr rfl fun r _ => ?_
  exact congrArg₂ kernelLoss (box_ext
    (plane_in arg1 harg1 x0 0 inb_S7x32x128_S1x32x128_0_0_0 r l)
    (plane_in arg1 harg1 x0 1 inb_S7x32x128_S1x32x128_1_0_0 r l)
    (plane_in arg1 harg1 x0 2 inb_S7x32x128_S1x32x128_2_0_0 r l)
    (plane_in arg1 harg1 x0 3 inb_S7x32x128_S1x32x128_3_0_0 r l)
    (plane_in arg1 harg1 x0 4 inb_S7x32x128_S1x32x128_4_0_0 r l)
    (plane_in arg1 harg1 x0 5 inb_S7x32x128_S1x32x128_5_0_0 r l)
    (plane_in arg1 harg1 x0 6 inb_S7x32x128_S1x32x128_6_0_0 r l))
    (box_ext
    (plane_in arg2 harg2 x1 0 inb_S7x32x128_S1x32x128_0_0_0 r l)
    (plane_in arg2 harg2 x1 1 inb_S7x32x128_S1x32x128_1_0_0 r l)
    (plane_in arg2 harg2 x1 2 inb_S7x32x128_S1x32x128_2_0_0 r l)
    (plane_in arg2 harg2 x1 3 inb_S7x32x128_S1x32x128_3_0_0 r l)
    (plane_in arg2 harg2 x1 4 inb_S7x32x128_S1x32x128_4_0_0 r l)
    (plane_in arg2 harg2 x1 5 inb_S7x32x128_S1x32x128_5_0_0 r l)
    (plane_in arg2 harg2 x1 6 inb_S7x32x128_S1x32x128_6_0_0 r l))

variable (m : (ℓ : Loc nD τ sig) → Buf (Elt Ideal) ℓ)

theorem V_main_v1 (c : Dev nD) : V m c main_v1
    = shapeCast S7x1024x128 (transpose S7x131072 [1, 0] (m ((c : Thread nD τ).loc main_arg0)) transposes_S131072x7_S7x131072_1_0)
      shapeCasts_S7x131072_S7x1024x128 := by
  show StableHlo.after (List.flatten [hostOps0]) (fun b => m (c, b)) (Proc.devRef .tc main_v1) = _
  simp only [hostOps0, List.flatten_cons, List.flatten_nil, List.append_nil, List.cons_append, List.nil_append]
  after_results <;> rfl

theorem V_main_v3 (c : Dev nD) : V m c main_v3
    = shapeCast S7x1024x128 (transpose S7x131072 [1, 0] (m ((c : Thread nD τ).loc main_arg1)) transposes_S131072x7_S7x131072_1_0)
      shapeCasts_S7x131072_S7x1024x128 := by
  show StableHlo.after (List.flatten [hostOps0]) (fun b => m (c, b)) (Proc.devRef .tc main_v3) = _
  simp only [hostOps0, List.flatten_cons, List.flatten_nil, List.append_nil, List.cons_append, List.nil_append]
  after_results <;> rfl

/-- The host's layout of an argument, at an index. -/
theorem laid_apply (X : S131072x7.Idx → EReal) (k : Fin 7) (q : Fin 1024) (l : Fin 128) (n : Fin 131072)
    (hn : n.val = q.val * 128 + l.val) :
    shapeCast S7x1024x128 (transpose S7x131072 [1, 0] X transposes_S131072x7_S7x131072_1_0) shapeCasts_S7x131072_S7x1024x128 (ix3 k q l)
      = X (ix2 n k) := by
  rw [shapeCast_apply (k := ix2 k n)]
  · exact transpose_ix2_apply _ _ _ _
  · rw [Shape.rowMajor_val_two, Shape.rowMajor_val_three]
    show k.val * 131072 + n.val = (k.val * 1024 + q.val) * 128 + l.val
    omega

theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem iblk0_apply (c : Dev nD) (t : Fin cfg0.N) (g : Fin 32) (hg : g.val = t.val) (k : Fin 7) (r : Fin 32) (l : Fin 128) :
    iblk m c 0 t (ix3 k r l) = m ((c : Thread nD τ).loc main_arg0) (ix2 (rowOf g r l) k) := by
  show V m c main_v1 (((cfg0.win 0).blk t).view.emb (ix3 k r l)) = _
  obtain ⟨h0, h1, h2, -⟩ := idx_facts t
  have he : ((cfg0.win 0).blk t).view.emb (ix3 k r l) = ix3 k (⟨g.val * 32 + r.val, by omega⟩ : Fin 1024) l := by
    funext a; apply Fin.ext
    match a with
    | ⟨0, _⟩ => show win0_0.index t (0 : Fin 3) * 7 + 1 * k.val = k.val; omega
    | ⟨1, _⟩ => show win0_0.index t (1 : Fin 3) * 32 + 1 * r.val = g.val * 32 + r.val; omega
    | ⟨2, _⟩ => show win0_0.index t (2 : Fin 3) * 128 + 1 * l.val = l.val; omega
  rw [he, V_main_v1]
  exact laid_apply _ _ _ _ _ rfl

theorem iblk1_apply (c : Dev nD) (t : Fin cfg0.N) (g : Fin 32) (hg : g.val = t.val) (k : Fin 7) (r : Fin 32) (l : Fin 128) :
    iblk m c 1 t (ix3 k r l) = m ((c : Thread nD τ).loc main_arg1) (ix2 (rowOf g r l) k) := by
  show V m c main_v3 (((cfg0.win 1).blk t).view.emb (ix3 k r l)) = _
  obtain ⟨-, -, -, h0, h1, h2, -⟩ := idx_facts t
  have he : ((cfg0.win 1).blk t).view.emb (ix3 k r l) = ix3 k (⟨g.val * 32 + r.val, by omega⟩ : Fin 1024) l := by
    funext a; apply Fin.ext
    match a with
    | ⟨0, _⟩ => show win0_1.index t (0 : Fin 3) * 7 + 1 * k.val = k.val; omega
    | ⟨1, _⟩ => show win0_1.index t (1 : Fin 3) * 32 + 1 * r.val = g.val * 32 + r.val; omega
    | ⟨2, _⟩ => show win0_1.index t (2 : Fin 3) * 128 + 1 * l.val = l.val; omega
  rw [he, V_main_v3]
  exact laid_apply _ _ _ _ _ rfl

/-- The kernel's lane sums. -/
def laneSums (X T : S131072x7.Idx → EReal) : S32x1x128.Idx → EReal := fun i =>
  ∑ r : Fin 32, kernelLoss (boxOf X (rowOf (i 0) r (i 2))) (boxOf T (rowOf (i 0) r (i 2)))

theorem outsAt_apply (c : Dev nD) (t : Fin cfg0.N) (g : Fin 32) (hg : g.val = t.val) (l : Fin 128) :
    outsAt0 m c t (ix3 0 0 l)
      = ∑ r : Fin 32, kernelLoss (boxOf (m ((c : Thread nD τ).loc main_arg0)) (rowOf g r l))
          (boxOf (m ((c : Thread nD τ).loc main_arg1)) (rowOf g r l)) := by
  unfold outsAt0
  rw [out_apply]
  refine Finset.sum_congr rfl fun r _ => ?_
  have e0 := fun k => iblk0_apply m c t g hg k r l
  have e1 := fun k => iblk1_apply m c t g hg k r l
  have b0 : boxIn (iblk m c 0 t) r l = boxOf (m ((c : Thread nD τ).loc main_arg0)) (rowOf g r l) := by
    unfold boxIn boxOf
    rw [e0, e0, e0, e0, e0, e0, e0]
  have b1 : boxIn (iblk m c 1 t) r l = boxOf (m ((c : Thread nD τ).loc main_arg1)) (rowOf g r l) := by
    unfold boxIn boxOf
    rw [e1, e1, e1, e1, e1, e1, e1]
  rw [b0, b1]

theorem emb_apply (t : Fin cfg0.N) (g : Fin 32) (hg : g.val = t.val) (y : S1x1x128.Idx) :
    ((cfg0.win 2).blk t).view.emb y = ix3 g 0 (y 2) := by
  obtain ⟨-, -, -, -, -, -, h0, h1, h2⟩ := idx_facts t
  have y0 : (y (0 : Fin 3)).val < 1 := (y (0 : Fin 3)).isLt
  have y1 : (y (1 : Fin 3)).val < 1 := (y (1 : Fin 3)).isLt
  funext a; apply Fin.ext
  match a with
  | ⟨0, _⟩ => show win0_2.index t (0 : Fin 3) * 1 + 1 * (y 0).val = g.val; omega
  | ⟨1, _⟩ => show win0_2.index t (1 : Fin 3) * 1 + 1 * (y 1).val = 0; omega
  | ⟨2, _⟩ => show win0_2.index t (2 : Fin 3) * 128 + 1 * (y 2).val = (y 2).val; omega

theorem unit_idx (y : S1x1x128.Idx) : y = ix3 0 0 (y 2) := by
  have y0 : (y (0 : Fin 3)).val < 1 := (y (0 : Fin 3)).isLt
  have y1 : (y (1 : Fin 3)).val < 1 := (y (1 : Fin 3)).isLt
  funext a; apply Fin.ext
  match a with
  | ⟨0, _⟩ => show (y 0).val = 0; omega
  | ⟨1, _⟩ => show (y 1).val = 0; omega
  | ⟨2, _⟩ => rfl

theorem point_apply (c : Dev nD) (t : Fin cfg0.N) (y : S1x1x128.Idx) :
    outsAt0 m c t y = laneSums (m ((c : Thread nD τ).loc main_arg0)) (m ((c : Thread nD τ).loc main_arg1))
      (((cfg0.win 2).blk t).view.emb y) := by
  have ht : t.val < 32 := t.isLt
  obtain ⟨l, rfl⟩ : ∃ l : Fin 128, y = ix3 0 0 l := ⟨y 2, unit_idx y⟩
  rw [emb_apply t ⟨t.val, ht⟩ rfl]
  exact outsAt_apply m c t ⟨t.val, ht⟩ rfl l

theorem sums_eq (c : Dev nD) : Value.reg_main_v4 m c
    = laneSums (m ((c : Thread nD τ).loc main_arg0)) (m ((c : Thread nD τ).loc main_arg1)) := by
  unfold Value.reg_main_v4
  refine (dats m 0 c).arrAt_eq_of_covers 2 _ (by decide +kernel) fun t hf y => ?_
  rw [after0_2]
  exact point_apply m c t y

end Cert.KernelIdeal.Lanes

end
-- ==== Proof.Total.lean ====
/- The mean over the rows: the kernel's lane sums add up to the sum over the rows, so the two results agree. -/
module

public import proofs.«01_k».proof.Proof.Precond
public import proofs.«01_k».proof.Proof.KernelBlock

@[expose] public section

noncomputable section

namespace Cert.Total

open Idealize.ShloMosaic hiding ix1 ix2 ix3
open Idealize.ShloMosaic.ValueIdx Cert.Giou Cert.KernelIdeal.Lanes Cert.ReferenceIdeal.Rows

/-- A sum over lanes, blocks and sublanes is the sum over the rows. -/
theorem sum_rows (f : Fin 131072 → EReal) :
    ∑ i : Cert.KernelIdeal.S32x1x128.Idx, ∑ r : Fin 32, f (rowOf (i 0) r (i 2)) = ∑ n : Cert.ReferenceIdeal.S131072.Idx, f (n 0) := by
  rw [← Finset.sum_product']
  refine Finset.sum_nbij' (fun p => ix1 (rowOf (p.1 0) p.2 (p.1 2)))
    (fun n => (ix3 (⟨(n 0).val / 4096, by have := (n 0).isLt; change _ < 131072 at this; omega⟩ : Fin 32) (0 : Fin 1) (⟨(n 0).val % 128, Nat.mod_lt _ (by omega)⟩ : Fin 128),
      (⟨(n 0).val / 128 % 32, Nat.mod_lt _ (by omega)⟩ : Fin 32)))
    (fun _ _ => Finset.mem_univ _) (fun _ _ => by simp) (fun p _ => ?_) (fun n _ => ?_) (fun p _ => rfl)
  · obtain ⟨i, r⟩ := p
    have h0 : (i 0).val < 32 := (i 0).isLt
    have h2 : (i 2).val < 128 := (i 2).isLt
    have hr := r.isLt
    refine Prod.ext (funext fun a => Fin.ext ?_) (Fin.ext ?_)
    · match a with
      | ⟨0, _⟩ => show (((i 0).val * 32 + r.val) * 128 + (i 2).val) / 4096 = (i 0).val; omega
      | ⟨1, _⟩ => show 0 = (i 1).val; have h1 : (i 1).val < 1 := (i 1).isLt; omega
      | ⟨2, _⟩ => show (((i 0).val * 32 + r.val) * 128 + (i 2).val) % 128 = (i 2).val; omega
    · show (((i 0).val * 32 + r.val) * 128 + (i 2).val) / 128 % 32 = r.val; omega
  · refine funext fun a => Fin.ext ?_
    obtain rfl : a = 0 := Subsingleton.elim _ _
    show ((n 0).val / 4096 * 32 + (n 0).val / 128 % 32) * 128 + (n 0).val % 128 = (n 0).val
    omega

theorem total {X T : Cert.ReferenceIdeal.S131072x7.Idx → EReal} (h : Cert.Pre_solid_boxes.fn (F := Ideal) X T = fun _ => 1#1) :
    ∑ i : Cert.KernelIdeal.S32x1x128.Idx, laneSums X T i = ∑ n : Cert.ReferenceIdeal.S131072.Idx, Cert.ReferenceIdeal.Read.val_main_v1040 (F := Ideal) X T n := by
  refine (sum_rows fun n => kernelLoss (boxOf X n) (boxOf T n)).trans (Finset.sum_congr rfl fun n _ => ?_)
  obtain ⟨hp, ht⟩ := Cert.Pre_solid_boxes.Rows.solid_rows h (n 0)
  exact (loss_eq hp ht).trans ((v1040_apply X T (n 0)).symm.trans
    (congrArg (Cert.ReferenceIdeal.Read.val_main_v1040 (F := Ideal) X T) (ValueIdx.eq_ix1 n).symm))

theorem results_eq {X T : Cert.ReferenceIdeal.S131072x7.Idx → EReal} (h : Cert.Pre_solid_boxes.fn (F := Ideal) X T = fun _ => 1#1) :
    shapeCast _ (Host.divf (Host.reduceAdd (F := Ideal) (laneSums X T) (constant Cert.KernelIdeal.S_ .f32 0x00000000#32)
        Cert.KernelIdeal.Gen.reducesTo_S32x1x128_S_d0_1_2 Cert.KernelIdeal.Gen.h_S_) (constant Cert.KernelIdeal.S_ .f32 0x48000000#32)) Cert.KernelIdeal.Gen.shapeCasts_S_S1
      = Cert.ReferenceIdeal.Read.val_main_v1044 (F := Ideal) X T := by
  funext i
  have e : Host.reduceAdd (F := Ideal) (laneSums X T) (constant Cert.KernelIdeal.S_ .f32 0x00000000#32)
        Cert.KernelIdeal.Gen.reducesTo_S32x1x128_S_d0_1_2 Cert.KernelIdeal.Gen.h_S_ = Cert.ReferenceIdeal.Read.val_main_v1041 (F := Ideal) X T := by
    funext j
    rw [Cert.ReferenceIdeal.Read.val_main_v1041_apply, ← total h]
    exact Ideal.hostReduceAdd_total Cert.KernelIdeal.Gen.reducesTo_S32x1x128_S_d0_1_2 (fun b => b.elim0) _ _ j
  rw [e]
  rfl

end Cert.Total

end
-- ==== Proof.lean ====
/- The proof of the claim: the three programs run and leave their arguments and semaphores as they were, the idealized kernel is
   the kernel's own text, and the kernel and the reference give equal means over solid boxes. -/
module

public import proofs.«01_k».proof.Defs
public import proofs.«01_k».proof.Proof.Total
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_solid_boxes
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were, and has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The kernel's result is the reference's. -/
theorem algebraic : Cert.algebraic_KernelIdeal_ReferenceIdeal_pre_solid_boxes := by
  intro m g m' g' hpre hargs
  refine ⟨fun c => Cert.ReferenceIdeal.Read.val_main_v1044 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, (h c).2⟩) (Cert.KernelIdeal.Value.run (F := Ideal) m g)
    rw [(h c).1, Cert.KernelIdeal.Lanes.sums_eq]
    exact Cert.Total.results_eq (hpre c)
  · refine (θ_run Cert.ReferenceIdeal.defs _ _).mono (fun r h c => ⟨?_, (h c).2⟩) (Cert.ReferenceIdeal.Value.run (F := Ideal) m' g')
    refine ((h c).1.trans (Cert.ReferenceIdeal.Read.val_main_v1044_eq (F := Ideal) (StableHlo.launchContents m' c))).trans ?_
    obtain ⟨h0, h1⟩ := hargs c
    show Cert.ReferenceIdeal.Read.val_main_v1044 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
    rw [h0, h1]

theorem claim : Cert.Claim :=
  ⟨Cert.Kernel.Gen.facts, Cert.KernelIdeal.Gen.facts, Cert.ReferenceIdeal.Gen.facts, Cert.Pre_solid_boxes.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
